-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decaying [hPre_decaying : Cert.Pre_decaying.Facts] (m : (ℓ : Loc Cert.KernelIdeal.nD Cert.KernelIdeal.τ Cert.KernelIdeal.sig) → Buf (Elt Ideal) ℓ) : Prop :=
  ∀ c : Dev Cert.KernelIdeal.nD,
    (Cert.Pre_decaying.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decaying [hPre_decaying : Cert.Pre_decaying.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decaying.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def Pre_GlaPrompt (m : (ℓ : Loc Cert.GlaPrompt.nD Cert.GlaPrompt.τ Cert.GlaPrompt.sig) → Buf (Elt Bits) ℓ) : Prop :=
  True

def Pre_GlaPromptIdeal (m : (ℓ : Loc Cert.GlaPromptIdeal.nD Cert.GlaPromptIdeal.τ Cert.GlaPromptIdeal.sig) → Buf (Elt Ideal) ℓ) : Prop :=
  True

def Pre_GlaPromptIdeal_finite_decays [hPre_finite_decays : Cert.Pre_finite_decays.Facts] (m : (ℓ : Loc Cert.GlaPromptIdeal.nD Cert.GlaPromptIdeal.τ Cert.GlaPromptIdeal.sig) → Buf (Elt Ideal) ℓ) : Prop :=
  ∀ c : Dev Cert.GlaPromptIdeal.nD,
    (Cert.Pre_finite_decays.fn (F := Ideal) (m ((c.tc : Thread Cert.GlaPromptIdeal.nD Cert.GlaPromptIdeal.τ).loc Cert.GlaPromptIdeal.main_arg0)) (m ((c.tc : Thread Cert.GlaPromptIdeal.nD Cert.GlaPromptIdeal.τ).loc Cert.GlaPromptIdeal.main_arg1)) (m ((c.tc : Thread Cert.GlaPromptIdeal.nD Cert.GlaPromptIdeal.τ).loc Cert.GlaPromptIdeal.main_arg2)) (m ((c.tc : Thread Cert.GlaPromptIdeal.nD Cert.GlaPromptIdeal.τ).loc Cert.GlaPromptIdeal.main_arg3)) (m ((c.tc : Thread Cert.GlaPromptIdeal.nD Cert.GlaPromptIdeal.τ).loc Cert.GlaPromptIdeal.main_arg4)) (m ((c.tc : Thread Cert.GlaPromptIdeal.nD Cert.GlaPromptIdeal.τ).loc Cert.GlaPromptIdeal.main_arg5)) (m ((c.tc : Thread Cert.GlaPromptIdeal.nD Cert.GlaPromptIdeal.τ).loc Cert.GlaPromptIdeal.main_arg6))) = (fun _ => 1#1)

def Pre_GlaPromptRefIdeal (m : (ℓ : Loc Cert.GlaPromptRefIdeal.nD Cert.GlaPromptRefIdeal.τ Cert.GlaPromptRefIdeal.sig) → Buf (Elt Ideal) ℓ) : Prop :=
  True

def Pre_GlaPromptRefIdeal_finite_decays [hPre_finite_decays : Cert.Pre_finite_decays.Facts] (m : (ℓ : Loc Cert.GlaPromptRefIdeal.nD Cert.GlaPromptRefIdeal.τ Cert.GlaPromptRefIdeal.sig) → Buf (Elt Ideal) ℓ) : Prop :=
  ∀ c : Dev Cert.GlaPromptRefIdeal.nD,
    (Cert.Pre_finite_decays.fn (F := Ideal) (m ((c.tc : Thread Cert.GlaPromptRefIdeal.nD Cert.GlaPromptRefIdeal.τ).loc Cert.GlaPromptRefIdeal.main_arg0)) (m ((c.tc : Thread Cert.GlaPromptRefIdeal.nD Cert.GlaPromptRefIdeal.τ).loc Cert.GlaPromptRefIdeal.main_arg1)) (m ((c.tc : Thread Cert.GlaPromptRefIdeal.nD Cert.GlaPromptRefIdeal.τ).loc Cert.GlaPromptRefIdeal.main_arg2)) (m ((c.tc : Thread Cert.GlaPromptRefIdeal.nD Cert.GlaPromptRefIdeal.τ).loc Cert.GlaPromptRefIdeal.main_arg3)) (m ((c.tc : Thread Cert.GlaPromptRefIdeal.nD Cert.GlaPromptRefIdeal.τ).loc Cert.GlaPromptRefIdeal.main_arg4)) (m ((c.tc : Thread Cert.GlaPromptRefIdeal.nD Cert.GlaPromptRefIdeal.τ).loc Cert.GlaPromptRefIdeal.main_arg5)) (m ((c.tc : Thread Cert.GlaPromptRefIdeal.nD Cert.GlaPromptRefIdeal.τ).loc Cert.GlaPromptRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_decaying [hKernelIdeal : Cert.KernelIdeal.Facts] [hPre_decaying : Cert.Pre_decaying.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decaying m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_decaying [hReferenceIdeal : Cert.ReferenceIdeal.Facts] [hPre_decaying : Cert.Pre_decaying.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decaying m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8)
      ∧ r.2.mem ((c.tc : Thread Cert.MixSample.nD Cert.MixSample.τ).loc Cert.MixSample.main_arg9) = m ((c.tc : Thread Cert.MixSample.nD Cert.MixSample.τ).loc Cert.MixSample.main_arg9)
      ∧ r.2.mem ((c.tc : Thread Cert.MixSample.nD Cert.MixSample.τ).loc Cert.MixSample.main_arg10) = m ((c.tc : Thread Cert.MixSample.nD Cert.MixSample.τ).loc Cert.MixSample.main_arg10)
      ∧ r.2.mem ((c.tc : Thread Cert.MixSample.nD Cert.MixSample.τ).loc Cert.MixSample.main_arg11) = m ((c.tc : Thread Cert.MixSample.nD Cert.MixSample.τ).loc Cert.MixSample.main_arg11)
      ∧ r.2.mem ((c.tc : Thread Cert.MixSample.nD Cert.MixSample.τ).loc Cert.MixSample.main_arg12) = m ((c.tc : Thread Cert.MixSample.nD Cert.MixSample.τ).loc Cert.MixSample.main_arg12))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
      ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
      ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
      ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11)
      ∧ r.2.mem ((c.tc : Thread Cert.MixSampleIdeal.nD Cert.MixSampleIdeal.τ).loc Cert.MixSampleIdeal.main_arg12) = m ((c.tc : Thread Cert.MixSampleIdeal.nD Cert.MixSampleIdeal.τ).loc Cert.MixSampleIdeal.main_arg12))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2)
      ∧ r.2.mem ((c.tc : Thread Cert.MixSampleRefIdeal.nD Cert.MixSampleRefIdeal.τ).loc Cert.MixSampleRefIdeal.main_arg3) = m ((c.tc : Thread Cert.MixSampleRefIdeal.nD Cert.MixSampleRefIdeal.τ).loc Cert.MixSampleRefIdeal.main_arg3)
      ∧ r.2.mem ((c.tc : Thread Cert.MixSampleRefIdeal.nD Cert.MixSampleRefIdeal.τ).loc Cert.MixSampleRefIdeal.main_arg4) = m ((c.tc : Thread Cert.MixSampleRefIdeal.nD Cert.MixSampleRefIdeal.τ).loc Cert.MixSampleRefIdeal.main_arg4)
      ∧ r.2.mem ((c.tc : Thread Cert.MixSampleRefIdeal.nD Cert.MixSampleRefIdeal.τ).loc Cert.MixSampleRefIdeal.main_arg5) = m ((c.tc : Thread Cert.MixSampleRefIdeal.nD Cert.MixSampleRefIdeal.τ).loc Cert.MixSampleRefIdeal.main_arg5)
      ∧ r.2.mem ((c.tc : Thread Cert.MixSampleRefIdeal.nD Cert.MixSampleRefIdeal.τ).loc Cert.MixSampleRefIdeal.main_arg6) = m ((c.tc : Thread Cert.MixSampleRefIdeal.nD Cert.MixSampleRefIdeal.τ).loc Cert.MixSampleRefIdeal.main_arg6)
      ∧ r.2.mem ((c.tc : Thread Cert.MixSampleRefIdeal.nD Cert.MixSampleRefIdeal.τ).loc Cert.MixSampleRefIdeal.main_arg7) = m ((c.tc : Thread Cert.MixSampleRefIdeal.nD Cert.MixSampleRefIdeal.τ).loc Cert.MixSampleRefIdeal.main_arg7)
      ∧ r.2.mem ((c.tc : Thread Cert.MixSampleRefIdeal.nD Cert.MixSampleRefIdeal.τ).loc Cert.MixSampleRefIdeal.main_arg8) = m ((c.tc : Thread Cert.MixSampleRefIdeal.nD Cert.MixSampleRefIdeal.τ).loc Cert.MixSampleRefIdeal.main_arg8)
      ∧ r.2.mem ((c.tc : Thread Cert.MixSampleRefIdeal.nD Cert.MixSampleRefIdeal.τ).loc Cert.MixSampleRefIdeal.main_arg9) = m ((c.tc : Thread Cert.MixSampleRefIdeal.nD Cert.MixSampleRefIdeal.τ).loc Cert.MixSampleRefIdeal.main_arg9)
      ∧ r.2.mem ((c.tc : Thread Cert.MixSampleRefIdeal.nD Cert.MixSampleRefIdeal.τ).loc Cert.MixSampleRefIdeal.main_arg10) = m ((c.tc : Thread Cert.MixSampleRefIdeal.nD Cert.MixSampleRefIdeal.τ).loc Cert.MixSampleRefIdeal.main_arg10)
      ∧ r.2.mem ((c.tc : Thread Cert.MixSampleRefIdeal.nD Cert.MixSampleRefIdeal.τ).loc Cert.MixSampleRefIdeal.main_arg11) = m ((c.tc : Thread Cert.MixSampleRefIdeal.nD Cert.MixSampleRefIdeal.τ).loc Cert.MixSampleRefIdeal.main_arg11)
      ∧ r.2.mem ((c.tc : Thread Cert.MixSampleRefIdeal.nD Cert.MixSampleRefIdeal.τ).loc Cert.MixSampleRefIdeal.main_arg12) = m ((c.tc : Thread Cert.MixSampleRefIdeal.nD Cert.MixSampleRefIdeal.τ).loc Cert.MixSampleRefIdeal.main_arg12))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3)
      ∧ r.2.mem ((c.tc : Thread Cert.ProjSample.nD Cert.ProjSample.τ).loc Cert.ProjSample.main_arg4) = m ((c.tc : Thread Cert.ProjSample.nD Cert.ProjSample.τ).loc Cert.ProjSample.main_arg4))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
      ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3)
      ∧ r.2.mem ((c.tc : Thread Cert.ProjSampleRefIdeal.nD Cert.ProjSampleRefIdeal.τ).loc Cert.ProjSampleRefIdeal.main_arg4) = m ((c.tc : Thread Cert.ProjSampleRefIdeal.nD Cert.ProjSampleRefIdeal.τ).loc Cert.ProjSampleRefIdeal.main_arg4))
      ∧ r.2.sem = fun _ => 0)

def quiescent_GlaPrompt [hGlaPrompt : Cert.GlaPrompt.Facts] : Prop :=
  ∀ (m : (ℓ : Loc Cert.GlaPrompt.nD Cert.GlaPrompt.τ Cert.GlaPrompt.sig) → Buf (Elt Bits) ℓ) (g : Dev Cert.GlaPrompt.nD → PrngReg), Pre_GlaPrompt m →
    θ_run (Cert.GlaPrompt.defs (F := Bits)) (onTc (τ := Cert.GlaPrompt.τ) (Cert.GlaPrompt.main (F := Bits))) ⟨m, fun _ => 0, g⟩ (fun r => (∀ c : Dev Cert.GlaPrompt.nD,
      r.2.mem ((c.tc : Thread Cert.GlaPrompt.nD Cert.GlaPrompt.τ).loc Cert.GlaPrompt.main_arg0) = m ((c.tc : Thread Cert.GlaPrompt.nD Cert.GlaPrompt.τ).loc Cert.GlaPrompt.main_arg0)
      ∧ r.2.mem ((c.tc : Thread Cert.GlaPrompt.nD Cert.GlaPrompt.τ).loc Cert.GlaPrompt.main_arg1) = m ((c.tc : Thread Cert.GlaPrompt.nD Cert.GlaPrompt.τ).loc Cert.GlaPrompt.main_arg1)
      ∧ r.2.mem ((c.tc : Thread Cert.GlaPrompt.nD Cert.GlaPrompt.τ).loc Cert.GlaPrompt.main_arg2) = m ((c.tc : Thread Cert.GlaPrompt.nD Cert.GlaPrompt.τ).loc Cert.GlaPrompt.main_arg2)
      ∧ r.2.mem ((c.tc : Thread Cert.GlaPrompt.nD Cert.GlaPrompt.τ).loc Cert.GlaPrompt.main_arg3) = m ((c.tc : Thread Cert.GlaPrompt.nD Cert.GlaPrompt.τ).loc Cert.GlaPrompt.main_arg3)
      ∧ r.2.mem ((c.tc : Thread Cert.GlaPrompt.nD Cert.GlaPrompt.τ).loc Cert.GlaPrompt.main_arg4) = m ((c.tc : Thread Cert.GlaPrompt.nD Cert.GlaPrompt.τ).loc Cert.GlaPrompt.main_arg4)
      ∧ r.2.mem ((c.tc : Thread Cert.GlaPrompt.nD Cert.GlaPrompt.τ).loc Cert.GlaPrompt.main_arg5) = m ((c.tc : Thread Cert.GlaPrompt.nD Cert.GlaPrompt.τ).loc Cert.GlaPrompt.main_arg5)
      ∧ r.2.mem ((c.tc : Thread Cert.GlaPrompt.nD Cert.GlaPrompt.τ).loc Cert.GlaPrompt.main_arg6) = m ((c.tc : Thread Cert.GlaPrompt.nD Cert.GlaPrompt.τ).loc Cert.GlaPrompt.main_arg6))
      ∧ r.2.sem = fun _ => 0)

def quiescent_GlaPromptIdeal [hGlaPromptIdeal : Cert.GlaPromptIdeal.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4)
      ∧ r.2.mem ((c.tc : Thread Cert.GlaPromptIdeal.nD Cert.GlaPromptIdeal.τ).loc Cert.GlaPromptIdeal.main_arg5) = m ((c.tc : Thread Cert.GlaPromptIdeal.nD Cert.GlaPromptIdeal.τ).loc Cert.GlaPromptIdeal.main_arg5)
      ∧ r.2.mem ((c.tc : Thread Cert.GlaPromptIdeal.nD Cert.GlaPromptIdeal.τ).loc Cert.GlaPromptIdeal.main_arg6) = m ((c.tc : Thread Cert.GlaPromptIdeal.nD Cert.GlaPromptIdeal.τ).loc Cert.GlaPromptIdeal.main_arg6))
      ∧ r.2.sem = fun _ => 0)

def quiescent_GlaPromptIdeal_pre_finite_decays [hGlaPromptIdeal : Cert.GlaPromptIdeal.Facts] [hPre_finite_decays : Cert.Pre_finite_decays.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg), Pre_GlaPromptIdeal_finite_decays m →
    θ_run (Cert.GlaPromptIdeal.defs (F := Ideal)) (onTc (τ := Cert.GlaPromptIdeal.τ) (Cert.GlaPromptIdeal.main (F := Ideal))) ⟨m, fun _ => 0, g⟩ (fun r => (∀ c : Dev Cert.GlaPromptIdeal.nD,
      r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
      ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
      ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
      ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
      ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4)
      ∧ r.2.mem ((c.tc : Thread Cert.GlaPromptIdeal.nD Cert.GlaPromptIdeal.τ).loc Cert.GlaPromptIdeal.main_arg5) = m ((c.tc : Thread Cert.GlaPromptIdeal.nD Cert.GlaPromptIdeal.τ).loc Cert.GlaPromptIdeal.main_arg5)
      ∧ r.2.mem ((c.tc : Thread Cert.GlaPromptIdeal.nD Cert.GlaPromptIdeal.τ).loc Cert.GlaPromptIdeal.main_arg6) = m ((c.tc : Thread Cert.GlaPromptIdeal.nD Cert.GlaPromptIdeal.τ).loc Cert.GlaPromptIdeal.main_arg6))
      ∧ r.2.sem = fun _ => 0)

def quiescent_GlaPromptRefIdeal [hGlaPromptRefIdeal : Cert.GlaPromptRefIdeal.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4)
      ∧ r.2.mem ((c.tc : Thread Cert.GlaPromptRefIdeal.nD Cert.GlaPromptRefIdeal.τ).loc Cert.GlaPromptRefIdeal.main_arg5) = m ((c.tc : Thread Cert.GlaPromptRefIdeal.nD Cert.GlaPromptRefIdeal.τ).loc Cert.GlaPromptRefIdeal.main_arg5)
      ∧ r.2.mem ((c.tc : Thread Cert.GlaPromptRefIdeal.nD Cert.GlaPromptRefIdeal.τ).loc Cert.GlaPromptRefIdeal.main_arg6) = m ((c.tc : Thread Cert.GlaPromptRefIdeal.nD Cert.GlaPromptRefIdeal.τ).loc Cert.GlaPromptRefIdeal.main_arg6))
      ∧ r.2.sem = fun _ => 0)

def quiescent_GlaPromptRefIdeal_pre_finite_decays [hGlaPromptRefIdeal : Cert.GlaPromptRefIdeal.Facts] [hPre_finite_decays : Cert.Pre_finite_decays.Facts] : Prop :=
  ∀ (m : (ℓ : Loc Cert.GlaPromptRefIdeal.nD Cert.GlaPromptRefIdeal.τ Cert.GlaPromptRefIdeal.sig) → Buf (Elt Ideal) ℓ) (g : Dev Cert.GlaPromptRefIdeal.nD → PrngReg), Pre_GlaPromptRefIdeal_finite_decays m →
    θ_run (Cert.GlaPromptRefIdeal.defs (F := Ideal)) (onTc (τ := Cert.GlaPromptRefIdeal.τ) (Cert.GlaPromptRefIdeal.main (F := Ideal))) ⟨m, fun _ => 0, g⟩ (fun r => (∀ c : Dev Cert.GlaPromptRefIdeal.nD,
      r.2.mem ((c.tc : Thread Cert.GlaPromptRefIdeal.nD Cert.GlaPromptRefIdeal.τ).loc Cert.GlaPromptRefIdeal.main_arg0) = m ((c.tc : Thread Cert.GlaPromptRefIdeal.nD Cert.GlaPromptRefIdeal.τ).loc Cert.GlaPromptRefIdeal.main_arg0)
      ∧ r.2.mem ((c.tc : Thread Cert.GlaPromptRefIdeal.nD Cert.GlaPromptRefIdeal.τ).loc Cert.GlaPromptRefIdeal.main_arg1) = m ((c.tc : Thread Cert.GlaPromptRefIdeal.nD Cert.GlaPromptRefIdeal.τ).loc Cert.GlaPromptRefIdeal.main_arg1)
      ∧ r.2.mem ((c.tc : Thread Cert.GlaPromptRefIdeal.nD Cert.GlaPromptRefIdeal.τ).loc Cert.GlaPromptRefIdeal.main_arg2) = m ((c.tc : Thread Cert.GlaPromptRefIdeal.nD Cert.GlaPromptRefIdeal.τ).loc Cert.GlaPromptRefIdeal.main_arg2)
      ∧ r.2.mem ((c.tc : Thread Cert.GlaPromptRefIdeal.nD Cert.GlaPromptRefIdeal.τ).loc Cert.GlaPromptRefIdeal.main_arg3) = m ((c.tc : Thread Cert.GlaPromptRefIdeal.nD Cert.GlaPromptRefIdeal.τ).loc Cert.GlaPromptRefIdeal.main_arg3)
      ∧ r.2.mem ((c.tc : Thread Cert.GlaPromptRefIdeal.nD Cert.GlaPromptRefIdeal.τ).loc Cert.GlaPromptRefIdeal.main_arg4) = m ((c.tc : Thread Cert.GlaPromptRefIdeal.nD Cert.GlaPromptRefIdeal.τ).loc Cert.GlaPromptRefIdeal.main_arg4)
      ∧ r.2.mem ((c.tc : Thread Cert.GlaPromptRefIdeal.nD Cert.GlaPromptRefIdeal.τ).loc Cert.GlaPromptRefIdeal.main_arg5) = m ((c.tc : Thread Cert.GlaPromptRefIdeal.nD Cert.GlaPromptRefIdeal.τ).loc Cert.GlaPromptRefIdeal.main_arg5)
      ∧ r.2.mem ((c.tc : Thread Cert.GlaPromptRefIdeal.nD Cert.GlaPromptRefIdeal.τ).loc Cert.GlaPromptRefIdeal.main_arg6) = m ((c.tc : Thread Cert.GlaPromptRefIdeal.nD Cert.GlaPromptRefIdeal.τ).loc Cert.GlaPromptRefIdeal.main_arg6))
      ∧ r.2.sem = fun _ => 0)

def preserves_Kernel_KernelIdeal : Prop :=
  True

def algebraic_KernelIdeal_ReferenceIdeal_pre_decaying [hKernelIdeal : Cert.KernelIdeal.Facts] [hReferenceIdeal : Cert.ReferenceIdeal.Facts] [hPre_decaying : Cert.Pre_decaying.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decaying m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v16)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v16) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v60) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v18_0)) (v1 : (c : Dev Cert.ProjIdeal.nD) → Buf (Elt Ideal) ((c.tc : Thread Cert.ProjIdeal.nD Cert.ProjIdeal.τ).loc Cert.ProjIdeal.main_v18_1)) (v2 : (c : Dev Cert.ProjIdeal.nD) → Buf (Elt Ideal) ((c.tc : Thread Cert.ProjIdeal.nD Cert.ProjIdeal.τ).loc Cert.ProjIdeal.main_v18_2)) (v3 : (c : Dev Cert.ProjIdeal.nD) → Buf (Elt Ideal) ((c.tc : Thread Cert.ProjIdeal.nD Cert.ProjIdeal.τ).loc Cert.ProjIdeal.main_v18_3)) (v4 : (c : Dev Cert.ProjIdeal.nD) → Buf (Elt Ideal) ((c.tc : Thread Cert.ProjIdeal.nD Cert.ProjIdeal.τ).loc Cert.ProjIdeal.main_v18_4)) (v5 : (c : Dev Cert.ProjIdeal.nD) → Buf (Elt Ideal) ((c.tc : Thread Cert.ProjIdeal.nD Cert.ProjIdeal.τ).loc Cert.ProjIdeal.main_v18_5)) (v6 : (c : Dev Cert.ProjIdeal.nD) → Buf (Elt Ideal) ((c.tc : Thread Cert.ProjIdeal.nD Cert.ProjIdeal.τ).loc Cert.ProjIdeal.main_v18_6)) (v7 : (c : Dev Cert.ProjIdeal.nD) → Buf (Elt Ideal) ((c.tc : Thread Cert.ProjIdeal.nD Cert.ProjIdeal.τ).loc Cert.ProjIdeal.main_v18_7)) (v8 : (c : Dev Cert.ProjIdeal.nD) → Buf (Elt Ideal) ((c.tc : Thread Cert.ProjIdeal.nD Cert.ProjIdeal.τ).loc Cert.ProjIdeal.main_v18_8)) (v9 : (c : Dev Cert.ProjIdeal.nD) → Buf (Elt Ideal) ((c.tc : Thread Cert.ProjIdeal.nD Cert.ProjIdeal.τ).loc Cert.ProjIdeal.main_v18_9)) (v10 : (c : Dev Cert.ProjIdeal.nD) → Buf (Elt Ideal) ((c.tc : Thread Cert.ProjIdeal.nD Cert.ProjIdeal.τ).loc Cert.ProjIdeal.main_v18_10)) (v11 : (c : Dev Cert.ProjIdeal.nD) → Buf (Elt Ideal) ((c.tc : Thread Cert.ProjIdeal.nD Cert.ProjIdeal.τ).loc Cert.ProjIdeal.main_v18_11)) (v12 : (c : Dev Cert.ProjIdeal.nD) → Buf (Elt Ideal) ((c.tc : Thread Cert.ProjIdeal.nD Cert.ProjIdeal.τ).loc Cert.ProjIdeal.main_v18_12)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v18_0) = v0 c
          ∧ r.2.mem ((c.tc : Thread Cert.ProjIdeal.nD Cert.ProjIdeal.τ).loc Cert.ProjIdeal.main_v18_1) = v1 c
          ∧ r.2.mem ((c.tc : Thread Cert.ProjIdeal.nD Cert.ProjIdeal.τ).loc Cert.ProjIdeal.main_v18_2) = v2 c
          ∧ r.2.mem ((c.tc : Thread Cert.ProjIdeal.nD Cert.ProjIdeal.τ).loc Cert.ProjIdeal.main_v18_3) = v3 c
          ∧ r.2.mem ((c.tc : Thread Cert.ProjIdeal.nD Cert.ProjIdeal.τ).loc Cert.ProjIdeal.main_v18_4) = v4 c
          ∧ r.2.mem ((c.tc : Thread Cert.ProjIdeal.nD Cert.ProjIdeal.τ).loc Cert.ProjIdeal.main_v18_5) = v5 c
          ∧ r.2.mem ((c.tc : Thread Cert.ProjIdeal.nD Cert.ProjIdeal.τ).loc Cert.ProjIdeal.main_v18_6) = v6 c
          ∧ r.2.mem ((c.tc : Thread Cert.ProjIdeal.nD Cert.ProjIdeal.τ).loc Cert.ProjIdeal.main_v18_7) = v7 c
          ∧ r.2.mem ((c.tc : Thread Cert.ProjIdeal.nD Cert.ProjIdeal.τ).loc Cert.ProjIdeal.main_v18_8) = v8 c
          ∧ r.2.mem ((c.tc : Thread Cert.ProjIdeal.nD Cert.ProjIdeal.τ).loc Cert.ProjIdeal.main_v18_9) = v9 c
          ∧ r.2.mem ((c.tc : Thread Cert.ProjIdeal.nD Cert.ProjIdeal.τ).loc Cert.ProjIdeal.main_v18_10) = v10 c
          ∧ r.2.mem ((c.tc : Thread Cert.ProjIdeal.nD Cert.ProjIdeal.τ).loc Cert.ProjIdeal.main_v18_11) = v11 c
          ∧ r.2.mem ((c.tc : Thread Cert.ProjIdeal.nD Cert.ProjIdeal.τ).loc Cert.ProjIdeal.main_v18_12) = v12 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v42) = v0 c
          ∧ r.2.mem ((c.tc : Thread Cert.ProjRefIdeal.nD Cert.ProjRefIdeal.τ).loc Cert.ProjRefIdeal.main_v40) = v1 c
          ∧ r.2.mem ((c.tc : Thread Cert.ProjRefIdeal.nD Cert.ProjRefIdeal.τ).loc Cert.ProjRefIdeal.main_v41) = v2 c
          ∧ r.2.mem ((c.tc : Thread Cert.ProjRefIdeal.nD Cert.ProjRefIdeal.τ).loc Cert.ProjRefIdeal.main_v43) = v3 c
          ∧ r.2.mem ((c.tc : Thread Cert.ProjRefIdeal.nD Cert.ProjRefIdeal.τ).loc Cert.ProjRefIdeal.main_v44) = v4 c
          ∧ r.2.mem ((c.tc : Thread Cert.ProjRefIdeal.nD Cert.ProjRefIdeal.τ).loc Cert.ProjRefIdeal.main_v45) = v5 c
          ∧ r.2.mem ((c.tc : Thread Cert.ProjRefIdeal.nD Cert.ProjRefIdeal.τ).loc Cert.ProjRefIdeal.main_v46) = v6 c
          ∧ r.2.mem ((c.tc : Thread Cert.ProjRefIdeal.nD Cert.ProjRefIdeal.τ).loc Cert.ProjRefIdeal.main_v47) = v7 c
          ∧ r.2.mem ((c.tc : Thread Cert.ProjRefIdeal.nD Cert.ProjRefIdeal.τ).loc Cert.ProjRefIdeal.main_v55) = v8 c
          ∧ r.2.mem ((c.tc : Thread Cert.ProjRefIdeal.nD Cert.ProjRefIdeal.τ).loc Cert.ProjRefIdeal.main_v63) = v9 c
          ∧ r.2.mem ((c.tc : Thread Cert.ProjRefIdeal.nD Cert.ProjRefIdeal.τ).loc Cert.ProjRefIdeal.main_v39) = v10 c
          ∧ r.2.mem ((c.tc : Thread Cert.ProjRefIdeal.nD Cert.ProjRefIdeal.τ).loc Cert.ProjRefIdeal.main_v65) = v11 c
          ∧ r.2.mem ((c.tc : Thread Cert.ProjRefIdeal.nD Cert.ProjRefIdeal.τ).loc Cert.ProjRefIdeal.main_v66) = v12 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)
      ∧ m' ((c.tc : Thread Cert.MixSampleRefIdeal.nD Cert.MixSampleRefIdeal.τ).loc Cert.MixSampleRefIdeal.main_arg3) = m ((c.tc : Thread Cert.MixSampleIdeal.nD Cert.MixSampleIdeal.τ).loc Cert.MixSampleIdeal.main_arg3)
      ∧ m' ((c.tc : Thread Cert.MixSampleRefIdeal.nD Cert.MixSampleRefIdeal.τ).loc Cert.MixSampleRefIdeal.main_arg4) = m ((c.tc : Thread Cert.MixSampleIdeal.nD Cert.MixSampleIdeal.τ).loc Cert.MixSampleIdeal.main_arg4)
      ∧ m' ((c.tc : Thread Cert.MixSampleRefIdeal.nD Cert.MixSampleRefIdeal.τ).loc Cert.MixSampleRefIdeal.main_arg5) = m ((c.tc : Thread Cert.MixSampleIdeal.nD Cert.MixSampleIdeal.τ).loc Cert.MixSampleIdeal.main_arg5)
      ∧ m' ((c.tc : Thread Cert.MixSampleRefIdeal.nD Cert.MixSampleRefIdeal.τ).loc Cert.MixSampleRefIdeal.main_arg6) = m ((c.tc : Thread Cert.MixSampleIdeal.nD Cert.MixSampleIdeal.τ).loc Cert.MixSampleIdeal.main_arg6)
      ∧ m' ((c.tc : Thread Cert.MixSampleRefIdeal.nD Cert.MixSampleRefIdeal.τ).loc Cert.MixSampleRefIdeal.main_arg7) = m ((c.tc : Thread Cert.MixSampleIdeal.nD Cert.MixSampleIdeal.τ).loc Cert.MixSampleIdeal.main_arg7)
      ∧ m' ((c.tc : Thread Cert.MixSampleRefIdeal.nD Cert.MixSampleRefIdeal.τ).loc Cert.MixSampleRefIdeal.main_arg8) = m ((c.tc : Thread Cert.MixSampleIdeal.nD Cert.MixSampleIdeal.τ).loc Cert.MixSampleIdeal.main_arg8)
      ∧ m' ((c.tc : Thread Cert.MixSampleRefIdeal.nD Cert.MixSampleRefIdeal.τ).loc Cert.MixSampleRefIdeal.main_arg9) = m ((c.tc : Thread Cert.MixSampleIdeal.nD Cert.MixSampleIdeal.τ).loc Cert.MixSampleIdeal.main_arg9)
      ∧ m' ((c.tc : Thread Cert.MixSampleRefIdeal.nD Cert.MixSampleRefIdeal.τ).loc Cert.MixSampleRefIdeal.main_arg10) = m ((c.tc : Thread Cert.MixSampleIdeal.nD Cert.MixSampleIdeal.τ).loc Cert.MixSampleIdeal.main_arg10)
      ∧ m' ((c.tc : Thread Cert.MixSampleRefIdeal.nD Cert.MixSampleRefIdeal.τ).loc Cert.MixSampleRefIdeal.main_arg11) = m ((c.tc : Thread Cert.MixSampleIdeal.nD Cert.MixSampleIdeal.τ).loc Cert.MixSampleIdeal.main_arg11)
      ∧ m' ((c.tc : Thread Cert.MixSampleRefIdeal.nD Cert.MixSampleRefIdeal.τ).loc Cert.MixSampleRefIdeal.main_arg12) = m ((c.tc : Thread Cert.MixSampleIdeal.nD Cert.MixSampleIdeal.τ).loc Cert.MixSampleIdeal.main_arg12)) →
    ∃ (v0 : (c : Dev Cert.MixSampleIdeal.nD) → Buf (Elt Ideal) ((c.tc : Thread Cert.MixSampleIdeal.nD Cert.MixSampleIdeal.τ).loc Cert.MixSampleIdeal.main_v17)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v17) = v0 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
          ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
          ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
          ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11)
          ∧ r.2.mem ((c.tc : Thread Cert.MixSampleIdeal.nD Cert.MixSampleIdeal.τ).loc Cert.MixSampleIdeal.main_arg12) = m ((c.tc : Thread Cert.MixSampleIdeal.nD Cert.MixSampleIdeal.τ).loc Cert.MixSampleIdeal.main_arg12))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v61) = v0 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2)
          ∧ r.2.mem ((c.tc : Thread Cert.MixSampleRefIdeal.nD Cert.MixSampleRefIdeal.τ).loc Cert.MixSampleRefIdeal.main_arg3) = m' ((c.tc : Thread Cert.MixSampleRefIdeal.nD Cert.MixSampleRefIdeal.τ).loc Cert.MixSampleRefIdeal.main_arg3)
          ∧ r.2.mem ((c.tc : Thread Cert.MixSampleRefIdeal.nD Cert.MixSampleRefIdeal.τ).loc Cert.MixSampleRefIdeal.main_arg4) = m' ((c.tc : Thread Cert.MixSampleRefIdeal.nD Cert.MixSampleRefIdeal.τ).loc Cert.MixSampleRefIdeal.main_arg4)
          ∧ r.2.mem ((c.tc : Thread Cert.MixSampleRefIdeal.nD Cert.MixSampleRefIdeal.τ).loc Cert.MixSampleRefIdeal.main_arg5) = m' ((c.tc : Thread Cert.MixSampleRefIdeal.nD Cert.MixSampleRefIdeal.τ).loc Cert.MixSampleRefIdeal.main_arg5)
          ∧ r.2.mem ((c.tc : Thread Cert.MixSampleRefIdeal.nD Cert.MixSampleRefIdeal.τ).loc Cert.MixSampleRefIdeal.main_arg6) = m' ((c.tc : Thread Cert.MixSampleRefIdeal.nD Cert.MixSampleRefIdeal.τ).loc Cert.MixSampleRefIdeal.main_arg6)
          ∧ r.2.mem ((c.tc : Thread Cert.MixSampleRefIdeal.nD Cert.MixSampleRefIdeal.τ).loc Cert.MixSampleRefIdeal.main_arg7) = m' ((c.tc : Thread Cert.MixSampleRefIdeal.nD Cert.MixSampleRefIdeal.τ).loc Cert.MixSampleRefIdeal.main_arg7)
          ∧ r.2.mem ((c.tc : Thread Cert.MixSampleRefIdeal.nD Cert.MixSampleRefIdeal.τ).loc Cert.MixSampleRefIdeal.main_arg8) = m' ((c.tc : Thread Cert.MixSampleRefIdeal.nD Cert.MixSampleRefIdeal.τ).loc Cert.MixSampleRefIdeal.main_arg8)
          ∧ r.2.mem ((c.tc : Thread Cert.MixSampleRefIdeal.nD Cert.MixSampleRefIdeal.τ).loc Cert.MixSampleRefIdeal.main_arg9) = m' ((c.tc : Thread Cert.MixSampleRefIdeal.nD Cert.MixSampleRefIdeal.τ).loc Cert.MixSampleRefIdeal.main_arg9)
          ∧ r.2.mem ((c.tc : Thread Cert.MixSampleRefIdeal.nD Cert.MixSampleRefIdeal.τ).loc Cert.MixSampleRefIdeal.main_arg10) = m' ((c.tc : Thread Cert.MixSampleRefIdeal.nD Cert.MixSampleRefIdeal.τ).loc Cert.MixSampleRefIdeal.main_arg10)
          ∧ r.2.mem ((c.tc : Thread Cert.MixSampleRefIdeal.nD Cert.MixSampleRefIdeal.τ).loc Cert.MixSampleRefIdeal.main_arg11) = m' ((c.tc : Thread Cert.MixSampleRefIdeal.nD Cert.MixSampleRefIdeal.τ).loc Cert.MixSampleRefIdeal.main_arg11)
          ∧ r.2.mem ((c.tc : Thread Cert.MixSampleRefIdeal.nD Cert.MixSampleRefIdeal.τ).loc Cert.MixSampleRefIdeal.main_arg12) = m' ((c.tc : Thread Cert.MixSampleRefIdeal.nD Cert.MixSampleRefIdeal.τ).loc Cert.MixSampleRefIdeal.main_arg12))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) →
    ∃ (v0 : (c : Dev Cert.ProjSampleIdeal.nD) → Buf (Elt Ideal) ((c.tc : Thread Cert.ProjSampleIdeal.nD Cert.ProjSampleIdeal.τ).loc Cert.ProjSampleIdeal.main_v18_0)) (v1 : (c : Dev Cert.ProjSampleIdeal.nD) → Buf (Elt Ideal) ((c.tc : Thread Cert.ProjSampleIdeal.nD Cert.ProjSampleIdeal.τ).loc Cert.ProjSampleIdeal.main_v18_1)) (v2 : (c : Dev Cert.ProjSampleIdeal.nD) → Buf (Elt Ideal) ((c.tc : Thread Cert.ProjSampleIdeal.nD Cert.ProjSampleIdeal.τ).loc Cert.ProjSampleIdeal.main_v18_2)) (v3 : (c : Dev Cert.ProjSampleIdeal.nD) → Buf (Elt Ideal) ((c.tc : Thread Cert.ProjSampleIdeal.nD Cert.ProjSampleIdeal.τ).loc Cert.ProjSampleIdeal.main_v18_3)) (v4 : (c : Dev Cert.ProjSampleIdeal.nD) → Buf (Elt Ideal) ((c.tc : Thread Cert.ProjSampleIdeal.nD Cert.ProjSampleIdeal.τ).loc Cert.ProjSampleIdeal.main_v18_4)) (v5 : (c : Dev Cert.ProjSampleIdeal.nD) → Buf (Elt Ideal) ((c.tc : Thread Cert.ProjSampleIdeal.nD Cert.ProjSampleIdeal.τ).loc Cert.ProjSampleIdeal.main_v18_5)) (v6 : (c : Dev Cert.ProjSampleIdeal.nD) → Buf (Elt Ideal) ((c.tc : Thread Cert.ProjSampleIdeal.nD Cert.ProjSampleIdeal.τ).loc Cert.ProjSampleIdeal.main_v18_6)) (v7 : (c : Dev Cert.ProjSampleIdeal.nD) → Buf (Elt Ideal) ((c.tc : Thread Cert.ProjSampleIdeal.nD Cert.ProjSampleIdeal.τ).loc Cert.ProjSampleIdeal.main_v18_7)) (v8 : (c : Dev Cert.ProjSampleIdeal.nD) → Buf (Elt Ideal) ((c.tc : Thread Cert.ProjSampleIdeal.nD Cert.ProjSampleIdeal.τ).loc Cert.ProjSampleIdeal.main_v18_8)) (v9 : (c : Dev Cert.ProjSampleIdeal.nD) → Buf (Elt Ideal) ((c.tc : Thread Cert.ProjSampleIdeal.nD Cert.ProjSampleIdeal.τ).loc Cert.ProjSampleIdeal.main_v18_9)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v18_0) = v0 c
          ∧ r.2.mem ((c.tc : Thread Cert.ProjSampleIdeal.nD Cert.ProjSampleIdeal.τ).loc Cert.ProjSampleIdeal.main_v18_1) = v1 c
          ∧ r.2.mem ((c.tc : Thread Cert.ProjSampleIdeal.nD Cert.ProjSampleIdeal.τ).loc Cert.ProjSampleIdeal.main_v18_2) = v2 c
          ∧ r.2.mem ((c.tc : Thread Cert.ProjSampleIdeal.nD Cert.ProjSampleIdeal.τ).loc Cert.ProjSampleIdeal.main_v18_3) = v3 c
          ∧ r.2.mem ((c.tc : Thread Cert.ProjSampleIdeal.nD Cert.ProjSampleIdeal.τ).loc Cert.ProjSampleIdeal.main_v18_4) = v4 c
          ∧ r.2.mem ((c.tc : Thread Cert.ProjSampleIdeal.nD Cert.ProjSampleIdeal.τ).loc Cert.ProjSampleIdeal.main_v18_5) = v5 c
          ∧ r.2.mem ((c.tc : Thread Cert.ProjSampleIdeal.nD Cert.ProjSampleIdeal.τ).loc Cert.ProjSampleIdeal.main_v18_6) = v6 c
          ∧ r.2.mem ((c.tc : Thread Cert.ProjSampleIdeal.nD Cert.ProjSampleIdeal.τ).loc Cert.ProjSampleIdeal.main_v18_7) = v7 c
          ∧ r.2.mem ((c.tc : Thread Cert.ProjSampleIdeal.nD Cert.ProjSampleIdeal.τ).loc Cert.ProjSampleIdeal.main_v18_8) = v8 c
          ∧ r.2.mem ((c.tc : Thread Cert.ProjSampleIdeal.nD Cert.ProjSampleIdeal.τ).loc Cert.ProjSampleIdeal.main_v18_9) = v9 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3)
          ∧ r.2.mem ((c.tc : Thread Cert.ProjSampleIdeal.nD Cert.ProjSampleIdeal.τ).loc Cert.ProjSampleIdeal.main_arg4) = m ((c.tc : Thread Cert.ProjSampleIdeal.nD Cert.ProjSampleIdeal.τ).loc Cert.ProjSampleIdeal.main_arg4))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v35) = v0 c
          ∧ r.2.mem ((c.tc : Thread Cert.ProjSampleRefIdeal.nD Cert.ProjSampleRefIdeal.τ).loc Cert.ProjSampleRefIdeal.main_v36) = v1 c
          ∧ r.2.mem ((c.tc : Thread Cert.ProjSampleRefIdeal.nD Cert.ProjSampleRefIdeal.τ).loc Cert.ProjSampleRefIdeal.main_v37) = v2 c
          ∧ r.2.mem ((c.tc : Thread Cert.ProjSampleRefIdeal.nD Cert.ProjSampleRefIdeal.τ).loc Cert.ProjSampleRefIdeal.main_v38) = v3 c
          ∧ r.2.mem ((c.tc : Thread Cert.ProjSampleRefIdeal.nD Cert.ProjSampleRefIdeal.τ).loc Cert.ProjSampleRefIdeal.main_v39) = v4 c
          ∧ r.2.mem ((c.tc : Thread Cert.ProjSampleRefIdeal.nD Cert.ProjSampleRefIdeal.τ).loc Cert.ProjSampleRefIdeal.main_v40) = v5 c
          ∧ r.2.mem ((c.tc : Thread Cert.ProjSampleRefIdeal.nD Cert.ProjSampleRefIdeal.τ).loc Cert.ProjSampleRefIdeal.main_v41) = v6 c
          ∧ r.2.mem ((c.tc : Thread Cert.ProjSampleRefIdeal.nD Cert.ProjSampleRefIdeal.τ).loc Cert.ProjSampleRefIdeal.main_v42) = v7 c
          ∧ r.2.mem ((c.tc : Thread Cert.ProjSampleRefIdeal.nD Cert.ProjSampleRefIdeal.τ).loc Cert.ProjSampleRefIdeal.main_v50) = v8 c
          ∧ r.2.mem ((c.tc : Thread Cert.ProjSampleRefIdeal.nD Cert.ProjSampleRefIdeal.τ).loc Cert.ProjSampleRefIdeal.main_v58) = v9 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3)
          ∧ r.2.mem ((c.tc : Thread Cert.ProjSampleRefIdeal.nD Cert.ProjSampleRefIdeal.τ).loc Cert.ProjSampleRefIdeal.main_arg4) = m' ((c.tc : Thread Cert.ProjSampleRefIdeal.nD Cert.ProjSampleRefIdeal.τ).loc Cert.ProjSampleRefIdeal.main_arg4))

def preserves_GlaPrompt_GlaPromptIdeal : Prop :=
  True

def algebraic_GlaPromptIdeal_GlaPromptRefIdeal_pre_finite_decays [hGlaPromptIdeal : Cert.GlaPromptIdeal.Facts] [hGlaPromptRefIdeal : Cert.GlaPromptRefIdeal.Facts] [hPre_finite_decays : Cert.Pre_finite_decays.Facts] : Prop :=
  ∀ (m : (ℓ : Loc Cert.GlaPromptIdeal.nD Cert.GlaPromptIdeal.τ Cert.GlaPromptIdeal.sig) → Buf (Elt Ideal) ℓ) (g : Dev Cert.GlaPromptIdeal.nD → PrngReg)
    (m' : (ℓ : Loc Cert.GlaPromptRefIdeal.nD Cert.GlaPromptRefIdeal.τ Cert.GlaPromptRefIdeal.sig) → Buf (Elt Ideal) ℓ) (g' : Dev Cert.GlaPromptRefIdeal.nD → PrngReg), Pre_GlaPromptIdeal_finite_decays m →
    (∀ c : Dev Cert.GlaPromptIdeal.nD,
      m' ((c.tc : Thread Cert.GlaPromptRefIdeal.nD Cert.GlaPromptRefIdeal.τ).loc Cert.GlaPromptRefIdeal.main_arg0) = m ((c.tc : Thread Cert.GlaPromptIdeal.nD Cert.GlaPromptIdeal.τ).loc Cert.GlaPromptIdeal.main_arg0)
      ∧ m' ((c.tc : Thread Cert.GlaPromptRefIdeal.nD Cert.GlaPromptRefIdeal.τ).loc Cert.GlaPromptRefIdeal.main_arg1) = m ((c.tc : Thread Cert.GlaPromptIdeal.nD Cert.GlaPromptIdeal.τ).loc Cert.GlaPromptIdeal.main_arg1)
      ∧ m' ((c.tc : Thread Cert.GlaPromptRefIdeal.nD Cert.GlaPromptRefIdeal.τ).loc Cert.GlaPromptRefIdeal.main_arg2) = m ((c.tc : Thread Cert.GlaPromptIdeal.nD Cert.GlaPromptIdeal.τ).loc Cert.GlaPromptIdeal.main_arg2)
      ∧ m' ((c.tc : Thread Cert.GlaPromptRefIdeal.nD Cert.GlaPromptRefIdeal.τ).loc Cert.GlaPromptRefIdeal.main_arg3) = m ((c.tc : Thread Cert.GlaPromptIdeal.nD Cert.GlaPromptIdeal.τ).loc Cert.GlaPromptIdeal.main_arg3)
      ∧ m' ((c.tc : Thread Cert.GlaPromptRefIdeal.nD Cert.GlaPromptRefIdeal.τ).loc Cert.GlaPromptRefIdeal.main_arg4) = m ((c.tc : Thread Cert.GlaPromptIdeal.nD Cert.GlaPromptIdeal.τ).loc Cert.GlaPromptIdeal.main_arg4)
      ∧ m' ((c.tc : Thread Cert.GlaPromptRefIdeal.nD Cert.GlaPromptRefIdeal.τ).loc Cert.GlaPromptRefIdeal.main_arg5) = m ((c.tc : Thread Cert.GlaPromptIdeal.nD Cert.GlaPromptIdeal.τ).loc Cert.GlaPromptIdeal.main_arg5)
      ∧ m' ((c.tc : Thread Cert.GlaPromptRefIdeal.nD Cert.GlaPromptRefIdeal.τ).loc Cert.GlaPromptRefIdeal.main_arg6) = m ((c.tc : Thread Cert.GlaPromptIdeal.nD Cert.GlaPromptIdeal.τ).loc Cert.GlaPromptIdeal.main_arg6)) →
    ∃ (v0 : (c : Dev Cert.GlaPromptIdeal.nD) → Buf (Elt Ideal) ((c.tc : Thread Cert.GlaPromptIdeal.nD Cert.GlaPromptIdeal.τ).loc Cert.GlaPromptIdeal.main_v1_1)),
      θ_run (Cert.GlaPromptIdeal.defs (F := Ideal)) (onTc (τ := Cert.GlaPromptIdeal.τ) (Cert.GlaPromptIdeal.main (F := Ideal))) ⟨m, fun _ => 0, g⟩ (fun r => ∀ c : Dev Cert.GlaPromptIdeal.nD,
          r.2.mem ((c.tc : Thread Cert.GlaPromptIdeal.nD Cert.GlaPromptIdeal.τ).loc Cert.GlaPromptIdeal.main_v1_1) = v0 c
          ∧ r.2.mem ((c.tc : Thread Cert.GlaPromptIdeal.nD Cert.GlaPromptIdeal.τ).loc Cert.GlaPromptIdeal.main_arg0) = m ((c.tc : Thread Cert.GlaPromptIdeal.nD Cert.GlaPromptIdeal.τ).loc Cert.GlaPromptIdeal.main_arg0)
          ∧ r.2.mem ((c.tc : Thread Cert.GlaPromptIdeal.nD Cert.GlaPromptIdeal.τ).loc Cert.GlaPromptIdeal.main_arg1) = m ((c.tc : Thread Cert.GlaPromptIdeal.nD Cert.GlaPromptIdeal.τ).loc Cert.GlaPromptIdeal.main_arg1)
          ∧ r.2.mem ((c.tc : Thread Cert.GlaPromptIdeal.nD Cert.GlaPromptIdeal.τ).loc Cert.GlaPromptIdeal.main_arg2) = m ((c.tc : Thread Cert.GlaPromptIdeal.nD Cert.GlaPromptIdeal.τ).loc Cert.GlaPromptIdeal.main_arg2)
          ∧ r.2.mem ((c.tc : Thread Cert.GlaPromptIdeal.nD Cert.GlaPromptIdeal.τ).loc Cert.GlaPromptIdeal.main_arg3) = m ((c.tc : Thread Cert.GlaPromptIdeal.nD Cert.GlaPromptIdeal.τ).loc Cert.GlaPromptIdeal.main_arg3)
          ∧ r.2.mem ((c.tc : Thread Cert.GlaPromptIdeal.nD Cert.GlaPromptIdeal.τ).loc Cert.GlaPromptIdeal.main_arg4) = m ((c.tc : Thread Cert.GlaPromptIdeal.nD Cert.GlaPromptIdeal.τ).loc Cert.GlaPromptIdeal.main_arg4)
          ∧ r.2.mem ((c.tc : Thread Cert.GlaPromptIdeal.nD Cert.GlaPromptIdeal.τ).loc Cert.GlaPromptIdeal.main_arg5) = m ((c.tc : Thread Cert.GlaPromptIdeal.nD Cert.GlaPromptIdeal.τ).loc Cert.GlaPromptIdeal.main_arg5)
          ∧ r.2.mem ((c.tc : Thread Cert.GlaPromptIdeal.nD Cert.GlaPromptIdeal.τ).loc Cert.GlaPromptIdeal.main_arg6) = m ((c.tc : Thread Cert.GlaPromptIdeal.nD Cert.GlaPromptIdeal.τ).loc Cert.GlaPromptIdeal.main_arg6))
      ∧ θ_run (Cert.GlaPromptRefIdeal.defs (F := Ideal)) (onTc (τ := Cert.GlaPromptRefIdeal.τ) (Cert.GlaPromptRefIdeal.main (F := Ideal))) ⟨m', fun _ => 0, g'⟩ (fun r => ∀ c : Dev Cert.GlaPromptRefIdeal.nD,
          r.2.mem ((c.tc : Thread Cert.GlaPromptRefIdeal.nD Cert.GlaPromptRefIdeal.τ).loc Cert.GlaPromptRefIdeal.main_v19) = v0 c
          ∧ r.2.mem ((c.tc : Thread Cert.GlaPromptRefIdeal.nD Cert.GlaPromptRefIdeal.τ).loc Cert.GlaPromptRefIdeal.main_arg0) = m' ((c.tc : Thread Cert.GlaPromptRefIdeal.nD Cert.GlaPromptRefIdeal.τ).loc Cert.GlaPromptRefIdeal.main_arg0)
          ∧ r.2.mem ((c.tc : Thread Cert.GlaPromptRefIdeal.nD Cert.GlaPromptRefIdeal.τ).loc Cert.GlaPromptRefIdeal.main_arg1) = m' ((c.tc : Thread Cert.GlaPromptRefIdeal.nD Cert.GlaPromptRefIdeal.τ).loc Cert.GlaPromptRefIdeal.main_arg1)
          ∧ r.2.mem ((c.tc : Thread Cert.GlaPromptRefIdeal.nD Cert.GlaPromptRefIdeal.τ).loc Cert.GlaPromptRefIdeal.main_arg2) = m' ((c.tc : Thread Cert.GlaPromptRefIdeal.nD Cert.GlaPromptRefIdeal.τ).loc Cert.GlaPromptRefIdeal.main_arg2)
          ∧ r.2.mem ((c.tc : Thread Cert.GlaPromptRefIdeal.nD Cert.GlaPromptRefIdeal.τ).loc Cert.GlaPromptRefIdeal.main_arg3) = m' ((c.tc : Thread Cert.GlaPromptRefIdeal.nD Cert.GlaPromptRefIdeal.τ).loc Cert.GlaPromptRefIdeal.main_arg3)
          ∧ r.2.mem ((c.tc : Thread Cert.GlaPromptRefIdeal.nD Cert.GlaPromptRefIdeal.τ).loc Cert.GlaPromptRefIdeal.main_arg4) = m' ((c.tc : Thread Cert.GlaPromptRefIdeal.nD Cert.GlaPromptRefIdeal.τ).loc Cert.GlaPromptRefIdeal.main_arg4)
          ∧ r.2.mem ((c.tc : Thread Cert.GlaPromptRefIdeal.nD Cert.GlaPromptRefIdeal.τ).loc Cert.GlaPromptRefIdeal.main_arg5) = m' ((c.tc : Thread Cert.GlaPromptRefIdeal.nD Cert.GlaPromptRefIdeal.τ).loc Cert.GlaPromptRefIdeal.main_arg5)
          ∧ r.2.mem ((c.tc : Thread Cert.GlaPromptRefIdeal.nD Cert.GlaPromptRefIdeal.τ).loc Cert.GlaPromptRefIdeal.main_arg6) = m' ((c.tc : Thread Cert.GlaPromptRefIdeal.nD Cert.GlaPromptRefIdeal.τ).loc Cert.GlaPromptRefIdeal.main_arg6))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixRefIdeal : Cert.MixRefIdeal.Facts) (hProj : Cert.Proj.Facts) (hProjIdeal : Cert.ProjIdeal.Facts) (hProjRefIdeal : Cert.ProjRefIdeal.Facts) (hMixSample : Cert.MixSample.Facts) (hMixSampleIdeal : Cert.MixSampleIdeal.Facts) (hMixSampleRefIdeal : Cert.MixSampleRefIdeal.Facts) (hProjSample : Cert.ProjSample.Facts) (hProjSampleIdeal : Cert.ProjSampleIdeal.Facts) (hProjSampleRefIdeal : Cert.ProjSampleRefIdeal.Facts) (hGlaPrompt : Cert.GlaPrompt.Facts) (hGlaPromptIdeal : Cert.GlaPromptIdeal.Facts) (hGlaPromptRefIdeal : Cert.GlaPromptRefIdeal.Facts) (hPre_decaying : Cert.Pre_decaying.Facts) (hPre_finite_decays : Cert.Pre_finite_decays.Facts),
    quiescent_Kernel (hKernel := hKernel)
    ∧ quiescent_KernelIdeal (hKernelIdeal := hKernelIdeal)
    ∧ quiescent_KernelIdeal_pre_decaying (hKernelIdeal := hKernelIdeal) (hPre_decaying := hPre_decaying)
    ∧ quiescent_ReferenceIdeal (hReferenceIdeal := hReferenceIdeal)
    ∧ quiescent_ReferenceIdeal_pre_decaying (hReferenceIdeal := hReferenceIdeal) (hPre_decaying := hPre_decaying)
    ∧ quiescent_Mix (hMix := hMix)
    ∧ quiescent_MixIdeal (hMixIdeal := hMixIdeal)
    ∧ quiescent_MixRefIdeal (hMixRefIdeal := hMixRefIdeal)
    ∧ quiescent_Proj (hProj := hProj)
    ∧ quiescent_ProjIdeal (hProjIdeal := hProjIdeal)
    ∧ quiescent_ProjRefIdeal (hProjRefIdeal := hProjRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ quiescent_GlaPrompt (hGlaPrompt := hGlaPrompt)
    ∧ quiescent_GlaPromptIdeal (hGlaPromptIdeal := hGlaPromptIdeal)
    ∧ quiescent_GlaPromptIdeal_pre_finite_decays (hGlaPromptIdeal := hGlaPromptIdeal) (hPre_finite_decays := hPre_finite_decays)
    ∧ quiescent_GlaPromptRefIdeal (hGlaPromptRefIdeal := hGlaPromptRefIdeal)
    ∧ quiescent_GlaPromptRefIdeal_pre_finite_decays (hGlaPromptRefIdeal := hGlaPromptRefIdeal) (hPre_finite_decays := hPre_finite_decays)
    ∧ preserves_Kernel_KernelIdeal
    ∧ algebraic_KernelIdeal_ReferenceIdeal_pre_decaying (hKernelIdeal := hKernelIdeal) (hReferenceIdeal := hReferenceIdeal) (hPre_decaying := hPre_decaying)
    ∧ preserves_Mix_MixIdeal
    ∧ algebraic_MixIdeal_MixRefIdeal (hMixIdeal := hMixIdeal) (hMixRefIdeal := hMixRefIdeal)
    ∧ preserves_Proj_ProjIdeal
    ∧ algebraic_ProjIdeal_ProjRefIdeal (hProjIdeal := hProjIdeal) (hProjRefIdeal := hProjRefIdeal)
    ∧ preserves_MixSample_MixSampleIdeal
    ∧ algebraic_MixSampleIdeal_MixSampleRefIdeal (hMixSampleIdeal := hMixSampleIdeal) (hMixSampleRefIdeal := hMixSampleRefIdeal)
    ∧ preserves_ProjSample_ProjSampleIdeal
    ∧ algebraic_ProjSampleIdeal_ProjSampleRefIdeal (hProjSampleIdeal := hProjSampleIdeal) (hProjSampleRefIdeal := hProjSampleRefIdeal)
    ∧ preserves_GlaPrompt_GlaPromptIdeal
    ∧ algebraic_GlaPromptIdeal_GlaPromptRefIdeal_pre_finite_decays (hGlaPromptIdeal := hGlaPromptIdeal) (hGlaPromptRefIdeal := hGlaPromptRefIdeal) (hPre_finite_decays := hPre_finite_decays)
-- ==== Pre_decaying.lean ====
abbrev S32x8x256 : Shape := ⟨3, ![32, 8, 256]⟩
abbrev S32x8x512 : Shape := ⟨3, ![32, 8, 512]⟩
abbrev S1x128 : Shape := ⟨2, ![1, 128]⟩
abbrev S32x4x64x128 : Shape := ⟨4, ![32, 4, 64, 128]⟩
abbrev S_ : Shape := ⟨0, ![]⟩

class Facts : Prop where
  bcast_S_S32x8x256 : S_.BroadcastsInDim S32x8x256 (![] : Fin 0 → Fin S32x8x256.rank)

variable [Facts]

def fn {F : FTy → Type} [FloatOps F] (main_arg0 : FVec F S32x8x256 .f32) (main_arg1 : FVec F S32x8x256 .f32) (main_arg2 : FVec F S32x8x512 .f32) (main_arg3 : FVec F S32x8x256 .f32) (main_arg4 : FVec F S32x8x512 .f32) (main_arg5 : FVec F S1x128 .f32) (main_arg6 : FVec F S32x4x64x128 .f32) : IVec S32x8x256 1 :=
  let main_cst : FVec F S_ .f32 := constant S_ .f32 0x00000000#32
  let main_v0 : FVec F S32x8x256 .f32 := broadcastInDim S32x8x256 ![] bcast_S_S32x8x256 main_cst
  let main_v1 : IVec S32x8x256 1 := cmpf .ole main_arg3 main_v0
  main_v1
-- ==== Pre_finite_decays.lean ====
abbrev S2x8192x256 : Shape := ⟨3, ![2, 8192, 256]⟩
abbrev S2x8192x512 : Shape := ⟨3, ![2, 8192, 512]⟩
abbrev S1x128 : Shape := ⟨2, ![1, 128]⟩
abbrev S2x4x64x128 : Shape := ⟨4, ![2, 4, 64, 128]⟩
abbrev S_ : Shape := ⟨0, ![]⟩

class Facts : Prop where
  bcast_S_S2x8192x256 : S_.BroadcastsInDim S2x8192x256 (![] : Fin 0 → Fin S2x8192x256.rank)

variable [Facts]

def fn {F : FTy → Type} [FloatOps F] (main_arg0 : FVec F S2x8192x256 .f32) (main_arg1 : FVec F S2x8192x256 .f32) (main_arg2 : FVec F S2x8192x512 .f32) (main_arg3 : FVec F S2x8192x256 .f32) (main_arg4 : FVec F S2x8192x512 .f32) (main_arg5 : FVec F S1x128 .f32) (main_arg6 : FVec F S2x4x64x128 .f32) : IVec S2x8192x256 1 :=
  let main_v0 : FVec F S2x8192x256 .f32 := Host.absf main_arg3
  let main_cst : FVec F S_ .f32 := constant S_ .f32 0x7F800000#32
  let main_v1 : FVec F S2x8192x256 .f32 := broadcastInDim S2x8192x256 ![] bcast_S_S2x8192x256 main_cst
  let main_v2 : IVec S2x8192x256 1 := cmpf .olt main_v0 main_v1
  main_v2
-- ==== Kernel.lean ====
abbrev S32x8x256 : Shape := ⟨3, ![32, 8, 256]⟩
abbrev S32x8x512 : Shape := ⟨3, ![32, 8, 512]⟩
abbrev S1x128 : Shape := ⟨2, ![1, 128]⟩
abbrev S32x4x64x128 : Shape := ⟨4, ![32, 4, 64, 128]⟩
abbrev S32x2x128x128 : Shape := ⟨4, ![32, 2, 128, 128]⟩
abbrev S1x8x256 : Shape := ⟨3, ![1, 8, 256]⟩
abbrev S1x8x512 : Shape := ⟨3, ![1, 8, 512]⟩
abbrev S1x2x128x128 : Shape := ⟨4, ![1, 2, 128, 128]⟩
abbrev S2x128x128 : Shape := ⟨3, ![2, 128, 128]⟩
abbrev S1x1x128x128 : Shape := ⟨4, ![1, 1, 128, 128]⟩
abbrev S128x128 : Shape := ⟨2, ![128, 128]⟩
abbrev S1x128x128 : Shape := ⟨3, ![1, 128, 128]⟩
abbrev S8x128 : Shape := ⟨2, ![8, 128]⟩
abbrev S8x8 : Shape := ⟨2, ![8, 8]⟩
abbrev S1x8x128 : Shape := ⟨3, ![1, 8, 128]⟩
abbrev S8x256 : Shape := ⟨2, ![8, 256]⟩
abbrev S1x1x128 : Shape := ⟨3, ![1, 1, 128]⟩
abbrev S1x8 : Shape := ⟨2, ![1, 8]⟩
abbrev S1x8x1 : Shape := ⟨3, ![1, 8, 1]⟩
abbrev S8 : Shape := ⟨1, ![8]⟩
abbrev S8x1 : Shape := ⟨2, ![8, 1]⟩

abbrev nBuf : Space → Nat
  | .hbm => 10
  | .vmem => 18
  | .smem => 0
  | _ => 0

abbrev bufTy : (tb : Table) → Fin (tcTables nBuf tb) → BufTy
  | .hbm, ⟨0, _⟩ => ⟨S32x8x256, .f32⟩
  | .hbm, ⟨1, _⟩ => ⟨S32x8x256, .f32⟩
  | .hbm, ⟨2, _⟩ => ⟨S32x8x512, .f32⟩
  | .hbm, ⟨3, _⟩ => ⟨S32x8x256, .f32⟩
  | .hbm, ⟨4, _⟩ => ⟨S32x8x512, .f32⟩
  | .hbm, ⟨5, _⟩ => ⟨S1x128, .f32⟩
  | .hbm, ⟨6, _⟩ => ⟨S32x4x64x128, .f32⟩
  | .hbm, ⟨7, _⟩ => ⟨S32x2x128x128, .f32⟩
  | .hbm, ⟨8, _⟩ => ⟨S32x8x512, .f32⟩
  | .hbm, ⟨9, _⟩ => ⟨S32x2x128x128, .f32⟩
  | .local _ .vmem, ⟨0, _⟩ => ⟨S1x8x256, .f32⟩
  | .local _ .vmem, ⟨1, _⟩ => ⟨S1x8x256, .f32⟩
  | .local _ .vmem, ⟨2, _⟩ => ⟨S1x8x256, .f32⟩
  | .local _ .vmem, ⟨3, _⟩ => ⟨S1x8x256, .f32⟩
  | .local _ .vmem, ⟨4, _⟩ => ⟨S1x8x512, .f32⟩
  | .local _ .vmem, ⟨5, _⟩ => ⟨S1x8x512, .f32⟩
  | .local _ .vmem, ⟨6, _⟩ => ⟨S1x8x256, .f32⟩
  | .local _ .vmem, ⟨7, _⟩ => ⟨S1x8x256, .f32⟩
  | .local _ .vmem, ⟨8, _⟩ => ⟨S1x8x512, .f32⟩
  | .local _ .vmem, ⟨9, _⟩ => ⟨S1x8x512, .f32⟩
  | .local _ .vmem, ⟨10, _⟩ => ⟨S1x128, .f32⟩
  | .local _ .vmem, ⟨11, _⟩ => ⟨S1x2x128x128, .f32⟩
  | .local _ .vmem, ⟨12, _⟩ => ⟨S1x2x128x128, .f32⟩
  | .local _ .vmem, ⟨13, _⟩ => ⟨S1x8x512, .f32⟩
  | .local _ .vmem, ⟨14, _⟩ => ⟨S1x8x512, .f32⟩
  | .local _ .vmem, ⟨15, _⟩ => ⟨S1x2x128x128, .f32⟩
  | .local _ .vmem, ⟨16, _⟩ => ⟨S1x2x128x128, .f32⟩
  | .local _ .vmem, ⟨17, _⟩ => ⟨S2x128x128, .f32⟩
  | _, _ => ⟨S32x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_232 : BitVec 32 := 0#32
  let v852 : BitVec 1 := Scalar.cmpi .eq arg1 c0_i32_232
  let v853 : BitVec 32 := Scalar.extui v852
  let c0_i32_233 : BitVec 32 := 0#32
  let v854 : BitVec 1 := Scalar.cmpi .ne v853 c0_i32_233
  v854

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32x8x256 : Shape := ⟨3, ![32, 8, 256]⟩
abbrev S32x8x512 : Shape := ⟨3, ![32, 8, 512]⟩
abbrev S1x128 : Shape := ⟨2, ![1, 128]⟩
abbrev S32x4x64x128 : Shape := ⟨4, ![32, 4, 64, 128]⟩
abbrev S32x8x4x64 : Shape := ⟨4, ![32, 8, 4, 64]⟩
abbrev S32x4x8x64 : Shape := ⟨4, ![32, 4, 8, 64]⟩
abbrev S_ : Shape := ⟨0, ![]⟩
abbrev S32x8x4x128 : Shape := ⟨4, ![32, 8, 4, 128]⟩
abbrev S32x4x8x128 : Shape := ⟨4, ![32, 4, 8, 128]⟩
abbrev S8x8 : Shape := ⟨2, ![8, 8]⟩
abbrev S1x1x8x8x1 : Shape := ⟨5, ![1, 1, 8, 8, 1]⟩
abbrev S32x4x8x1x64 : Shape := ⟨5, ![32, 4, 8, 1, 64]⟩
abbrev S32x4x1x8x64 : Shape := ⟨5, ![32, 4, 1, 8, 64]⟩
abbrev S32x4x8x8x64 : Shape := ⟨5, ![32, 4, 8, 8, 64]⟩
abbrev S32x4x8x8 : Shape := ⟨4, ![32, 4, 8, 8]⟩
abbrev S32x4x1x64 : Shape := ⟨4, ![32, 4, 1, 64]⟩
abbrev S32x4x64 : Shape := ⟨3, ![32, 4, 64]⟩
abbrev S32x4x64x1 : Shape := ⟨4, ![32, 4, 64, 1]⟩
abbrev S128 : Shape := ⟨1, ![128]⟩
abbrev S32x8x4 : Shape := ⟨3, ![32, 8, 4]⟩
abbrev S32x8x4x1 : Shape := ⟨4, ![32, 8, 4, 1]⟩
abbrev S1x1x1x128 : Shape := ⟨4, ![1, 1, 1, 128]⟩
abbrev S32x2x128x128 : Shape := ⟨4, ![32, 2, 128, 128]⟩

abbrev nBuf : Space → Nat
  | .hbm => 99
  | .vmem => 0
  | .smem => 0
  | _ => 0

abbrev bufTy : (tb : Table) → Fin (tcTables nBuf tb) → BufTy
  | .hbm, ⟨0, _⟩ => ⟨S32x8x256, .f32⟩
  | .hbm, ⟨1, _⟩ => ⟨S32x8x256, .f32⟩
  | .hbm, ⟨2, _⟩ => ⟨S32x8x512, .f32⟩
  | .hbm, ⟨3, _⟩ => ⟨S32x8x256, .f32⟩
  | .hbm, ⟨4, _⟩ => ⟨S32x8x512, .f32⟩
  | .hbm, ⟨5, _⟩ => ⟨S1x128, .f32⟩
  | .hbm, ⟨6, _⟩ => ⟨S32x4x64x128, .f32⟩
  | .hbm, ⟨7, _⟩ => ⟨S32x8x4x64, .f32⟩
  | .hbm, ⟨8, _⟩ => ⟨S32x4x8x64, .f32⟩
  | .hbm, ⟨9, _⟩ => ⟨S_, .f32⟩
  | .hbm, ⟨10, _⟩ => ⟨S32x4x8x64, .f32⟩
  | .hbm, ⟨11, _⟩ => ⟨S32x4x8x64, .f32⟩
  | .hbm, ⟨12, _⟩ => ⟨S32x8x4x64, .f32⟩
  | .hbm, ⟨13, _⟩ => ⟨S32x4x8x64, .f32⟩
  | .hbm, ⟨14, _⟩ => ⟨S32x8x4x128, .f32⟩
  | .hbm, ⟨15, _⟩ => ⟨S32x4x8x128, .f32⟩
  | .hbm, ⟨16, _⟩ => ⟨S32x8x4x64, .f32⟩
  | .hbm, ⟨17, _⟩ => ⟨S32x4x8x64, .f32⟩
  | .hbm, ⟨18, _⟩ => ⟨S_, .i1⟩
  | .hbm, ⟨19, _⟩ => ⟨S8x8, .i1⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S_, .i1⟩
  | .hbm, ⟨27, _⟩ => ⟨S8x8, .i1⟩
  | .hbm, ⟨28, _⟩ => ⟨S8x8, .i1⟩
  | .hbm, ⟨29, _⟩ => ⟨S_, .f32⟩
  | .hbm, ⟨30, _⟩ => ⟨S_, .f32⟩
  | .hbm, ⟨31, _⟩ => ⟨S32x4x8x64, .f32⟩
  | .hbm, ⟨32, _⟩ => ⟨S1x1x8x8x1, .i1⟩
  | .hbm, ⟨33, _⟩ => ⟨S32x4x8x1x64, .f32⟩
  | .hbm, ⟨34, _⟩ => ⟨S32x4x1x8x64, .f32⟩
  | .hbm, ⟨35, _⟩ => ⟨S32x4x8x8x64, .f32⟩
  | .hbm, ⟨36, _⟩ => ⟨S32x4x8x8x64, .f32⟩
  | .hbm, ⟨37, _⟩ => ⟨S32x4x8x8x64, .f32⟩
  | .hbm, ⟨38, _⟩ => ⟨S_, .f32⟩
  | .hbm, ⟨39, _⟩ => ⟨S_, .f32⟩
  | .hbm, ⟨40, _⟩ => ⟨S32x4x8x8x64, .i1⟩
  | .hbm, ⟨41, _⟩ => ⟨S32x4x8x8x64, .f32⟩
  | .hbm, ⟨42, _⟩ => ⟨S32x4x8x8x64, .f32⟩
  | .hbm, ⟨43, _⟩ => ⟨S32x4x8x1x64, .f32⟩
  | .hbm, ⟨44, _⟩ => ⟨S32x4x1x8x64, .f32⟩
  | .hbm, ⟨45, _⟩ => ⟨S32x4x8x8x64, .f32⟩
  | .hbm, ⟨46, _⟩ => ⟨S32x4x8x8x64, .f32⟩
  | .hbm, ⟨47, _⟩ => ⟨S32x4x8x8x64, .f32⟩
  | .hbm, ⟨48, _⟩ => ⟨S32x4x8x8x64, .f32⟩
  | .hbm, ⟨49, _⟩ => ⟨S32x4x8x8x64, .f32⟩
  | .hbm, ⟨50, _⟩ => ⟨S_, .f32⟩
  | .hbm, ⟨51, _⟩ => ⟨S32x4x8x8, .f32⟩
  | .hbm, ⟨52, _⟩ => ⟨S32x4x8x128, .f32⟩
  | .hbm, ⟨53, _⟩ => ⟨S32x4x8x64, .f32⟩
  | .hbm, ⟨54, _⟩ => ⟨S32x4x8x64, .f32⟩
  | .hbm, ⟨55, _⟩ => ⟨S32x4x8x128, .f32⟩
  | .hbm, ⟨56, _⟩ => ⟨S32x4x8x128, .f32⟩
  | .hbm, ⟨57, _⟩ => ⟨S32x4x1x64, .f32⟩
  | .hbm, ⟨58, _⟩ => ⟨S32x4x64, .f32⟩
  | .hbm, ⟨59, _⟩ => ⟨S32x4x64, .f32⟩
  | .hbm, ⟨60, _⟩ => ⟨S32x4x64x1, .f32⟩
  | .hbm, ⟨61, _⟩ => ⟨S32x4x64x128, .f32⟩
  | .hbm, ⟨62, _⟩ => ⟨S32x4x64x128, .f32⟩
  | .hbm, ⟨63, _⟩ => ⟨S32x4x8x64, .f32⟩
  | .hbm, ⟨64, _⟩ => ⟨S32x4x8x64, .f32⟩
  | .hbm, ⟨65, _⟩ => ⟨S32x4x8x64, .f32⟩
  | .hbm, ⟨66, _⟩ => ⟨S32x4x8x64, .f32⟩
  | .hbm, ⟨67, _⟩ => ⟨S32x4x64x128, .f32⟩
  | .hbm, ⟨68, _⟩ => ⟨S32x4x64x128, .f32⟩
  | .hbm, ⟨69, _⟩ => ⟨S32x8x4x128, .f32⟩
  | .hbm, ⟨70, _⟩ => ⟨S128, .f32⟩
  | .hbm, ⟨71, _⟩ => ⟨S32x8x4x128, .f32⟩
  | .hbm, ⟨72, _⟩ => ⟨S_, .f32⟩
  | .hbm, ⟨73, _⟩ => ⟨S32x8x4, .f32⟩
  | .hbm, ⟨74, _⟩ => ⟨S32x8x4x1, .f32⟩
  | .hbm, ⟨75, _⟩ => ⟨S_, .f32⟩
  | .hbm, ⟨76, _⟩ => ⟨S32x8x4x1, .f32⟩
  | .hbm, ⟨77, _⟩ => ⟨S32x8x4x1, .f32⟩
  | .hbm, ⟨78, _⟩ => ⟨S_, .f32⟩
  | .hbm, ⟨79, _⟩ => ⟨S32x8x4x1, .f32⟩
  | .hbm, ⟨80, _⟩ => ⟨S32x8x4x1, .f32⟩
  | .hbm, ⟨81, _⟩ => ⟨S32x8x4x1, .f32⟩
  | .hbm, ⟨82, _⟩ => ⟨S32x8x4x128, .f32⟩
  | .hbm, ⟨83, _⟩ => ⟨S32x8x4x128, .f32⟩
  | .hbm, ⟨84, _⟩ => ⟨S1x1x1x128, .f32⟩
  | .hbm, ⟨85, _⟩ => ⟨S32x8x4x128, .f32⟩
  | .hbm, ⟨86, _⟩ => ⟨S32x8x4x128, .f32⟩
  | .hbm, ⟨87, _⟩ => ⟨S32x8x512, .f32⟩
  | .hbm, ⟨88, _⟩ => ⟨S32x8x512, .f32⟩
  | .hbm, ⟨89, _⟩ => ⟨S32x8x512, .f32⟩
  | .hbm, ⟨90, _⟩ => ⟨S_, .f32⟩
  | .hbm, ⟨91, _⟩ => ⟨S32x8x512, .f32⟩
  | .hbm, ⟨92, _⟩ => ⟨S32x8x512, .f32⟩
  | .hbm, ⟨93, _⟩ => ⟨S_, .f32⟩
  | .hbm, ⟨94, _⟩ => ⟨S32x8x512, .f32⟩
  | .hbm, ⟨95, _⟩ => ⟨S32x8x512, .f32⟩
  | .hbm, ⟨96, _⟩ => ⟨S32x8x512, .f32⟩
  | .hbm, ⟨97, _⟩ => ⟨S32x8x512, .f32⟩
  | .hbm, ⟨98, _⟩ => ⟨S32x2x128x128, .f32⟩
  | _, _ => ⟨S32x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v11 : Ref sig .tc := ⟨.hbm, 28, rfl⟩
abbrev main_call1_call0_cst : Ref sig .tc := ⟨.hbm, 29, rfl⟩
abbrev main_call1_call0_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_cst_3 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call3_v0 : Ref sig .tc := ⟨.hbm, 88, rfl⟩
abbrev main_call3_v1 : Ref sig .tc := ⟨.hbm, 89, rfl⟩
abbrev main_call3_cst : Ref sig .tc := ⟨.hbm, 90, rfl⟩
abbrev main_call3_v2 : Ref sig .tc := ⟨.hbm, 91, rfl⟩
abbrev main_call3_v3 : Ref sig .tc := ⟨.hbm, 92, rfl⟩
abbrev main_call3_cst_0 : Ref sig .tc := ⟨.hbm, 93, rfl⟩
abbrev main_call3_v4 : Ref sig .tc := ⟨.hbm, 94, rfl⟩
abbrev main_call3_v5 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S512x512 : Shape := ⟨2, ![512, 512]⟩
abbrev S512 : Shape := ⟨1, ![512]⟩
abbrev S512x1 : Shape := ⟨2, ![512, 1]⟩
abbrev S512x4096 : Shape := ⟨2, ![512, 4096]⟩

abbrev nBuf : Space → Nat
  | .hbm => 30
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S1024x1024, .f32⟩
  | .hbm, ⟨18, _⟩ => ⟨S1024x1024, .bf16⟩
  | .hbm, ⟨19, _⟩ => ⟨S1024x4096, .f32⟩
  | .hbm, ⟨20, _⟩ => ⟨S1024x4096, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MixRefIdeal.lean ====
abbrev S16384x1024 : Shape := ⟨2, ![16384, 1024]⟩
abbrev S16384x512 : Shape := ⟨2, ![16384, 512]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x1024, .bf16⟩
  | .hbm, ⟨4, _⟩ => ⟨S16384x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .f32⟩
  | .hbm, ⟨14, _⟩ => ⟨S512x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S512x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S16384x1024, .f32⟩
  | .hbm, ⟨24, _⟩ => ⟨S1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S1024x4096, .f32⟩
  | .hbm, ⟨60, _⟩ => ⟨S16384x4096, .f32⟩
  | .hbm, ⟨61, _⟩ => ⟨S_, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S4096x1024, .f32⟩
  | .hbm, ⟨66, _⟩ => ⟨S16384x1024, .f32⟩
  | .hbm, ⟨67, _⟩ => ⟨S1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call0_cst : Ref sig .tc := ⟨.hbm, 61, rfl⟩
abbrev main_call0_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proj.lean ====
abbrev S2x8192x1024 : Shape := ⟨3, ![2, 8192, 1024]⟩
abbrev S1x1024x5136 : Shape := ⟨3, ![1, 1024, 5136]⟩
abbrev S1x16x256 : Shape := ⟨3, ![1, 16, 256]⟩
abbrev S1x256 : Shape := ⟨2, ![1, 256]⟩
abbrev S1x1024 : Shape := ⟨2, ![1, 1024]⟩
abbrev S16384x1024 : Shape := ⟨2, ![16384, 1024]⟩
abbrev S1x1024x3072 : Shape := ⟨3, ![1, 1024, 3072]⟩
abbrev S1024x3072 : Shape := ⟨2, ![1024, 3072]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S1x1024x2048 : Shape := ⟨3, ![1, 1024, 2048]⟩
abbrev S1024x2048 : Shape := ⟨2, ![1024, 2048]⟩
abbrev S16x256 : Shape := ⟨2, ![16, 256]⟩
abbrev S128x256 : Shape := ⟨2, ![128, 256]⟩
abbrev S256 : Shape := ⟨1, ![256]⟩
abbrev S1024 : Shape := ⟨1, ![1024]⟩
abbrev S16384x512 : Shape := ⟨2, ![16384, 512]⟩
abbrev S2x512x8192 : Shape := ⟨3, ![2, 512, 8192]⟩
abbrev S16384x256 : Shape := ⟨2, ![16384, 256]⟩
abbrev S64x1x512 : Shape := ⟨3, ![64, 1, 512]⟩
abbrev S512x1024 : Shape := ⟨2, ![512, 1024]⟩
abbrev S512x512 : Shape := ⟨2, ![512, 512]⟩
abbrev S1x512x512 : Shape := ⟨3, ![1, 512, 512]⟩
abbrev S512x256 : Shape := ⟨2, ![512, 256]⟩
abbrev S2x1x512 : Shape := ⟨3, ![2, 1, 512]⟩
abbrev S512 : Shape := ⟨1, ![512]⟩
abbrev S512x1 : Shape := ⟨2, ![512, 1]⟩
abbrev S1024x512 : Shape := ⟨2, ![1024, 512]⟩
abbrev S256x512 : Shape := ⟨2, ![256, 512]⟩
abbrev S1x512 : Shape := ⟨2, ![1, 512]⟩
abbrev S1x1x512 : Shape := ⟨3, ![1, 1, 512]⟩
abbrev S1024x256 : Shape := ⟨2, ![1024, 256]⟩
abbrev S512x128 : Shape := ⟨2, ![512, 128]⟩
abbrev S1024x1024 : Shape := ⟨2, ![1024, 1024]⟩

abbrev nBuf : Space → Nat
  | .hbm => 40
  | .vmem => 34
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5136, .f32⟩
  | .hbm, ⟨2, _⟩ => ⟨S1x16x256, .f32⟩
  | .hbm, ⟨3, _⟩ => ⟨S1x256, .f32⟩
  | .hbm, ⟨4, _⟩ => ⟨S1x1024, .f32⟩
  | .hbm, ⟨5, _⟩ => ⟨S16384x1024, .f32⟩
  | .hbm, ⟨6, _⟩ => ⟨S1x1024x3072, .f32⟩
  | .hbm, ⟨7, _⟩ => ⟨S1024x3072, .f32⟩
  | .hbm, ⟨8, _⟩ => ⟨S1024x3072, .bf16⟩
  | .hbm, ⟨9, _⟩ => ⟨S1x1024x16, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S16x256, .f32⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S128x256, .bf16⟩
  | .hbm, ⟨23, _⟩ => ⟨S256, .f32⟩
  | .hbm, ⟨24, _⟩ => ⟨S1x256, .f32⟩
  | .hbm, ⟨25, _⟩ => ⟨S1024, .f32⟩
  | .hbm, ⟨26, _⟩ => ⟨S1x1024, .f32⟩
  | .hbm, ⟨27, _⟩ => ⟨S16384x512, .f32⟩
  | .hbm, ⟨28, _⟩ => ⟨S2x512x8192, .f32⟩
  | .hbm, ⟨29, _⟩ => ⟨S2x512x8192, .f32⟩
  | .hbm, ⟨30, _⟩ => ⟨S16384x256, .f32⟩
  | .hbm, ⟨31, _⟩ => ⟨S16384x256, .f32⟩
  | .hbm, ⟨32, _⟩ => ⟨S16384x512, .f32⟩
  | .hbm, ⟨33, _⟩ => ⟨S16384x512, .f32⟩
  | .hbm, ⟨34, _⟩ => ⟨S16384x256, .f32⟩
  | .hbm, ⟨35, _⟩ => ⟨S16384x1024, .bf16⟩
  | .hbm, ⟨36, _⟩ => ⟨S16384x1024, .bf16⟩
  | .hbm, ⟨37, _⟩ => ⟨S64x1x512, .f32⟩
  | .hbm, ⟨38, _⟩ => ⟨S16384x512, .bf16⟩
  | .hbm, ⟨39, _⟩ => ⟨S2x512x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1024x2048, .bf16⟩
  | .local _ .vmem, ⟨6, _⟩ => ⟨S128x256, .bf16⟩
  | .local _ .vmem, ⟨7, _⟩ => ⟨S1x256, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x256, .f32⟩
  | .local _ .vmem, ⟨23, _⟩ => ⟨S512x256, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S2x1x512, .f32⟩
  | .local _ .vmem, ⟨29, _⟩ => ⟨S2x1x512, .f32⟩
  | .local _ .vmem, ⟨30, _⟩ => ⟨S512x512, .bf16⟩
  | .local _ .vmem, ⟨31, _⟩ => ⟨S512x512, .bf16⟩
  | .local _ .vmem, ⟨32, _⟩ => ⟨S1x512x512, .bf16⟩
  | .local _ .vmem, ⟨33, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev main_v18_9 : Ref sig .tc := ⟨.hbm, 36, rfl⟩
abbrev main_v18_10 : Ref sig .tc := ⟨.hbm, 37, rfl⟩
abbrev main_v18_11 : Ref sig .tc := ⟨.hbm, 38, rfl⟩
abbrev main_v18_12 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ProjRefIdeal.lean ====
abbrev S2x8192x1024 : Shape := ⟨3, ![2, 8192, 1024]⟩
abbrev S1x1024x5136 : Shape := ⟨3, ![1, 1024, 5136]⟩
abbrev S1x16x256 : Shape := ⟨3, ![1, 16, 256]⟩
abbrev S1x256 : Shape := ⟨2, ![1, 256]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5136 : Shape := ⟨2, ![1024, 5136]⟩
abbrev S2x8192x5136 : Shape := ⟨3, ![2, 8192, 5136]⟩
abbrev S2x8192x512 : Shape := ⟨3, ![2, 8192, 512]⟩
abbrev S2x8192x256 : Shape := ⟨3, ![2, 8192, 256]⟩
abbrev S2x8192x16 : Shape := ⟨3, ![2, 8192, 16]⟩
abbrev S16x256 : Shape := ⟨2, ![16, 256]⟩
abbrev S256 : Shape := ⟨1, ![256]⟩
abbrev S1x1x256 : Shape := ⟨3, ![1, 1, 256]⟩
abbrev S64x256x512 : Shape := ⟨3, ![64, 256, 512]⟩
abbrev S64x512 : Shape := ⟨2, ![64, 512]⟩
abbrev S64x1x512 : Shape := ⟨3, ![64, 1, 512]⟩
abbrev S2x512x8192 : Shape := ⟨3, ![2, 512, 8192]⟩
abbrev S16384x512 : Shape := ⟨2, ![16384, 512]⟩
abbrev S16384x256 : Shape := ⟨2, ![16384, 256]⟩
abbrev S16384x1024 : Shape := ⟨2, ![16384, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x5136, .f32⟩
  | .hbm, ⟨2, _⟩ => ⟨S1x16x256, .f32⟩
  | .hbm, ⟨3, _⟩ => ⟨S1x256, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x5136, .f32⟩
  | .hbm, ⟨23, _⟩ => ⟨S2x8192x5136, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x256, .f32⟩
  | .hbm, ⟨28, _⟩ => ⟨S2x8192x256, .f32⟩
  | .hbm, ⟨29, _⟩ => ⟨S2x8192x512, .f32⟩
  | .hbm, ⟨30, _⟩ => ⟨S2x8192x512, .f32⟩
  | .hbm, ⟨31, _⟩ => ⟨S2x8192x16, .f32⟩
  | .hbm, ⟨32, _⟩ => ⟨S2x8192x1024, .f32⟩
  | .hbm, ⟨33, _⟩ => ⟨S2x8192x1024, .f32⟩
  | .hbm, ⟨34, _⟩ => ⟨S16x256, .f32⟩
  | .hbm, ⟨35, _⟩ => ⟨S2x8192x256, .f32⟩
  | .hbm, ⟨36, _⟩ => ⟨S256, .f32⟩
  | .hbm, ⟨37, _⟩ => ⟨S1x1x256, .f32⟩
  | .hbm, ⟨38, _⟩ => ⟨S2x8192x256, .f32⟩
  | .hbm, ⟨39, _⟩ => ⟨S2x8192x256, .f32⟩
  | .hbm, ⟨40, _⟩ => ⟨S2x8192x256, .f32⟩
  | .hbm, ⟨41, _⟩ => ⟨S_, .f32⟩
  | .hbm, ⟨42, _⟩ => ⟨S2x8192x256, .f32⟩
  | .hbm, ⟨43, _⟩ => ⟨S2x8192x256, .f32⟩
  | .hbm, ⟨44, _⟩ => ⟨S2x8192x256, .f32⟩
  | .hbm, ⟨45, _⟩ => ⟨S2x8192x256, .f32⟩
  | .hbm, ⟨46, _⟩ => ⟨S2x8192x256, .i1⟩
  | .hbm, ⟨47, _⟩ => ⟨S2x8192x256, .f32⟩
  | .hbm, ⟨48, _⟩ => ⟨S2x8192x256, .f32⟩
  | .hbm, ⟨49, _⟩ => ⟨S2x8192x256, .f32⟩
  | .hbm, ⟨50, _⟩ => ⟨S2x8192x256, .f32⟩
  | .hbm, ⟨51, _⟩ => ⟨S2x8192x256, .f32⟩
  | .hbm, ⟨52, _⟩ => ⟨S2x8192x256, .f32⟩
  | .hbm, ⟨53, _⟩ => ⟨S2x8192x256, .f32⟩
  | .hbm, ⟨54, _⟩ => ⟨S2x8192x256, .f32⟩
  | .hbm, ⟨55, _⟩ => ⟨S2x8192x256, .f32⟩
  | .hbm, ⟨56, _⟩ => ⟨S_, .f32⟩
  | .hbm, ⟨57, _⟩ => ⟨S2x8192x256, .f32⟩
  | .hbm, ⟨58, _⟩ => ⟨S2x8192x256, .f32⟩
  | .hbm, ⟨59, _⟩ => ⟨S64x256x512, .f32⟩
  | .hbm, ⟨60, _⟩ => ⟨S_, .f32⟩
  | .hbm, ⟨61, _⟩ => ⟨S64x512, .f32⟩
  | .hbm, ⟨62, _⟩ => ⟨S64x1x512, .f32⟩
  | .hbm, ⟨63, _⟩ => ⟨S_, .f32⟩
  | .hbm, ⟨64, _⟩ => ⟨S64x1x512, .f32⟩
  | .hbm, ⟨65, _⟩ => ⟨S64x1x512, .f32⟩
  | .hbm, ⟨66, _⟩ => ⟨S2x512x8192, .f32⟩
  | .hbm, ⟨67, _⟩ => ⟨S2x512x8192, .f32⟩
  | .hbm, ⟨68, _⟩ => ⟨S16384x512, .f32⟩
  | .hbm, ⟨69, _⟩ => ⟨S16384x256, .f32⟩
  | .hbm, ⟨70, _⟩ => ⟨S16384x256, .f32⟩
  | .hbm, ⟨71, _⟩ => ⟨S16384x512, .f32⟩
  | .hbm, ⟨72, _⟩ => ⟨S16384x512, .f32⟩
  | .hbm, ⟨73, _⟩ => ⟨S16384x256, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x8192x1024, .f32⟩
  | .hbm, ⟨81, _⟩ => ⟨S2x8192x1024, .f32⟩
  | .hbm, ⟨82, _⟩ => ⟨S16384x1024, .f32⟩
  | .hbm, ⟨83, _⟩ => ⟨S16384x1024, .bf16⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192x1024, .f32⟩
  | .hbm, ⟨91, _⟩ => ⟨S2x8192x1024, .f32⟩
  | .hbm, ⟨92, _⟩ => ⟨S16384x1024, .f32⟩
  | .hbm, ⟨93, _⟩ => ⟨S16384x1024, .bf16⟩
  | .hbm, ⟨94, _⟩ => ⟨S16384x512, .f32⟩
  | .hbm, ⟨95, _⟩ => ⟨S16384x512, .bf16⟩
  | .hbm, ⟨96, _⟩ => ⟨S2x512x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_5 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_7 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩

abbrev nD : Nat := 1
abbrev τ : Topo := Topo.v7x

variable {F : FTy → Type} [FloatOps F]
-- ==== MixSample.lean ====
abbrev S32x8x1024 : Shape := ⟨3, ![32, 8, 1024]⟩
abbrev S256x512 : Shape := ⟨2, ![256, 512]⟩
abbrev S256x1024 : Shape := ⟨2, ![256, 1024]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S256 : Shape := ⟨1, ![256]⟩
abbrev S256x1 : Shape := ⟨2, ![256, 1]⟩
abbrev S256x4096 : Shape := ⟨2, ![256, 4096]⟩

abbrev nBuf : Space → Nat
  | .hbm => 31
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S256x512, .f32⟩
  | .hbm, ⟨2, _⟩ => ⟨S256x512, .f32⟩
  | .hbm, ⟨3, _⟩ => ⟨S256x1024, .bf16⟩
  | .hbm, ⟨4, _⟩ => ⟨S256x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S256x1024, .f32⟩
  | .hbm, ⟨14, _⟩ => ⟨S512x1024, .f32⟩
  | .hbm, ⟨15, _⟩ => ⟨S512x1024, .bf16⟩
  | .hbm, ⟨16, _⟩ => ⟨S512x1024, .f32⟩
  | .hbm, ⟨17, _⟩ => ⟨S512x1024, .bf16⟩
  | .hbm, ⟨18, _⟩ => ⟨S1024x1024, .f32⟩
  | .hbm, ⟨19, _⟩ => ⟨S1024x1024, .bf16⟩
  | .hbm, ⟨20, _⟩ => ⟨S1024x4096, .f32⟩
  | .hbm, ⟨21, _⟩ => ⟨S1024x4096, .bf16⟩
  | .hbm, ⟨22, _⟩ => ⟨S4096x1024, .f32⟩
  | .hbm, ⟨23, _⟩ => ⟨S4096x1024, .bf16⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S256x1024, .bf16⟩
  | .local _ .vmem, ⟨4, _⟩ => ⟨S256x1024, .bf16⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== MixSampleRefIdeal.lean ====
abbrev S32x8x1024 : Shape := ⟨3, ![32, 8, 1024]⟩
abbrev S256x512 : Shape := ⟨2, ![256, 512]⟩
abbrev S256x1024 : Shape := ⟨2, ![256, 1024]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 86
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S256x512, .f32⟩
  | .hbm, ⟨2, _⟩ => ⟨S256x512, .f32⟩
  | .hbm, ⟨3, _⟩ => ⟨S256x1024, .bf16⟩
  | .hbm, ⟨4, _⟩ => ⟨S256x1024, .bf16⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x4096, .f32⟩
  | .hbm, ⟨9, _⟩ => ⟨S1x4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S512x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S512x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S1024x1024, .f32⟩
  | .hbm, ⟨24, _⟩ => ⟨S256x1024, .f32⟩
  | .hbm, ⟨25, _⟩ => ⟨S1024, .f32⟩
  | .hbm, ⟨26, _⟩ => ⟨S256x1024, .f32⟩
  | .hbm, ⟨27, _⟩ => ⟨S_, .f32⟩
  | .hbm, ⟨28, _⟩ => ⟨S256, .f32⟩
  | .hbm, ⟨29, _⟩ => ⟨S256x1, .f32⟩
  | .hbm, ⟨30, _⟩ => ⟨S_, .f32⟩
  | .hbm, ⟨31, _⟩ => ⟨S256x1, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S256x1, .f32⟩
  | .hbm, ⟨37, _⟩ => ⟨S256x1024, .f32⟩
  | .hbm, ⟨38, _⟩ => ⟨S256x1024, .f32⟩
  | .hbm, ⟨39, _⟩ => ⟨S1x1024, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S1024, .f32⟩
  | .hbm, ⟨44, _⟩ => ⟨S256x1024, .f32⟩
  | .hbm, ⟨45, _⟩ => ⟨S_, .f32⟩
  | .hbm, ⟨46, _⟩ => ⟨S256, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S_, .f32⟩
  | .hbm, ⟨52, _⟩ => ⟨S256x1, .f32⟩
  | .hbm, ⟨53, _⟩ => ⟨S256x1, .f32⟩
  | .hbm, ⟨54, _⟩ => ⟨S256x1, .f32⟩
  | .hbm, ⟨55, _⟩ => ⟨S256x1024, .f32⟩
  | .hbm, ⟨56, _⟩ => ⟨S256x1024, .f32⟩
  | .hbm, ⟨57, _⟩ => ⟨S1x1024, .f32⟩
  | .hbm, ⟨58, _⟩ => ⟨S256x1024, .f32⟩
  | .hbm, ⟨59, _⟩ => ⟨S256x1024, .f32⟩
  | .hbm, ⟨60, _⟩ => ⟨S1024x4096, .f32⟩
  | .hbm, ⟨61, _⟩ => ⟨S256x4096, .f32⟩
  | .hbm, ⟨62, _⟩ => ⟨S_, .f32⟩
  | .hbm, ⟨63, _⟩ => ⟨S256x4096, .f32⟩
  | .hbm, ⟨64, _⟩ => ⟨S256x4096, .f32⟩
  | .hbm, ⟨65, _⟩ => ⟨S256x4096, .f32⟩
  | .hbm, ⟨66, _⟩ => ⟨S4096x1024, .f32⟩
  | .hbm, ⟨67, _⟩ => ⟨S256x1024, .f32⟩
  | .hbm, ⟨68, _⟩ => ⟨S1024, .f32⟩
  | .hbm, ⟨69, _⟩ => ⟨S256x1024, .f32⟩
  | .hbm, ⟨70, _⟩ => ⟨S_, .f32⟩
  | .hbm, ⟨71, _⟩ => ⟨S256, .f32⟩
  | .hbm, ⟨72, _⟩ => ⟨S256x1, .f32⟩
  | .hbm, ⟨73, _⟩ => ⟨S_, .f32⟩
  | .hbm, ⟨74, _⟩ => ⟨S256x1, .f32⟩
  | .hbm, ⟨75, _⟩ => ⟨S256x1, .f32⟩
  | .hbm, ⟨76, _⟩ => ⟨S_, .f32⟩
  | .hbm, ⟨77, _⟩ => ⟨S256x1, .f32⟩
  | .hbm, ⟨78, _⟩ => ⟨S256x1, .f32⟩
  | .hbm, ⟨79, _⟩ => ⟨S256x1, .f32⟩
  | .hbm, ⟨80, _⟩ => ⟨S256x1024, .f32⟩
  | .hbm, ⟨81, _⟩ => ⟨S256x1024, .f32⟩
  | .hbm, ⟨82, _⟩ => ⟨S1x1024, .f32⟩
  | .hbm, ⟨83, _⟩ => ⟨S256x1024, .f32⟩
  | .hbm, ⟨84, _⟩ => ⟨S256x1024, .f32⟩
  | .hbm, ⟨85, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_cst : Ref sig .tc := ⟨.hbm, 62, rfl⟩
abbrev main_call0_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== ProjSample.lean ====
abbrev S32x8x1024 : Shape := ⟨3, ![32, 8, 1024]⟩
abbrev S1x1024x5136 : Shape := ⟨3, ![1, 1024, 5136]⟩
abbrev S1x16x256 : Shape := ⟨3, ![1, 16, 256]⟩
abbrev S1x256 : Shape := ⟨2, ![1, 256]⟩
abbrev S1x1024 : Shape := ⟨2, ![1, 1024]⟩
abbrev S256x1024 : Shape := ⟨2, ![256, 1024]⟩
abbrev S1x1024x3072 : Shape := ⟨3, ![1, 1024, 3072]⟩
abbrev S1024x3072 : Shape := ⟨2, ![1024, 3072]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S1x1024x2048 : Shape := ⟨3, ![1, 1024, 2048]⟩
abbrev S1024x2048 : Shape := ⟨2, ![1024, 2048]⟩
abbrev S16x256 : Shape := ⟨2, ![16, 256]⟩
abbrev S128x256 : Shape := ⟨2, ![128, 256]⟩
abbrev S256 : Shape := ⟨1, ![256]⟩
abbrev S1024 : Shape := ⟨1, ![1024]⟩
abbrev S256x512 : Shape := ⟨2, ![256, 512]⟩
abbrev S256x256 : Shape := ⟨2, ![256, 256]⟩
abbrev S1x1x512 : Shape := ⟨3, ![1, 1, 512]⟩
abbrev S256x1 : Shape := ⟨2, ![256, 1]⟩
abbrev S1024x512 : Shape := ⟨2, ![1024, 512]⟩
abbrev S512 : Shape := ⟨1, ![512]⟩
abbrev S1x512 : Shape := ⟨2, ![1, 512]⟩
abbrev S1024x256 : Shape := ⟨2, ![1024, 256]⟩
abbrev S256x128 : Shape := ⟨2, ![256, 128]⟩
abbrev S1024x1024 : Shape := ⟨2, ![1024, 1024]⟩

abbrev nBuf : Space → Nat
  | .hbm => 38
  | .vmem => 18
  | .smem => 0
  | _ => 0

abbrev bufTy : (tb : Table) → Fin (tcTables nBuf tb) → BufTy
  | .hbm, ⟨0, _⟩ => ⟨S32x8x1024, .f32⟩
  | .hbm, ⟨1, _⟩ => ⟨S1x1024x5136, .f32⟩
  | .hbm, ⟨2, _⟩ => ⟨S1x16x256, .f32⟩
  | .hbm, ⟨3, _⟩ => ⟨S1x256, .f32⟩
  | .hbm, ⟨4, _⟩ => ⟨S1x1024, .f32⟩
  | .hbm, ⟨5, _⟩ => ⟨S256x1024, .f32⟩
  | .hbm, ⟨6, _⟩ => ⟨S1x1024x3072, .f32⟩
  | .hbm, ⟨7, _⟩ => ⟨S1024x3072, .f32⟩
  | .hbm, ⟨8, _⟩ => ⟨S1024x3072, .bf16⟩
  | .hbm, ⟨9, _⟩ => ⟨S1x1024x16, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S16x256, .f32⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S128x256, .bf16⟩
  | .hbm, ⟨23, _⟩ => ⟨S256, .f32⟩
  | .hbm, ⟨24, _⟩ => ⟨S1x256, .f32⟩
  | .hbm, ⟨25, _⟩ => ⟨S1024, .f32⟩
  | .hbm, ⟨26, _⟩ => ⟨S1x1024, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x256, .f32⟩
  | .hbm, ⟨31, _⟩ => ⟨S256x256, .f32⟩
  | .hbm, ⟨32, _⟩ => ⟨S256x512, .f32⟩
  | .hbm, ⟨33, _⟩ => ⟨S256x512, .f32⟩
  | .hbm, ⟨34, _⟩ => ⟨S256x256, .f32⟩
  | .hbm, ⟨35, _⟩ => ⟨S256x1024, .bf16⟩
  | .hbm, ⟨36, _⟩ => ⟨S256x1024, .bf16⟩
  | .hbm, ⟨37, _⟩ => ⟨S1x1x512, .f32⟩
  | .local _ .vmem, ⟨0, _⟩ => ⟨S256x1024, .f32⟩
  | .local _ .vmem, ⟨1, _⟩ => ⟨S1x1024, .f32⟩
  | .local _ .vmem, ⟨2, _⟩ => ⟨S1024x3072, .bf16⟩
  | .local _ .vmem, ⟨3, _⟩ => ⟨S1024x128, .bf16⟩
  | .local _ .vmem, ⟨4, _⟩ => ⟨S1024x2048, .bf16⟩
  | .local _ .vmem, ⟨5, _⟩ => ⟨S128x256, .bf16⟩
  | .local _ .vmem, ⟨6, _⟩ => ⟨S1x256, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x512, .f32⟩
  | .local _ .vmem, ⟨13, _⟩ => ⟨S256x512, .f32⟩
  | .local _ .vmem, ⟨14, _⟩ => ⟨S256x256, .f32⟩
  | .local _ .vmem, ⟨15, _⟩ => ⟨S256x1024, .bf16⟩
  | .local _ .vmem, ⟨16, _⟩ => ⟨S256x1024, .bf16⟩
  | .local _ .vmem, ⟨17, _⟩ => ⟨S1x1x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev main_v18_9 : Ref sig .tc := ⟨.hbm, 36, rfl⟩
abbrev main_v18_10 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S1x1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== ProjSampleRefIdeal.lean ====
abbrev S32x8x1024 : Shape := ⟨3, ![32, 8, 1024]⟩
abbrev S1x1024x5136 : Shape := ⟨3, ![1, 1024, 5136]⟩
abbrev S1x16x256 : Shape := ⟨3, ![1, 16, 256]⟩
abbrev S1x256 : Shape := ⟨2, ![1, 256]⟩
abbrev S1x1024 : Shape := ⟨2, ![1, 1024]⟩
abbrev S1024 : Shape := ⟨1, ![1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S1024x5136 : Shape := ⟨2, ![1024, 5136]⟩
abbrev S32x8x5136 : Shape := ⟨3, ![32, 8, 5136]⟩
abbrev S32x8x512 : Shape := ⟨3, ![32, 8, 512]⟩
abbrev S32x8x256 : Shape := ⟨3, ![32, 8, 256]⟩
abbrev S32x8x16 : Shape := ⟨3, ![32, 8, 16]⟩
abbrev S16x256 : Shape := ⟨2, ![16, 256]⟩
abbrev S256 : Shape := ⟨1, ![256]⟩
abbrev S1x1x256 : Shape := ⟨3, ![1, 1, 256]⟩
abbrev S256x512 : Shape := ⟨2, ![256, 512]⟩
abbrev S256x256 : Shape := ⟨2, ![256, 256]⟩
abbrev S256x1024 : Shape := ⟨2, ![256, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x1024x5136, .f32⟩
  | .hbm, ⟨2, _⟩ => ⟨S1x16x256, .f32⟩
  | .hbm, ⟨3, _⟩ => ⟨S1x256, .f32⟩
  | .hbm, ⟨4, _⟩ => ⟨S1x1024, .f32⟩
  | .hbm, ⟨5, _⟩ => ⟨S1024, .f32⟩
  | .hbm, ⟨6, _⟩ => ⟨S32x8x1024, .f32⟩
  | .hbm, ⟨7, _⟩ => ⟨S_, .f32⟩
  | .hbm, ⟨8, _⟩ => ⟨S32x8, .f32⟩
  | .hbm, ⟨9, _⟩ => ⟨S32x8x1, .f32⟩
  | .hbm, ⟨10, _⟩ => ⟨S_, .f32⟩
  | .hbm, ⟨11, _⟩ => ⟨S32x8x1, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x1, .f32⟩
  | .hbm, ⟨17, _⟩ => ⟨S32x8x1024, .f32⟩
  | .hbm, ⟨18, _⟩ => ⟨S32x8x1024, .f32⟩
  | .hbm, ⟨19, _⟩ => ⟨S1x1x1024, .f32⟩
  | .hbm, ⟨20, _⟩ => ⟨S32x8x1024, .f32⟩
  | .hbm, ⟨21, _⟩ => ⟨S32x8x1024, .f32⟩
  | .hbm, ⟨22, _⟩ => ⟨S1024x5136, .f32⟩
  | .hbm, ⟨23, _⟩ => ⟨S32x8x5136, .f32⟩
  | .hbm, ⟨24, _⟩ => ⟨S32x8x512, .f32⟩
  | .hbm, ⟨25, _⟩ => ⟨S32x8x512, .f32⟩
  | .hbm, ⟨26, _⟩ => ⟨S32x8x512, .f32⟩
  | .hbm, ⟨27, _⟩ => ⟨S32x8x256, .f32⟩
  | .hbm, ⟨28, _⟩ => ⟨S32x8x256, .f32⟩
  | .hbm, ⟨29, _⟩ => ⟨S32x8x512, .f32⟩
  | .hbm, ⟨30, _⟩ => ⟨S32x8x512, .f32⟩
  | .hbm, ⟨31, _⟩ => ⟨S32x8x16, .f32⟩
  | .hbm, ⟨32, _⟩ => ⟨S32x8x1024, .f32⟩
  | .hbm, ⟨33, _⟩ => ⟨S32x8x1024, .f32⟩
  | .hbm, ⟨34, _⟩ => ⟨S16x256, .f32⟩
  | .hbm, ⟨35, _⟩ => ⟨S32x8x256, .f32⟩
  | .hbm, ⟨36, _⟩ => ⟨S256, .f32⟩
  | .hbm, ⟨37, _⟩ => ⟨S1x1x256, .f32⟩
  | .hbm, ⟨38, _⟩ => ⟨S32x8x256, .f32⟩
  | .hbm, ⟨39, _⟩ => ⟨S32x8x256, .f32⟩
  | .hbm, ⟨40, _⟩ => ⟨S32x8x256, .f32⟩
  | .hbm, ⟨41, _⟩ => ⟨S_, .f32⟩
  | .hbm, ⟨42, _⟩ => ⟨S32x8x256, .f32⟩
  | .hbm, ⟨43, _⟩ => ⟨S32x8x256, .f32⟩
  | .hbm, ⟨44, _⟩ => ⟨S32x8x256, .f32⟩
  | .hbm, ⟨45, _⟩ => ⟨S32x8x256, .f32⟩
  | .hbm, ⟨46, _⟩ => ⟨S32x8x256, .i1⟩
  | .hbm, ⟨47, _⟩ => ⟨S32x8x256, .f32⟩
  | .hbm, ⟨48, _⟩ => ⟨S32x8x256, .f32⟩
  | .hbm, ⟨49, _⟩ => ⟨S32x8x256, .f32⟩
  | .hbm, ⟨50, _⟩ => ⟨S32x8x256, .f32⟩
  | .hbm, ⟨51, _⟩ => ⟨S32x8x256, .f32⟩
  | .hbm, ⟨52, _⟩ => ⟨S32x8x256, .f32⟩
  | .hbm, ⟨53, _⟩ => ⟨S32x8x256, .f32⟩
  | .hbm, ⟨54, _⟩ => ⟨S32x8x256, .f32⟩
  | .hbm, ⟨55, _⟩ => ⟨S32x8x256, .f32⟩
  | .hbm, ⟨56, _⟩ => ⟨S_, .f32⟩
  | .hbm, ⟨57, _⟩ => ⟨S32x8x256, .f32⟩
  | .hbm, ⟨58, _⟩ => ⟨S32x8x256, .f32⟩
  | .hbm, ⟨59, _⟩ => ⟨S256x512, .f32⟩
  | .hbm, ⟨60, _⟩ => ⟨S256x512, .f32⟩
  | .hbm, ⟨61, _⟩ => ⟨S256x512, .f32⟩
  | .hbm, ⟨62, _⟩ => ⟨S256x256, .f32⟩
  | .hbm, ⟨63, _⟩ => ⟨S256x256, .f32⟩
  | .hbm, ⟨64, _⟩ => ⟨S256x512, .f32⟩
  | .hbm, ⟨65, _⟩ => ⟨S256x512, .f32⟩
  | .hbm, ⟨66, _⟩ => ⟨S256x256, .f32⟩
  | .hbm, ⟨67, _⟩ => ⟨S32x8x1024, .f32⟩
  | .hbm, ⟨68, _⟩ => ⟨S32x8x1024, .f32⟩
  | .hbm, ⟨69, _⟩ => ⟨S_, .f32⟩
  | .hbm, ⟨70, _⟩ => ⟨S32x8x1024, .f32⟩
  | .hbm, ⟨71, _⟩ => ⟨S32x8x1024, .f32⟩
  | .hbm, ⟨72, _⟩ => ⟨S_, .f32⟩
  | .hbm, ⟨73, _⟩ => ⟨S32x8x1024, .f32⟩
  | .hbm, ⟨74, _⟩ => ⟨S32x8x1024, .f32⟩
  | .hbm, ⟨75, _⟩ => ⟨S256x1024, .f32⟩
  | .hbm, ⟨76, _⟩ => ⟨S256x1024, .bf16⟩
  | .hbm, ⟨77, _⟩ => ⟨S32x8x1024, .f32⟩
  | .hbm, ⟨78, _⟩ => ⟨S32x8x1024, .f32⟩
  | .hbm, ⟨79, _⟩ => ⟨S_, .f32⟩
  | .hbm, ⟨80, _⟩ => ⟨S32x8x1024, .f32⟩
  | .hbm, ⟨81, _⟩ => ⟨S32x8x1024, .f32⟩
  | .hbm, ⟨82, _⟩ => ⟨S_, .f32⟩
  | .hbm, ⟨83, _⟩ => ⟨S32x8x1024, .f32⟩
  | .hbm, ⟨84, _⟩ => ⟨S32x8x1024, .f32⟩
  | .hbm, ⟨85, _⟩ => ⟨S256x1024, .f32⟩
  | .hbm, ⟨86, _⟩ => ⟨S256x1024, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v32 : Ref sig .tc := ⟨.hbm, 55, rfl⟩
abbrev main_cst_2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== GlaPrompt.lean ====
abbrev S2x8192x256 : Shape := ⟨3, ![2, 8192, 256]⟩
abbrev S2x8192x512 : Shape := ⟨3, ![2, 8192, 512]⟩
abbrev S1x128 : Shape := ⟨2, ![1, 128]⟩
abbrev S2x4x64x128 : Shape := ⟨4, ![2, 4, 64, 128]⟩
abbrev S2x2x128x128 : Shape := ⟨4, ![2, 2, 128, 128]⟩
abbrev S1x512x256 : Shape := ⟨3, ![1, 512, 256]⟩
abbrev S1x512x512 : Shape := ⟨3, ![1, 512, 512]⟩
abbrev S1x2x128x128 : Shape := ⟨4, ![1, 2, 128, 128]⟩
abbrev S2x128x128 : Shape := ⟨3, ![2, 128, 128]⟩
abbrev S1x1x128x128 : Shape := ⟨4, ![1, 1, 128, 128]⟩
abbrev S128x128 : Shape := ⟨2, ![128, 128]⟩
abbrev S1x128x128 : Shape := ⟨3, ![1, 128, 128]⟩
abbrev S16x8x128 : Shape := ⟨3, ![16, 8, 128]⟩
abbrev S1x128x256 : Shape := ⟨3, ![1, 128, 256]⟩
abbrev S128x256 : Shape := ⟨2, ![128, 256]⟩
abbrev S16x1x128 : Shape := ⟨3, ![16, 1, 128]⟩
abbrev S16x8 : Shape := ⟨2, ![16, 8]⟩
abbrev S16x8x1 : Shape := ⟨3, ![16, 8, 1]⟩
abbrev S8x16x128 : Shape := ⟨3, ![8, 16, 128]⟩
abbrev S8x1x128 : Shape := ⟨3, ![8, 1, 128]⟩
abbrev S4x32x128 : Shape := ⟨3, ![4, 32, 128]⟩
abbrev S4x1x128 : Shape := ⟨3, ![4, 1, 128]⟩
abbrev S2x64x128 : Shape := ⟨3, ![2, 64, 128]⟩
abbrev S2x1x128 : Shape := ⟨3, ![2, 1, 128]⟩
abbrev S1x1x128 : Shape := ⟨3, ![1, 1, 128]⟩
abbrev S128 : Shape := ⟨1, ![128]⟩
abbrev S128x1 : Shape := ⟨2, ![128, 1]⟩

abbrev nBuf : Space → Nat
  | .hbm => 10
  | .vmem => 18
  | .smem => 0
  | _ => 0

abbrev bufTy : (tb : Table) → Fin (tcTables nBuf tb) → BufTy
  | .hbm, ⟨0, _⟩ => ⟨S2x8192x256, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S2x8192x512, .f32⟩
  | .hbm, ⟨5, _⟩ => ⟨S1x128, .f32⟩
  | .hbm, ⟨6, _⟩ => ⟨S2x4x64x128, .f32⟩
  | .hbm, ⟨7, _⟩ => ⟨S2x2x128x128, .f32⟩
  | .hbm, ⟨8, _⟩ => ⟨S2x8192x512, .f32⟩
  | .hbm, ⟨9, _⟩ => ⟨S2x2x128x128, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1x512x512, .f32⟩
  | .local _ .vmem, ⟨9, _⟩ => ⟨S1x512x512, .f32⟩
  | .local _ .vmem, ⟨10, _⟩ => ⟨S1x128, .f32⟩
  | .local _ .vmem, ⟨11, _⟩ => ⟨S1x2x128x128, .f32⟩
  | .local _ .vmem, ⟨12, _⟩ => ⟨S1x2x128x128, .f32⟩
  | .local _ .vmem, ⟨13, _⟩ => ⟨S1x512x512, .f32⟩
  | .local _ .vmem, ⟨14, _⟩ => ⟨S1x512x512, .f32⟩
  | .local _ .vmem, ⟨15, _⟩ => ⟨S1x2x128x128, .f32⟩
  | .local _ .vmem, ⟨16, _⟩ => ⟨S1x2x128x128, .f32⟩
  | .local _ .vmem, ⟨17, _⟩ => ⟨S2x128x128, .f32⟩
  | _, _ => ⟨S2x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v6684 : BitVec 1 := Scalar.cmpi .eq arg1 c15_i32
  let v6685 : BitVec 32 := Scalar.extui v6684
  let c0_i32_1949 : BitVec 32 := 0#32
  let v6686 : BitVec 1 := Scalar.cmpi .ne v6685 c0_i32_1949
  v6686

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaPromptRefIdeal.lean ====
abbrev S2x8192x256 : Shape := ⟨3, ![2, 8192, 256]⟩
abbrev S2x8192x512 : Shape := ⟨3, ![2, 8192, 512]⟩
abbrev S1x128 : Shape := ⟨2, ![1, 128]⟩
abbrev S2x4x64x128 : Shape := ⟨4, ![2, 4, 64, 128]⟩
abbrev S2x8192x4x64 : Shape := ⟨4, ![2, 8192, 4, 64]⟩
abbrev S2x4x8192x64 : Shape := ⟨4, ![2, 4, 8192, 64]⟩
abbrev S2x8192x4x128 : Shape := ⟨4, ![2, 8192, 4, 128]⟩
abbrev S2x4x8192x128 : Shape := ⟨4, ![2, 4, 8192, 128]⟩
abbrev S_ : Shape := ⟨0, ![]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S2x2x128x128 : Shape := ⟨4, ![2, 2, 128, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x256, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S2x8192x512, .f32⟩
  | .hbm, ⟨5, _⟩ => ⟨S1x128, .f32⟩
  | .hbm, ⟨6, _⟩ => ⟨S2x4x64x128, .f32⟩
  | .hbm, ⟨7, _⟩ => ⟨S2x8192x4x64, .f32⟩
  | .hbm, ⟨8, _⟩ => ⟨S2x4x8192x64, .f32⟩
  | .hbm, ⟨9, _⟩ => ⟨S2x8192x4x128, .f32⟩
  | .hbm, ⟨10, _⟩ => ⟨S2x4x8192x128, .f32⟩
  | .hbm, ⟨11, _⟩ => ⟨S2x8192x4x64, .f32⟩
  | .hbm, ⟨12, _⟩ => ⟨S2x4x8192x64, .f32⟩
  | .hbm, ⟨13, _⟩ => ⟨S_, .f32⟩
  | .hbm, ⟨14, _⟩ => ⟨S_, .f32⟩
  | .hbm, ⟨15, _⟩ => ⟨S2x4x8192x64, .f32⟩
  | .hbm, ⟨16, _⟩ => ⟨S2x4x1x64, .f32⟩
  | .hbm, ⟨17, _⟩ => ⟨S2x4x64, .f32⟩
  | .hbm, ⟨18, _⟩ => ⟨S2x4x64, .f32⟩
  | .hbm, ⟨19, _⟩ => ⟨S2x4x64x1, .f32⟩
  | .hbm, ⟨20, _⟩ => ⟨S2x4x64x128, .f32⟩
  | .hbm, ⟨21, _⟩ => ⟨S2x4x64x128, .f32⟩
  | .hbm, ⟨22, _⟩ => ⟨S2x4x8192x64, .f32⟩
  | .hbm, ⟨23, _⟩ => ⟨S2x4x8192x64, .f32⟩
  | .hbm, ⟨24, _⟩ => ⟨S2x4x8192x64, .f32⟩
  | .hbm, ⟨25, _⟩ => ⟨S2x4x8192x64, .f32⟩
  | .hbm, ⟨26, _⟩ => ⟨S2x4x64x128, .f32⟩
  | .hbm, ⟨27, _⟩ => ⟨S2x4x64x128, .f32⟩
  | .hbm, ⟨28, _⟩ => ⟨S2x2x128x128, .f32⟩
  | _, _ => ⟨S2x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_call0_cst : Ref sig .tc := ⟨.hbm, 13, rfl⟩
abbrev main_call0_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.Rows.lean ====
/- The mathematics of one row of the layer: root-mean-square normalisation, the mix of the two branches, the
   feed-forward network. Everything is over the extended reals, for rows of any length, with no program in sight. -/
module

public import Idealize.ShloMosaic.Lib.Pipeline.ValueKit.Point

@[expose] public section

noncomputable section

namespace Cert.Rows

open Idealize.ShloMosaic

/-- A row divided by the root of its mean square: `n` is the length as a value, `e` the small constant under the root. -/
def rms {w : ℕ} (n e : EReal) (v : Fin w → EReal) (j : Fin w) : EReal :=
  v j * Ideal.rsqrt (Ideal.div (∑ k, v k * v k) n + e)

/-- The two branches through their matrices, each under its gate, added, and the sum through the output matrix. -/
def merge {d a : ℕ} (sa sb : Fin d → EReal) (oa og : Fin a → EReal) (wa wb : Fin a → Fin d → EReal)
    (wo : Fin d → Fin d → EReal) (j : Fin d) : EReal :=
  ∑ k, (sa k * ∑ l, oa l * wa l k + sb k * ∑ l, og l * wb l k) * wo k j

/-- The squared rectifier network on a row already normalised. -/
def relu2 {d f : ℕ} (h : Fin d → EReal) (wu : Fin d → Fin f → EReal) (wd : Fin f → Fin d → EReal) (j : Fin d) : EReal :=
  ∑ k, max (∑ l, h l * wu l k) 0 * max (∑ l, h l * wu l k) 0 * wd k j

/-- The row after the branches: the row plus the normalised merge under its gain. -/
def afterMix {d a : ℕ} (n e : EReal) (x sa sb : Fin d → EReal) (oa og : Fin a → EReal) (wa wb : Fin a → Fin d → EReal)
    (wo : Fin d → Fin d → EReal) (g : Fin d → EReal) (j : Fin d) : EReal :=
  x j + rms n e (merge sa sb oa og wa wb wo) j * g j

/-- The feed-forward network on a row: normalise, network, normalise, add. -/
def afterFfn {d f : ℕ} (n e : EReal) (x : Fin d → EReal) (wu : Fin d → Fin f → EReal) (wd : Fin f → Fin d → EReal)
    (gi go : Fin d → EReal) (j : Fin d) : EReal :=
  x j + rms n e (relu2 (fun l => rms n e x l * gi l) wu wd) j * go j

/-- The whole part after the mixers at row `r`, lane `j`, from the arrays as they are given: `x0` the residual rows,
    `x1` and `x2` the two mixers' rows, `x3` and `x4` their gates, `x5` to `x9` the matrices, `x10` to `x12` the gains. -/
def mixAt {r : ℕ} (x0 : Shape.Idx ⟨2, ![r, 1024]⟩ → EReal) (x1 x2 : Shape.Idx ⟨2, ![r, 512]⟩ → EReal)
    (x3 x4 : Shape.Idx ⟨2, ![r, 1024]⟩ → EReal) (x5 x6 : Shape.Idx ⟨3, ![1, 512, 1024]⟩ → EReal)
    (x7 : Shape.Idx ⟨3, ![1, 1024, 1024]⟩ → EReal) (x8 : Shape.Idx ⟨3, ![1, 1024, 4096]⟩ → EReal)
    (x9 : Shape.Idx ⟨3, ![1, 4096, 1024]⟩ → EReal) (x10 x11 x12 : Shape.Idx ⟨2, ![1, 1024]⟩ → EReal)
    (i : Fin r) (j : Fin 1024) : EReal :=
  afterFfn (Ideal.ofBits .f32 0x44800000#32) (Ideal.ofBits .f32 0x358637BD#32)
    (afterMix (Ideal.ofBits .f32 0x44800000#32) (Ideal.ofBits .f32 0x358637BD#32) (fun k => x0 (ix2 i k))
      (fun k => x3 (ix2 i k)) (fun k => x4 (ix2 i k)) (fun k => x1 (ix2 i k)) (fun k => x2 (ix2 i k))
      (fun l k => x5 (ix3 0 l k)) (fun l k => x6 (ix3 0 l k)) (fun l k => x7 (ix3 0 l k)) (fun k => x10 (ix2 0 k)))
    (fun l k => x8 (ix3 0 l k)) (fun l k => x9 (ix3 0 l k)) (fun k => x11 (ix2 0 k)) (fun k => x12 (ix2 0 k)) j

end Cert.Rows

end
-- ==== Proof.GlaRows.lean ====
/- The mathematics of the gated linear attention over one chunk of eight rows: one head's decayed scores, its rows and its
   state, and the arrays read head by head. Everything is over the extended reals, with no program in sight. -/
module

public import proofs.«01_k».proof.Proof.Rows

@[expose] public section

noncomputable section

namespace Cert.Gla

open Idealize.ShloMosaic

/-- The running sum of a head's log decays down to row `t`. -/
def cum (a : Fin 8 → Fin 64 → EReal) (t : Fin 8) (d : Fin 64) : EReal := ∑ s : Fin 8, if s ≤ t then a s d else 0

/-- The score of row `t` on row `s`: no score on a later row, and a decay between the two per channel. -/
def score (q k a : Fin 8 → Fin 64 → EReal) (t s : Fin 8) : EReal :=
  ∑ d, q t d * k s d * Ideal.exp (if s ≤ t then cum a t d - cum a s d else ⊥)

/-- A head's row: the scored values of the chunk, and what the carried state answers. -/
def row (q k a : Fin 8 → Fin 64 → EReal) (v : Fin 8 → Fin 128 → EReal) (s0 : Fin 64 → Fin 128 → EReal)
    (t : Fin 8) (e : Fin 128) : EReal :=
  (∑ s, score q k a t s * v s e) + ∑ d, q t d * Ideal.exp (cum a t d) * s0 d e

/-- A head's state after the chunk. -/
def state (k a : Fin 8 → Fin 64 → EReal) (v : Fin 8 → Fin 128 → EReal) (s0 : Fin 64 → Fin 128 → EReal)
    (d : Fin 64) (e : Fin 128) : EReal :=
  Ideal.exp (cum a 7 d) * s0 d e + ∑ s, k s d * Ideal.exp (cum a 7 d - cum a s d) * v s e

/-- A head's row normalised, under its gain and its gate `g · σ(g)`. -/
def gated (o gain g : Fin 128 → EReal) (e : Fin 128) : EReal :=
  Rows.rms (Ideal.ofBits .f32 0x43000000#32) (Ideal.ofBits .f32 0x358637BD#32) o e * gain e *
    (g e * Ideal.div (Ideal.ofBits .f32 0x3F800000#32) (Ideal.ofBits .f32 0x3F800000#32 + Ideal.exp (- g e)))

/-- Head `h` of batch `b` in an array whose lanes are four heads of 64. -/
def head64 (x : Shape.Idx ⟨3, ![32, 8, 256]⟩ → EReal) (b : Fin 32) (h : Fin 4) (t : Fin 8) (d : Fin 64) : EReal :=
  x (ix3 b t ⟨h.val * 64 + d.val, by omega⟩)

/-- Head `h` of batch `b` in an array whose lanes are four heads of 128. -/
def head128 (x : Shape.Idx ⟨3, ![32, 8, 512]⟩ → EReal) (b : Fin 32) (h : Fin 4) (t : Fin 8) (e : Fin 128) : EReal :=
  x (ix3 b t ⟨h.val * 128 + e.val, by omega⟩)

section
variable (x0 x1 : Shape.Idx ⟨3, ![32, 8, 256]⟩ → EReal) (x2 : Shape.Idx ⟨3, ![32, 8, 512]⟩ → EReal)
  (x3 : Shape.Idx ⟨3, ![32, 8, 256]⟩ → EReal) (x4 : Shape.Idx ⟨3, ![32, 8, 512]⟩ → EReal)
  (x5 : Shape.Idx ⟨2, ![1, 128]⟩ → EReal) (x6 : Shape.Idx ⟨4, ![32, 4, 64, 128]⟩ → EReal)

/-- Head `h`'s row `t` of batch `b` before the normalisation: the queries enter under the scale 1/8. -/
def rowAt (b : Fin 32) (h : Fin 4) (t : Fin 8) (e : Fin 128) : EReal :=
  row (fun t d => head64 x0 b h t d * Ideal.ofBits .f32 0x3E000000#32) (head64 x1 b h) (head64 x3 b h) (head128 x2 b h)
    (fun d e => x6 (ix4 b h d e)) t e

/-- The first result: lane `j` of row `t` belongs to head `j / 128`. -/
def resultAt (b : Fin 32) (t : Fin 8) (j : Fin 512) : EReal :=
  gated (rowAt x0 x1 x2 x3 x6 b ⟨j.val / 128, by omega⟩ t) (fun e => x5 (ix2 0 e)) (head128 x4 b ⟨j.val / 128, by omega⟩ t)
    ⟨j.val % 128, by omega⟩

/-- The second result: two heads' states one under the other. -/
def stateAt (b : Fin 32) (p : Fin 2) (l e : Fin 128) : EReal :=
  state (head64 x1 b ⟨p.val * 2 + l.val / 64, by omega⟩) (head64 x3 b ⟨p.val * 2 + l.val / 64, by omega⟩)
    (head128 x2 b ⟨p.val * 2 + l.val / 64, by omega⟩)
    (fun d e => x6 (ix4 b ⟨p.val * 2 + l.val / 64, by omega⟩ d e)) ⟨l.val % 64, by omega⟩ e

end

end Cert.Gla

end
-- ==== Proof.GlaReference.lean ====
/- What the plain program of the gated linear attention computes: `Gla.resultAt` and `Gla.stateAt`. -/
module

public import proofs.«01_k».proof.Proof.Gen.ReferenceIdeal.Read
public import proofs.«01_k».proof.Proof.GlaRows

@[expose] public section

set_option maxRecDepth 16384

noncomputable section

namespace Cert.ReferenceIdeal.RefValue

open Idealize.ShloMosaic Idealize.ShloMosaic.TcCoe Idealize.SL.Sem
open Cert.ReferenceIdeal Cert.ReferenceIdeal.Read

variable (x0 x1 : (⟨S32x8x256, .f32⟩ : BufTy).Contents (Elt Ideal)) (x2 : (⟨S32x8x512, .f32⟩ : BufTy).Contents (Elt Ideal))
  (x3 : (⟨S32x8x256, .f32⟩ : BufTy).Contents (Elt Ideal)) (x4 : (⟨S32x8x512, .f32⟩ : BufTy).Contents (Elt Ideal))
  (x5 : (⟨S1x128, .f32⟩ : BufTy).Contents (Elt Ideal)) (x6 : (⟨S32x4x64x128, .f32⟩ : BufTy).Contents (Elt Ideal))

theorem v3_at (b : Fin 32) (h : Fin 4) (t : Fin 8) (d : Fin 64) : val_main_v3 (F := Ideal) x0 (ix4 b h t d) =
    Gla.head64 x0 b h t d * Ideal.ofBits .f32 0x3E000000#32 := by
  unfold Gla.head64
  pointwise [val_main_v3, val_main_v2, val_main_v1, val_main_v0, val_main_cst]

theorem v5_at (b : Fin 32) (h : Fin 4) (t : Fin 8) (d : Fin 64) : val_main_v5 (F := Ideal) x1 (ix4 b h t d) =
    Gla.head64 x1 b h t d := by
  unfold Gla.head64
  pointwise [val_main_v5, val_main_v4]

theorem v7_at (b : Fin 32) (h : Fin 4) (t : Fin 8) (e : Fin 128) : val_main_v7 (F := Ideal) x2 (ix4 b h t e) =
    Gla.head128 x2 b h t e := by
  unfold Gla.head128
  pointwise [val_main_v7, val_main_v6]

theorem v9_at (b : Fin 32) (h : Fin 4) (t : Fin 8) (d : Fin 64) : val_main_v9 (F := Ideal) x3 (ix4 b h t d) =
    Gla.head64 x3 b h t d := by
  unfold Gla.head64
  pointwise [val_main_v9, val_main_v8]

/-- The window of a running sum over eight rows. -/
abbrev win : Shape := ⟨4, ![1, 1, 8, 1]⟩

theorem win_at : ∀ n : Fin win.numel, (win.rowMajor.symm n 0).val = 0 ∧ (win.rowMajor.symm n 1).val = 0 ∧
    (win.rowMajor.symm n 2).val = n.val ∧ (win.rowMajor.symm n 3).val = 0 := by decide +kernel

/-- A fold that adds is a sum. -/
theorem foldl_add {n : ℕ} (f : Fin n → EReal) (v : EReal) : (List.finRange n).foldl (fun r k => r + f k) v = v + ∑ k, f k := by
  have : ∀ (l : List (Fin n)) (v : EReal), l.foldl (fun r k => r + f k) v = v + (l.map f).sum := by
    intro l; induction l with
    | nil => intro v; simp
    | cons a l ih => intro v; simp [ih, add_assoc]
  rw [this, ← List.ofFn_eq_map, List.sum_ofFn]

/-- Eight places ending at row `t`, the ones before the first row left out: the rows up to `t`. -/
theorem sum_ending (g : Fin 8 → EReal) (t : Fin 8) :
    (∑ n : Fin 8, if hn : 7 ≤ t.val + n.val then g ⟨t.val + n.val - 7, by omega⟩ else 0) = ∑ s, if s ≤ t then g s else 0 := by
  fin_cases t <;> simp [Fin.sum_univ_eight, Fin.le_def]

/-- The running sum of the log decays. -/
theorem v12_at (b : Fin 32) (h : Fin 4) (t : Fin 8) (d : Fin 64) : val_main_v12 (F := Ideal) x3 (ix4 b h t d) =
    Gla.cum (Gla.head64 x3 b h) t d := by
  unfold val_main_v12 Host.reduceWindowAdd
  rw [Ideal.hostReduceWindowAdd_def]
  unfold Ideal.hostReduceWindowAdd Host.reduceWindow
  have hz : ∀ i, val_main_call1_call0_v0 (F := Ideal) i = 0 := by
    intro i
    unfold val_main_call1_call0_v0 val_main_call1_call0_cst
    exact Ideal.ofBits_zero_f32
  rw [hz]
  dsimp only
  refine (foldl_add (n := 8) _ _).trans ?_
  rw [zero_add]
  unfold Gla.cum
  refine Eq.trans (Finset.sum_congr rfl fun n _ => ?_) (sum_ending (fun s => Gla.head64 x3 b h s d) t)
  obtain ⟨w0, w1, w2, w3⟩ := win_at n
  have hn : n.val < 8 := n.isLt
  have ht : t.val < 8 := t.isLt
  split
  · next hin =>
    have h2 := hin 2
    change 7 ≤ t.val * 1 + (win.rowMajor.symm n 2).val ∧ _ at h2
    rw [w2] at h2
    rw [dif_pos (by omega), ← v9_at]
    refine congrArg (val_main_v9 (F := Ideal) x3) (funext fun a => Fin.ext ?_)
    match a with
    | ⟨0, _⟩ => show b.val * 1 + (win.rowMajor.symm n 0).val - 0 = b.val; omega
    | ⟨1, _⟩ => show h.val * 1 + (win.rowMajor.symm n 1).val - 0 = h.val; omega
    | ⟨2, _⟩ => show t.val * 1 + (win.rowMajor.symm n 2).val - 7 = t.val + n.val - 7; omega
    | ⟨3, _⟩ => show d.val * 1 + (win.rowMajor.symm n 3).val - 0 = d.val; omega
  · next hin =>
    rw [dif_neg]
    intro hle
    refine hin fun a => ?_
    match a with
    | ⟨0, _⟩ => show 0 ≤ b.val * 1 + (win.rowMajor.symm n 0).val ∧ b.val * 1 + (win.rowMajor.symm n 0).val - 0 < 32; omega
    | ⟨1, _⟩ => show 0 ≤ h.val * 1 + (win.rowMajor.symm n 1).val ∧ h.val * 1 + (win.rowMajor.symm n 1).val - 0 < 4; omega
    | ⟨2, _⟩ => show 7 ≤ t.val * 1 + (win.rowMajor.symm n 2).val ∧ t.val * 1 + (win.rowMajor.symm n 2).val - 7 < 8; omega
    | ⟨3, _⟩ => show 0 ≤ d.val * 1 + (win.rowMajor.symm n 3).val ∧ d.val * 1 + (win.rowMajor.symm n 3).val - 0 < 64; omega

/-- The causal mask. -/
theorem mask_at : ∀ t s : Fin 8, Scalar.select (IntOp.cmpi .sge (IntOp.addi (BitVec.ofNat 32 t.val) 0#32) (BitVec.ofNat 32 s.val)) 1#1 0#1 =
    if s ≤ t then 1#1 else 0#1 := by decide +kernel

theorem v11_at (t s : Fin 8) : val_main_v11 (F := Ideal) (ix2 t s) = if s ≤ t then 1#1 else 0#1 := by
  rw [← mask_at]
  pointwise [val_main_v11, val_main_v10, val_main_c, val_main_call0_v0, val_main_call0_v1, val_main_call0_v2, val_main_call0_v3, val_main_call0_v4,
    val_main_call0_v5, val_main_call0_c, val_main_call0_c_0]

/-- The scores. -/
theorem v27_at (b : Fin 32) (h : Fin 4) (t s : Fin 8) : val_main_v27 (F := Ideal) x0 x1 x3 (ix4 b h t s) =
    Gla.score (fun t d => Gla.head64 x0 b h t d * Ideal.ofBits .f32 0x3E000000#32) (Gla.head64 x1 b h) (Gla.head64 x3 b h) t s := by
  have e : val_main_v27 (F := Ideal) x0 x1 x3 (ix4 b h t s) = ∑ d : Fin 64, val_main_v3 (F := Ideal) x0 (ix4 b h t d) *
      val_main_v5 (F := Ideal) x1 (ix4 b h s d) * Ideal.exp (Scalar.select (val_main_v11 (F := Ideal) (ix2 t s))
        (val_main_v12 (F := Ideal) x3 (ix4 b h t d) - val_main_v12 (F := Ideal) x3 (ix4 b h s d))
        (Ideal.ofBits .f32 0xFF800000#32)) := by
    pointwise [val_main_v27, val_main_v26, val_main_v25, val_main_v24, val_main_v23, val_main_v22, val_main_v21, val_main_v20,
      val_main_v19, val_main_v18, val_main_v17, val_main_v16, val_main_v15, val_main_v14, val_main_v13, val_main_cst_0,
      val_main_cst_1, val_main_call2_v0, val_main_call2_v1, val_main_call2_v2]
    rfl
  rw [e]
  unfold Gla.score
  refine Finset.sum_congr rfl fun d _ => ?_
  rw [v3_at, v5_at, v12_at, v12_at, v11_at]
  congr 2
  split
  · rfl
  · exact (show Ideal.ofBits .f32 0xFF800000#32 = ⊥ by simp [Ideal.ofBits, Ideal.ieee])

/-- A head's row. -/
theorem v32_at (b : Fin 32) (h : Fin 4) (t : Fin 8) (e : Fin 128) : val_main_v32 (F := Ideal) x0 x1 x2 x3 x6 (ix4 b h t e) =
    Gla.rowAt x0 x1 x2 x3 x6 b h t e := by
  unfold Gla.rowAt Gla.row
  simp only [← v27_at, ← v7_at, ← v12_at]
  simp only [← v3_at]
  pointwise [val_main_v32, val_main_v31, val_main_v30, val_main_v29, val_main_v28,
    dot_S32x4x8x8_S32x4x8x128_S32x4x8x128_3_2_2_3_01_01, dot_S32x4x8x64_S32x4x64x128_S32x4x8x128_3_2_2_3_01_01]

/-- A head's state. -/
theorem v44_at (b : Fin 32) (h : Fin 4) (d : Fin 64) (e : Fin 128) : val_main_v44 (F := Ideal) x1 x2 x3 x6 (ix4 b h d e) =
    Gla.state (Gla.head64 x1 b h) (Gla.head64 x3 b h) (Gla.head128 x2 b h) (fun d e => x6 (ix4 b h d e)) d e := by
  unfold Gla.state
  simp only [← v5_at, ← v7_at, ← v12_at]
  pointwise [val_main_v44, val_main_v43, val_main_v42, val_main_v41, val_main_v40, val_main_v39, val_main_v38, val_main_v37,
    val_main_v36, val_main_v35, val_main_v34, val_main_v33, dot_S32x4x8x64_S32x4x8x128_S32x4x64x128_2_2_3_3_01_01]

/-- The first result. -/
theorem result_at (b : Fin 32) (t : Fin 8) (j : Fin 512) : val_main_v62 (F := Ideal) x0 x1 x2 x3 x4 x5 x6 (ix3 b t j) =
    Gla.resultAt x0 x1 x2 x3 x4 x5 x6 b t j := by
  have ej : (⟨j.val / 128 * 128 + j.val % 128, by omega⟩ : Fin 512) = j := Fin.ext (by show j.val / 128 * 128 + j.val % 128 = j.val; omega)
  unfold Gla.resultAt Gla.gated Rows.rms Gla.head128
  simp only [← v32_at, ej]
  pointwise [val_main_v62, val_main_v61, val_main_v60, val_main_v59, val_main_v58, val_main_v57, val_main_v56, val_main_v55,
    val_main_v54, val_main_v53, val_main_v52, val_main_v51, val_main_v50, val_main_v49, val_main_v48, val_main_v47, val_main_v46,
    val_main_v45, val_main_cst_2, val_main_cst_3, val_main_cst_4, val_main_call3_v0, val_main_call3_v1, val_main_call3_v2,
    val_main_call3_v3, val_main_call3_v4, val_main_call3_v5, val_main_call3_cst, val_main_call3_cst_0]

/-- The second result. -/
theorem state_at (b : Fin 32) (p : Fin 2) (l e : Fin 128) : val_main_v63 (F := Ideal) x1 x2 x3 x6 (ix4 b p l e) =
    Gla.stateAt x1 x2 x3 x6 b p l e := by
  unfold Gla.stateAt
  rw [← v44_at]
  pointwise [val_main_v63]

end Cert.ReferenceIdeal.RefValue

end
end
-- ==== Proof.GlaTile.lean ====
/- What one tile of the gated linear attention's kernel computes from the blocks it loads: two heads side by side in the
   128 lanes of a pair, each picked out by a mask on the lanes, row after row of the chunk added up. -/
module

public import proofs.«01_k».proof.Proof.Gen.KernelIdeal.Value
public import Idealize.ShloMosaic.Lib.Pipeline.ValueKit.Point
public import Idealize.ShloMosaic.Lib.Pointwise
public import proofs.«01_k».proof.Proof.GlaRows

@[expose] public section

set_option maxRecDepth 16384

noncomputable section

namespace Cert.KernelIdeal.GlaValue

open Idealize.ShloMosaic Idealize.ShloMosaic.TcCoe Idealize.SL.Sem
open Cert.KernelIdeal Cert.KernelIdeal.Gen

/-- A sum over the lanes from `lo` up to `hi`, as the kernel takes it: every other lane set to zero. -/
def lanes (lo hi : BitVec 32) (f : Fin 128 → EReal) : EReal :=
  ∑ x : Fin 128, Scalar.select (IntOp.andi (IntOp.cmpi .sge (BitVec.ofNat 32 x.val) lo)
    (IntOp.cmpi .slt (BitVec.ofNat 32 x.val) hi)) (f x) 0

/-- The score of row `r` on row `s` (`n` is `s` as a word), as the kernel takes it: the decay held at most zero, and rows
    before `s` set to zero. -/
def pairScore (lo hi : BitVec 32) (q k b : Fin 8 → Fin 128 → EReal) (r s : Fin 8) (n : BitVec 32) : EReal :=
  lanes lo hi fun x => Scalar.select (IntOp.cmpi .sge (BitVec.ofNat 32 r.val) n)
    (q r x * k s x * Ideal.exp (min (b r x - b s x) 0)) 0

/-- A head's row as the kernel adds it up. -/
def pairRow (lo hi : BitVec 32) (q k b : Fin 8 → Fin 128 → EReal) (v : Fin 8 → Fin 128 → EReal)
    (st : Fin 128 → Fin 128 → EReal) (r : Fin 8) (e : Fin 128) : EReal :=
  lanes lo hi (fun x => q r x * Ideal.exp (b r x) * st e x) +
    (pairScore lo hi q k b r 0 0#32 * v 0 e + pairScore lo hi q k b r 1 1#32 * v 1 e + pairScore lo hi q k b r 2 2#32 * v 2 e
      + pairScore lo hi q k b r 3 3#32 * v 3 e + pairScore lo hi q k b r 4 4#32 * v 4 e + pairScore lo hi q k b r 5 5#32 * v 5 e
      + pairScore lo hi q k b r 6 6#32 * v 6 e + pairScore lo hi q k b r 7 7#32 * v 7 e)

/-- A pair's state after the chunk, as the kernel takes it: lanes from 64 on belong to the pair's second head. -/
def pairState (k b : Fin 8 → Fin 128 → EReal) (v w : Fin 8 → Fin 128 → EReal) (st : Fin 128 → Fin 128 → EReal)
    (l e : Fin 128) : EReal :=
  st e l * Ideal.exp (b 7 l) + Scalar.select (IntOp.cmpi .sge (BitVec.ofNat 32 l.val) 64#32)
    (∑ t, w t e * (k t l * Ideal.exp (b 7 l - b t l))) (∑ t, v t e * (k t l * Ideal.exp (b 7 l - b t l)))

/-- Comparing rows as words is comparing them. -/
theorem sge_rows : ∀ r s : Fin 8, IntOp.cmpi .sge (BitVec.ofNat 32 r.val) (BitVec.ofNat 32 s.val) = if s ≤ r then 1#1 else 0#1 := by
  decide +kernel

theorem low_lanes : ∀ x : Fin 128, IntOp.andi (IntOp.cmpi .sge (BitVec.ofNat 32 x.val) 0#32)
    (IntOp.cmpi .slt (BitVec.ofNat 32 x.val) 64#32) = if x.val < 64 then 1#1 else 0#1 := by decide +kernel

theorem high_lanes : ∀ x : Fin 128, IntOp.andi (IntOp.cmpi .sge (BitVec.ofNat 32 x.val) 64#32)
    (IntOp.cmpi .slt (BitVec.ofNat 32 x.val) 128#32) = if x.val < 64 then 0#1 else 1#1 := by decide +kernel

theorem half_lanes : ∀ x : Fin 128, IntOp.cmpi .sge (BitVec.ofNat 32 x.val) 64#32 = if x.val < 64 then 0#1 else 1#1 := by
  decide +kernel

/-- A sum over the 128 lanes is the sum over each half. -/
theorem sum_halves (f : Fin 128 → EReal) :
    ∑ x, f x = (∑ d : Fin 64, f ⟨d.val, by omega⟩) + ∑ d : Fin 64, f ⟨64 + d.val, by omega⟩ :=
  Fin.sum_univ_add (a := 64) (b := 64) f

/-- The first head's lanes. -/
theorem lanes_low (f : Fin 128 → EReal) : lanes 0#32 64#32 f = ∑ d : Fin 64, f ⟨d.val, by omega⟩ := by
  unfold lanes
  rw [sum_halves, Finset.sum_eq_zero (s := Finset.univ) (f := fun d : Fin 64 => Scalar.select _ (f ⟨64 + d.val, by omega⟩) (0 : EReal)), add_zero]
  · refine Finset.sum_congr rfl fun d _ => ?_
    rw [low_lanes, if_pos d.isLt]; rfl
  · intro d _
    rw [low_lanes, if_neg (by show ¬ 64 + d.val < 64; omega)]; rfl

/-- The second head's lanes. -/
theorem lanes_high (f : Fin 128 → EReal) : lanes 64#32 128#32 f = ∑ d : Fin 64, f ⟨64 + d.val, by omega⟩ := by
  unfold lanes
  rw [sum_halves, Finset.sum_eq_zero (s := Finset.univ) (f := fun d : Fin 64 => Scalar.select _ (f ⟨d.val, by omega⟩) (0 : EReal)), zero_add]
  · refine Finset.sum_congr rfl fun d _ => ?_
    rw [high_lanes, if_neg (by show ¬ 64 + d.val < 64; omega)]; rfl
  · intro d _
    rw [high_lanes, if_pos d.isLt]; rfl

/-- Where no log decay is positive the running sums only go down. -/
theorem cum_anti (a : Fin 8 → Fin 64 → EReal) (ha : ∀ t d, a t d ≤ 0) (r s : Fin 8) (hs : s ≤ r) (d : Fin 64) :
    Gla.cum a r d ≤ Gla.cum a s d := by
  unfold Gla.cum
  refine Finset.sum_le_sum fun u _ => ?_
  by_cases h1 : u ≤ s
  · rw [if_pos h1, if_pos (h1.trans hs)]
  · rw [if_neg h1]
    split
    · exact ha u d
    · exact le_refl _

section
variable {lo hi : BitVec 32} (pos : Fin 64 → Fin 128) (hl : ∀ f, lanes lo hi f = ∑ d, f (pos d))
  (q k b : Fin 8 → Fin 128 → EReal) (a : Fin 8 → Fin 64 → EReal) (ha : ∀ t d, a t d ≤ 0)
  (hb : ∀ t d, b t (pos d) = Gla.cum a t d)
include hl ha hb

/-- The kernel's score is the head's. -/
theorem pairScore_eq (r s : Fin 8) (n : BitVec 32) (hn : n = BitVec.ofNat 32 s.val) :
    pairScore lo hi q k b r s n = Gla.score (fun t d => q t (pos d)) (fun t d => k t (pos d)) a r s := by
  subst hn
  unfold pairScore Gla.score
  rw [hl]
  refine Finset.sum_congr rfl fun d _ => ?_
  rw [sge_rows, hb, hb]
  by_cases h : s ≤ r
  · rw [if_pos h, if_pos h, min_eq_left (EReal.sub_nonpos.mpr (cum_anti a ha r s h d))]; rfl
  · rw [if_neg h, if_neg h, show Ideal.exp ⊥ = 0 from rfl, mul_zero]; rfl

/-- The kernel's row is the head's. -/
theorem pairRow_eq (v : Fin 8 → Fin 128 → EReal) (st : Fin 128 → Fin 128 → EReal) (r : Fin 8) (e : Fin 128) :
    pairRow lo hi q k b v st r e =
    Gla.row (fun t d => q t (pos d)) (fun t d => k t (pos d)) a v (fun d e => st e (pos d)) r e := by
  unfold pairRow Gla.row
  have h := fun s : Fin 8 => pairScore_eq pos hl q k b a ha hb r s (BitVec.ofNat 32 s.val) rfl
  have h0 : pairScore lo hi q k b r 0 0#32 = _ := h 0
  have h1 : pairScore lo hi q k b r 1 1#32 = _ := h 1
  have h2 : pairScore lo hi q k b r 2 2#32 = _ := h 2
  have h3 : pairScore lo hi q k b r 3 3#32 = _ := h 3
  have h4 : pairScore lo hi q k b r 4 4#32 = _ := h 4
  have h5 : pairScore lo hi q k b r 5 5#32 = _ := h 5
  have h6 : pairScore lo hi q k b r 6 6#32 = _ := h 6
  have h7 : pairScore lo hi q k b r 7 7#32 = _ := h 7
  rw [h0, h1, h2, h3, h4, h5, h6, h7, hl, Fin.sum_univ_eight, add_comm]
  simp only [hb]

end

/-- The kernel's state in the lanes of the pair's first head. -/
theorem pairState_low (k b : Fin 8 → Fin 128 → EReal) (v w : Fin 8 → Fin 128 → EReal) (st : Fin 128 → Fin 128 → EReal)
    (a : Fin 8 → Fin 64 → EReal) (l e : Fin 128) (d : Fin 64) (hd : l.val = d.val) (hb : ∀ t, b t l = Gla.cum a t d) :
    pairState k b v w st l e = Gla.state (fun t d => k t ⟨d.val, by omega⟩) a v (fun d e => st e ⟨d.val, by omega⟩) d e := by
  unfold pairState Gla.state
  rw [half_lanes, if_pos (by omega), mul_comm (st e l), show ∀ A B : EReal, Scalar.select (0#1) A B = B from fun _ _ => rfl]
  simp only [hb, show (⟨d.val, by omega⟩ : Fin 128) = l from Fin.ext hd.symm]
  exact congrArg _ (Finset.sum_congr rfl fun t _ => mul_comm _ _)

/-- The kernel's state in the lanes of the pair's second head. -/
theorem pairState_high (k b : Fin 8 → Fin 128 → EReal) (v w : Fin 8 → Fin 128 → EReal) (st : Fin 128 → Fin 128 → EReal)
    (a : Fin 8 → Fin 64 → EReal) (l e : Fin 128) (d : Fin 64) (hd : l.val = 64 + d.val) (hb : ∀ t, b t l = Gla.cum a t d) :
    pairState k b v w st l e = Gla.state (fun t d => k t ⟨64 + d.val, by omega⟩) a w (fun d e => st e ⟨64 + d.val, by omega⟩) d e := by
  unfold pairState Gla.state
  rw [half_lanes, if_neg (by omega), mul_comm (st e l), show ∀ A B : EReal, Scalar.select (1#1) A B = A from fun _ _ => rfl]
  simp only [hb, show (⟨64 + d.val, by omega⟩ : Fin 128) = l from Fin.ext hd.symm]
  exact congrArg _ (Finset.sum_congr rfl fun t _ => mul_comm _ _)

variable (Q K V W RG : Vec Ideal S1x8x128 .f32) (LA : Vec Ideal S1x8x256 .f32) (ST : Vec Ideal S1x128x128 .f32)
  (G : Vec Ideal S1x128 .f32) (O : FVec Ideal S8x128 .f32)

/-- Head 0's rows. -/
theorem head0_at (r : Fin 8) (e : Fin 128) :
    k0_pay56 (iota Kind.tc S1x8x128 32 [1] iota_S1x8x128_d1_w32) (k0_pay17 (iota Kind.tc S1x8x128 32 [2]
    iota_S1x8x128_d2_w32)) (k0_pay20 (iota Kind.tc S8x128 32 [1] iota_S8x128_d1_w32) (k0_pay9 ST) (k0_pay12 Q) (k0_pay14
    LA)) (k0_pay22 (k0_pay12 Q)) (k0_pay23 (k0_pay13 K)) (k0_pay25 (k0_pay15 V)) (k0_pay52 (iota Kind.tc S1x8x128 32 [1]
    iota_S1x8x128_d1_w32) (k0_pay17 (iota Kind.tc S1x8x128 32 [2] iota_S1x8x128_d2_w32)) (k0_pay22 (k0_pay12 Q)) (k0_pay23
    (k0_pay13 K)) (k0_pay24 (k0_pay14 LA)) (k0_pay25 (k0_pay15 V)) (k0_pay50 (iota Kind.tc S1x8x128 32 [1]
    iota_S1x8x128_d1_w32) (k0_pay17 (iota Kind.tc S1x8x128 32 [2] iota_S1x8x128_d2_w32)) (k0_pay22 (k0_pay12 Q)) (k0_pay23
    (k0_pay13 K)) (k0_pay24 (k0_pay14 LA)) (k0_pay25 (k0_pay15 V)) (k0_pay42 (iota Kind.tc S1x8x128 32 [1]
    iota_S1x8x128_d1_w32) (k0_pay17 (iota Kind.tc S1x8x128 32 [2] iota_S1x8x128_d2_w32)) (k0_pay22 (k0_pay12 Q)) (k0_pay23
    (k0_pay13 K)) (k0_pay24 (k0_pay14 LA)) (k0_pay25 (k0_pay15 V)) (k0_pay38 (iota Kind.tc S1x8x128 32 [1]
    iota_S1x8x128_d1_w32) (k0_pay17 (iota Kind.tc S1x8x128 32 [2] iota_S1x8x128_d2_w32)) (k0_pay22 (k0_pay12 Q)) (k0_pay23
    (k0_pay13 K)) (k0_pay24 (k0_pay14 LA)) (k0_pay25 (k0_pay15 V)) (k0_pay32 (iota Kind.tc S1x8x128 32 [1]
    iota_S1x8x128_d1_w32) (k0_pay17 (iota Kind.tc S1x8x128 32 [2] iota_S1x8x128_d2_w32)) (k0_pay22 (k0_pay12 Q)) (k0_pay23
    (k0_pay13 K)) (k0_pay25 (k0_pay15 V)) k0_pay27 (k0_pay29 (k0_pay14 LA)) k0_pay30) (k0_pay35 (iota Kind.tc S1x8x128 32
    [1] iota_S1x8x128_d1_w32) (k0_pay17 (iota Kind.tc S1x8x128 32 [2] iota_S1x8x128_d2_w32)) (k0_pay22 (k0_pay12 Q))
    (k0_pay23 (k0_pay13 K)) (k0_pay24 (k0_pay14 LA))))) (k0_pay44 (k0_pay24 (k0_pay14 LA))) (k0_pay45 (iota Kind.tc
    S1x8x128 32 [1] iota_S1x8x128_d1_w32)) (k0_pay46 (k0_pay23 (k0_pay13 K))))) (k0_pay54 (k0_pay24 (k0_pay14 LA)))
    (FloatOps.ofBits FTy.f32 0#32) (ix2 r e) =
    pairRow 0#32 64#32 (fun t x => Q (ix3 0 t x) * Ideal.ofBits .f32 0x3E000000#32) (fun t x => K (ix3 0 t x))
      (fun t x => k0_pay11 LA (ix2 t ⟨x.val, by omega⟩)) (fun t e => V (ix3 0 t e)) (fun e x => ST (ix3 0 e x)) r e := by
  unfold pairRow pairScore lanes
  pointwise [k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dot_S8x128_S128x128_S8x128_1_1_0_0_n_n]

/-- Head 1's rows. -/
theorem head1_at (r : Fin 8) (e : Fin 128) :
    k0_pay57 (iota Kind.tc S1x8x128 32 [1] iota_S1x8x128_d1_w32) (k0_pay18 (iota Kind.tc S1x8x128 32 [2]
    iota_S1x8x128_d2_w32)) (k0_pay21 (iota Kind.tc S8x128 32 [1] iota_S8x128_d1_w32) (k0_pay9 ST) (k0_pay12 Q) (k0_pay14
    LA)) (k0_pay22 (k0_pay12 Q)) (k0_pay23 (k0_pay13 K)) (k0_pay26 V) (k0_pay53 (iota Kind.tc S1x8x128 32 [1]
    iota_S1x8x128_d1_w32) (k0_pay18 (iota Kind.tc S1x8x128 32 [2] iota_S1x8x128_d2_w32)) (k0_pay22 (k0_pay12 Q)) (k0_pay23
    (k0_pay13 K)) (k0_pay24 (k0_pay14 LA)) (k0_pay26 V) (k0_pay48 (k0_pay18 (iota Kind.tc S1x8x128 32 [2]
    iota_S1x8x128_d2_w32)) (k0_pay22 (k0_pay12 Q)) (k0_pay26 V) (k0_pay43 (iota Kind.tc S1x8x128 32 [1]
    iota_S1x8x128_d1_w32) (k0_pay18 (iota Kind.tc S1x8x128 32 [2] iota_S1x8x128_d2_w32)) (k0_pay22 (k0_pay12 Q)) (k0_pay23
    (k0_pay13 K)) (k0_pay24 (k0_pay14 LA)) (k0_pay26 V) (k0_pay36 (k0_pay18 (iota Kind.tc S1x8x128 32 [2]
    iota_S1x8x128_d2_w32)) (k0_pay26 V) (k0_pay33 (iota Kind.tc S1x8x128 32 [1] iota_S1x8x128_d1_w32) (k0_pay18 (iota
    Kind.tc S1x8x128 32 [2] iota_S1x8x128_d2_w32)) (k0_pay22 (k0_pay12 Q)) (k0_pay23 (k0_pay13 K)) (k0_pay26 V) k0_pay28
    (k0_pay29 (k0_pay14 LA)) k0_pay30) (k0_pay34 (iota Kind.tc S1x8x128 32 [1] iota_S1x8x128_d1_w32) (k0_pay22 (k0_pay12
    Q)) (k0_pay23 (k0_pay13 K)) (k0_pay24 (k0_pay14 LA)))) (k0_pay39 (iota Kind.tc S1x8x128 32 [1] iota_S1x8x128_d1_w32)
    (k0_pay18 (iota Kind.tc S1x8x128 32 [2] iota_S1x8x128_d2_w32)) (k0_pay22 (k0_pay12 Q)) (k0_pay23 (k0_pay13 K))
    (k0_pay24 (k0_pay14 LA))) (k0_pay40 (k0_pay26 V))) (k0_pay44 (k0_pay24 (k0_pay14 LA))) (k0_pay45 (iota Kind.tc S1x8x128
    32 [1] iota_S1x8x128_d1_w32)) (k0_pay46 (k0_pay23 (k0_pay13 K)))) (k0_pay49 (iota Kind.tc S1x8x128 32 [1]
    iota_S1x8x128_d1_w32) (k0_pay22 (k0_pay12 Q)) (k0_pay23 (k0_pay13 K)) (k0_pay24 (k0_pay14 LA)))) (k0_pay54 (k0_pay24
    (k0_pay14 LA))) (FloatOps.ofBits FTy.f32 0#32) (ix2 r e) =
    pairRow 64#32 128#32 (fun t x => Q (ix3 0 t x) * Ideal.ofBits .f32 0x3E000000#32) (fun t x => K (ix3 0 t x))
      (fun t x => k0_pay11 LA (ix2 t ⟨x.val, by omega⟩)) (fun t e => V (ix3 0 t e)) (fun e x => ST (ix3 0 e x)) r e := by
  unfold pairRow pairScore lanes
  pointwise [k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, dot_S8x128_S128x128_S8x128_1_1_0_0_n_n]

/-- Head 2's rows. -/
theorem head2_at (r : Fin 8) (e : Fin 128) :
    k0_pay110 (k0_pay72 (iota Kind.tc S1x8x128 32 [2] iota_S1x8x128_d2_w32)) (k0_pay75 (k0_pay10 ST) (k0_pay65 Q) (k0_pay67
    (k0_pay11 LA)) (k0_pay70 (iota Kind.tc S8x128 32 [1] iota_S8x128_d1_w32))) (k0_pay80 (k0_pay68 V)) (k0_pay105 (iota
    Kind.tc S1x8x128 32 [1] iota_S1x8x128_d1_w32) (k0_pay72 (iota Kind.tc S1x8x128 32 [2] iota_S1x8x128_d2_w32)) (k0_pay77
    (k0_pay65 Q)) (k0_pay78 (k0_pay66 K)) (k0_pay79 (k0_pay67 (k0_pay11 LA))) (k0_pay80 (k0_pay68 V)) (k0_pay102 (iota
    Kind.tc S1x8x128 32 [1] iota_S1x8x128_d1_w32) (k0_pay72 (iota Kind.tc S1x8x128 32 [2] iota_S1x8x128_d2_w32)) (k0_pay77
    (k0_pay65 Q)) (k0_pay78 (k0_pay66 K)) (k0_pay79 (k0_pay67 (k0_pay11 LA))) (k0_pay80 (k0_pay68 V)) (k0_pay96 (iota
    Kind.tc S1x8x128 32 [1] iota_S1x8x128_d1_w32) (k0_pay72 (iota Kind.tc S1x8x128 32 [2] iota_S1x8x128_d2_w32)) (k0_pay77
    (k0_pay65 Q)) (k0_pay78 (k0_pay66 K)) (k0_pay80 (k0_pay68 V)) (k0_pay92 (iota Kind.tc S1x8x128 32 [1]
    iota_S1x8x128_d1_w32) (k0_pay72 (iota Kind.tc S1x8x128 32 [2] iota_S1x8x128_d2_w32)) (k0_pay77 (k0_pay65 Q)) (k0_pay78
    (k0_pay66 K)) (k0_pay79 (k0_pay67 (k0_pay11 LA))) (k0_pay80 (k0_pay68 V)) (k0_pay89 (iota Kind.tc S1x8x128 32 [1]
    iota_S1x8x128_d1_w32) (k0_pay72 (iota Kind.tc S1x8x128 32 [2] iota_S1x8x128_d2_w32)) (k0_pay77 (k0_pay65 Q)) (k0_pay78
    (k0_pay66 K)) (k0_pay79 (k0_pay67 (k0_pay11 LA))) (k0_pay80 (k0_pay68 V)) k0_pay82 (k0_pay84 (iota Kind.tc S1x8x128 32
    [1] iota_S1x8x128_d1_w32)) (k0_pay85 (k0_pay65 Q) (k0_pay66 K) (k0_pay67 (k0_pay11 LA))) (FloatOps.ofBits FTy.f32
    0#32))) (k0_pay94 (k0_pay79 (k0_pay67 (k0_pay11 LA))))) (k0_pay99 (iota Kind.tc S1x8x128 32 [1] iota_S1x8x128_d1_w32)
    (k0_pay72 (iota Kind.tc S1x8x128 32 [2] iota_S1x8x128_d2_w32)) (k0_pay77 (k0_pay65 Q)) (k0_pay78 (k0_pay66 K))
    (k0_pay79 (k0_pay67 (k0_pay11 LA)))))) (k0_pay107 (iota Kind.tc S1x8x128 32 [1] iota_S1x8x128_d1_w32)) (k0_pay108
    (k0_pay77 (k0_pay65 Q)) (k0_pay78 (k0_pay66 K)) (k0_pay79 (k0_pay67 (k0_pay11 LA)))) (ix2 r e) =
    pairRow 0#32 64#32 (fun t x => Q (ix3 0 t x) * Ideal.ofBits .f32 0x3E000000#32) (fun t x => K (ix3 0 t x))
      (fun t x => k0_pay11 LA (ix2 t ⟨128 + x.val, by omega⟩)) (fun t e => V (ix3 0 t e)) (fun e x => ST (ix3 0 e x)) r e := by
  unfold pairRow pairScore lanes
  pointwise [k0_pay9, k0_pay10, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, dot_S8x128_S128x128_S8x128_1_1_0_0_n_n]

/-- Head 3's rows. -/
theorem head3_at (r : Fin 8) (e : Fin 128) :
    k0_pay111 (k0_pay73 (iota Kind.tc S1x8x128 32 [2] iota_S1x8x128_d2_w32)) (k0_pay76 (iota Kind.tc S8x128 32 [1]
    iota_S8x128_d1_w32) (k0_pay10 ST) (k0_pay65 Q) (k0_pay67 (k0_pay11 LA)) (k0_pay71 (iota Kind.tc S8x128 32 [1]
    iota_S8x128_d1_w32))) (k0_pay81 (k0_pay69 V)) (k0_pay106 (iota Kind.tc S1x8x128 32 [1] iota_S1x8x128_d1_w32) (k0_pay73
    (iota Kind.tc S1x8x128 32 [2] iota_S1x8x128_d2_w32)) (k0_pay77 (k0_pay65 Q)) (k0_pay78 (k0_pay66 K)) (k0_pay79
    (k0_pay67 (k0_pay11 LA))) (k0_pay81 (k0_pay69 V)) (k0_pay100 (k0_pay73 (iota Kind.tc S1x8x128 32 [2]
    iota_S1x8x128_d2_w32)) (k0_pay81 (k0_pay69 V)) (k0_pay97 (iota Kind.tc S1x8x128 32 [1] iota_S1x8x128_d1_w32) (k0_pay73
    (iota Kind.tc S1x8x128 32 [2] iota_S1x8x128_d2_w32)) (k0_pay77 (k0_pay65 Q)) (k0_pay78 (k0_pay66 K)) (k0_pay81
    (k0_pay69 V)) (k0_pay93 (iota Kind.tc S1x8x128 32 [1] iota_S1x8x128_d1_w32) (k0_pay73 (iota Kind.tc S1x8x128 32 [2]
    iota_S1x8x128_d2_w32)) (k0_pay77 (k0_pay65 Q)) (k0_pay78 (k0_pay66 K)) (k0_pay79 (k0_pay67 (k0_pay11 LA))) (k0_pay81
    (k0_pay69 V)) (k0_pay87 (k0_pay73 (iota Kind.tc S1x8x128 32 [2] iota_S1x8x128_d2_w32)) (k0_pay81 (k0_pay69 V)) k0_pay83
    (k0_pay84 (iota Kind.tc S1x8x128 32 [1] iota_S1x8x128_d1_w32)) (k0_pay85 (k0_pay65 Q) (k0_pay66 K) (k0_pay67 (k0_pay11
    LA))) (FloatOps.ofBits FTy.f32 0#32)) (k0_pay90 (iota Kind.tc S1x8x128 32 [1] iota_S1x8x128_d1_w32) (k0_pay73 (iota
    Kind.tc S1x8x128 32 [2] iota_S1x8x128_d2_w32)) (k0_pay77 (k0_pay65 Q)) (k0_pay78 (k0_pay66 K)) (k0_pay79 (k0_pay67
    (k0_pay11 LA))))) (k0_pay94 (k0_pay79 (k0_pay67 (k0_pay11 LA))))) (k0_pay98 (iota Kind.tc S1x8x128 32 [1]
    iota_S1x8x128_d1_w32) (k0_pay77 (k0_pay65 Q)) (k0_pay78 (k0_pay66 K)) (k0_pay79 (k0_pay67 (k0_pay11 LA))))) (k0_pay103
    (iota Kind.tc S1x8x128 32 [1] iota_S1x8x128_d1_w32) (k0_pay73 (iota Kind.tc S1x8x128 32 [2] iota_S1x8x128_d2_w32))
    (k0_pay77 (k0_pay65 Q)) (k0_pay78 (k0_pay66 K)) (k0_pay79 (k0_pay67 (k0_pay11 LA))) (k0_pay81 (k0_pay69 V))))
    (k0_pay107 (iota Kind.tc S1x8x128 32 [1] iota_S1x8x128_d1_w32)) (k0_pay108 (k0_pay77 (k0_pay65 Q)) (k0_pay78 (k0_pay66
    K)) (k0_pay79 (k0_pay67 (k0_pay11 LA)))) (ix2 r e) =
    pairRow 64#32 128#32 (fun t x => Q (ix3 0 t x) * Ideal.ofBits .f32 0x3E000000#32) (fun t x => K (ix3 0 t x))
      (fun t x => k0_pay11 LA (ix2 t ⟨128 + x.val, by omega⟩)) (fun t e => V (ix3 0 t e)) (fun e x => ST (ix3 0 e x)) r e := by
  unfold pairRow pairScore lanes
  pointwise [k0_pay9, k0_pay10, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, dot_S8x128_S128x128_S8x128_1_1_0_0_n_n]

/-- Head 0's rows normalised and gated. -/
theorem gated0_at (r : Fin 8) (e : Fin 128) :
    k0_pay60 O RG G (ix3 0 r e) =
    Gla.gated (fun e => O (ix2 r e)) (fun e => G (ix2 0 e)) (fun e => RG (ix3 0 r e)) e := by
  unfold Gla.gated Rows.rms
  pointwise [k0_pay60]
  rw [zero_sub]

/-- Head 1's rows normalised and gated. -/
theorem gated1_at (r : Fin 8) (e : Fin 128) :
    k0_pay63 O (k0_pay61 RG) G (k0_pay62 O) (ix3 0 r e) =
    Gla.gated (fun e => O (ix2 r e)) (fun e => G (ix2 0 e)) (fun e => RG (ix3 0 r e)) e := by
  unfold Gla.gated Rows.rms
  pointwise [k0_pay61, k0_pay62, k0_pay63]
  rw [zero_sub]

/-- Head 3's rows normalised and gated. -/
theorem gated3_at (r : Fin 8) (e : Fin 128) :
    k0_pay1 (k0_pay117 RG) (k0_pay118 O G) (k0_pay119 RG) (FloatOps.ofBits FTy.f32 1065353216#32) (ix3 0 r e) =
    Gla.gated (fun e => O (ix2 r e)) (fun e => G (ix2 0 e)) (fun e => RG (ix3 0 r e)) e := by
  unfold Gla.gated Rows.rms
  pointwise [k0_pay1, k0_pay117, k0_pay118, k0_pay119]
  rw [zero_sub]

/-- Head 2's rows normalised and gated, its sums of squares given. -/
theorem gated2_at (S : FVec Ideal S8x1 .f32) (hS : ∀ r : Fin 8, S (ix2 r 0) = ∑ x : Fin 128, O (ix2 r x) * O (ix2 r x))
    (r : Fin 8) (e : Fin 128) :
    k0_pay116 O (k0_pay114 RG) G S (FloatOps.ofBits FTy.f32 1124073472#32) (ix3 0 r e) =
    Gla.gated (fun e => O (ix2 r e)) (fun e => G (ix2 0 e)) (fun e => RG (ix3 0 r e)) e := by
  unfold Gla.gated Rows.rms
  rw [← hS]
  pointwise [k0_pay114, k0_pay116]
  rw [zero_sub]

/-- Head 2's sums of squares. -/
theorem squares_at (a : IVec S1x8x128 1) (b : FVec Ideal S8x128 .f32) (c d : FVec Ideal S1x8x128 .f32) (f : IVec S1x8x128 1)
    (g : FVec Ideal S1x8x128 .f32) (r : Fin 8) : k0_pay115 a b c d f g (ix2 r 0) =
    ∑ x : Fin 128, k0_pay110 a b c d f g (ix2 r x) * k0_pay110 a b c d f g (ix2 r x) := by
  pointwise [k0_pay115]

/-- The running sums the kernel takes with a triangle of ones. -/
theorem sums_at (r : Fin 8) (j : Fin 256) : k0_pay11 LA (ix2 r j) = ∑ s : Fin 8, if s ≤ r then (LA (ix3 0 s j) : EReal) else 0 := by
  have e : k0_pay11 LA (ix2 r j) = ∑ s : Fin 8, Scalar.select (IntOp.cmpi .sge (BitVec.ofNat 32 r.val) (BitVec.ofNat 32 s.val))
      (LA (ix3 0 s j) : EReal) 0 := by
    pointwise [k0_pay11, dot_S8x8_S8x256_S8x256_1_0_0_1_n_n]
  rw [e]
  refine Finset.sum_congr rfl fun s _ => ?_
  rw [sge_rows]
  split <;> rfl

/-- The first pair's state as it is stored. -/
theorem state0_at (l e : Fin 128) : k0_pay5 (k0_pay64 (k0_pay9 ST) (k0_pay58 (k0_pay14 LA))
      (k0_pay59 (iota Kind.tc S128x128 32 [1] iota_S128x128_d1_w32) (k0_pay13 K) (k0_pay14 LA) (k0_pay15 V) (k0_pay16 W)))
      (ix4 0 0 l e) =
    pairState (fun t x => K (ix3 0 t x)) (fun t x => k0_pay11 LA (ix2 t ⟨x.val, by omega⟩)) (fun t e => V (ix3 0 t e))
      (fun t e => W (ix3 0 t e)) (fun e x => ST (ix3 0 e x)) l e := by
  unfold pairState
  pointwise [k0_pay5, k0_pay64, k0_pay9, k0_pay58, k0_pay14, k0_pay59, k0_pay13, k0_pay15, k0_pay16,
    dot_S8x128_S8x128_S128x128_0_0_1_1_n_n]

/-- The second pair's state as it is stored. -/
theorem state1_at (l e : Fin 128) : k0_pay6 (k0_pay10 ST) (k0_pay112 (k0_pay67 (k0_pay11 LA)))
      (k0_pay113 (iota Kind.tc S128x128 32 [1] iota_S128x128_d1_w32) (k0_pay66 K) (k0_pay67 (k0_pay11 LA)) (k0_pay68 V) (k0_pay69 W))
      (ix4 0 0 l e) =
    pairState (fun t x => K (ix3 0 t x)) (fun t x => k0_pay11 LA (ix2 t ⟨128 + x.val, by omega⟩)) (fun t e => V (ix3 0 t e))
      (fun t e => W (ix3 0 t e)) (fun e x => ST (ix3 0 e x)) l e := by
  unfold pairState
  pointwise [k0_pay6, k0_pay2, k0_pay10, k0_pay112, k0_pay67, k0_pay113, k0_pay66, k0_pay68, k0_pay69,
    dot_S8x128_S8x128_S128x128_0_0_1_1_n_n]

end Cert.KernelIdeal.GlaValue

end
end
-- ==== Proof.GlaValue.lean ====
/- What the gated linear attention's kernel leaves in its two result arrays. A grid point takes one batch; the four heads'
rows are stored beside one another, the two pairs' states one after the other. -/
module

public import proofs.«01_k».proof.Proof.Gen.KernelIdeal.Value
public import proofs.«01_k».proof.Proof.GlaTile
public import Idealize.ShloMosaic.Lib.Pipeline.ReadBack
public import Idealize.ShloMosaic.Lib.Pipeline.ValueKit.Point
public import Idealize.ShloMosaic.Lib.Pipeline.ValueKit.Tiles

@[expose] public section

set_option maxRecDepth 16384

noncomputable section

namespace Cert.KernelIdeal.GlaValue

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The batch that point `t` takes. -/
def batch (t : Fin cfg0.N) : Fin 32 := ⟨t.val, t.isLt⟩

theorem index0 : ∀ t : Fin cfg0.N, win0_0.index t = ![t.val, 0, 0] :=
  (by decide +kernel : ∀ t : Fin grid0.N, _)
theorem index1 : ∀ t : Fin cfg0.N, win0_1.index t = ![t.val, 0, 0] :=
  (by decide +kernel : ∀ t : Fin grid0.N, _)
theorem index2 : ∀ t : Fin cfg0.N, win0_2.index t = ![t.val, 0, 0] :=
  (by decide +kernel : ∀ t : Fin grid0.N, _)
theorem index3 : ∀ t : Fin cfg0.N, win0_3.index t = ![t.val, 0, 0] :=
  (by decide +kernel : ∀ t : Fin grid0.N, _)
theorem index4 : ∀ t : Fin cfg0.N, win0_4.index t = ![t.val, 0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![t.val, 0, 0, 0] :=
  (by decide +kernel : ∀ t : Fin grid0.N, _)
theorem index7 : ∀ t : Fin cfg0.N, win0_7.index t = ![t.val, 0, 0] :=
  (by decide +kernel : ∀ t : Fin grid0.N, _)
theorem index8 : ∀ t : Fin cfg0.N, win0_8.index t = ![t.val, 0, 0, 0] :=
  (by decide +kernel : ∀ t : Fin grid0.N, _)

/-- The states as the host hands them over: a pair of heads one under the other. -/
theorem V_main_v0 (b : Fin 32) (p : Fin 2) (l e : Fin 128) :
    V m c main_v0 (ix4 b p l e) =
      m ((c : Thread nD τ).loc main_arg6) (ix4 b ⟨p.val * 2 + l.val / 64, by omega⟩ ⟨l.val % 64, by omega⟩ e) := by
  show StableHlo.after hostOps0 _ (Proc.devRef .tc main_v0) _ = _
  after_results
  pointwise

theorem block0 (t : Fin cfg0.N) (r : Fin 8) (k : Fin 256) :
    iblk m c 0 t (ix3 0 r k) = m ((c : Thread nD τ).loc main_arg0) (ix3 (batch t) r k) := by
  blk_ext! [iblk, V_main_arg0, index0 t, batch]
theorem block1 (t : Fin cfg0.N) (r : Fin 8) (k : Fin 256) :
    iblk m c 1 t (ix3 0 r k) = m ((c : Thread nD τ).loc main_arg1) (ix3 (batch t) r k) := by
  blk_ext! [iblk, V_main_arg1, index1 t, batch]
theorem block2 (t : Fin cfg0.N) (r : Fin 8) (k : Fin 512) :
    iblk m c 2 t (ix3 0 r k) = m ((c : Thread nD τ).loc main_arg2) (ix3 (batch t) r k) := by
  blk_ext! [iblk, V_main_arg2, index2 t, batch]
theorem block3 (t : Fin cfg0.N) (r : Fin 8) (k : Fin 256) :
    iblk m c 3 t (ix3 0 r k) = m ((c : Thread nD τ).loc main_arg3) (ix3 (batch t) r k) := by
  blk_ext! [iblk, V_main_arg3, index3 t, batch]
theorem block4 (t : Fin cfg0.N) (r : Fin 8) (k : Fin 512) :
    iblk m c 4 t (ix3 0 r k) = m ((c : Thread nD τ).loc main_arg4) (ix3 (batch t) r k) := by
  blk_ext! [iblk, V_main_arg4, index4 t, batch]
theorem block5 (t : Fin cfg0.N) (e : Fin 128) :
    iblk m c 5 t (ix2 0 e) = m ((c : Thread nD τ).loc main_arg5) (ix2 0 e) := by
  blk_ext! [iblk, V_main_arg5, index5 t]
theorem block6 (t : Fin cfg0.N) (p : Fin 2) (l e : Fin 128) :
    iblk m c 6 t (ix4 0 p l e) =
      m ((c : Thread nD τ).loc main_arg6) (ix4 (batch t) ⟨p.val * 2 + l.val / 64, by omega⟩ ⟨l.val % 64, by omega⟩ e) := by
  refine Eq.trans ?_ (V_main_v0 m c (batch t) p l e)
  blk_ext [iblk, index6 t, batch]

/-- 128 lanes of the queries, from lane `off`. -/
theorem queries_at (t : Fin cfg0.N) (off : Nat) (ho : off + 128 ≤ 256)
    (inb : ∀ a, (![0, 0, off] : Fin 3 → Nat) a + (![1, 8, 128] : Fin 3 → Nat) a ≤ S1x8x256.size a) (r : Fin 8) (x : Fin 128) :
    View.ld (S := S1x8x256) (iblk m c 0 t) (Rect.unit (![0, 0, off] : Fin 3 → Nat) ![1, 8, 128] inb) (ix3 0 r x : S1x8x128.Idx) =
      m ((c : Thread nD τ).loc main_arg0) (ix3 (batch t) r ⟨off + x.val, by omega⟩) := by
  refine (View.ld_unit_apply_of (S := S1x8x256) _ _ _ _ _ (ix3 0 r ⟨off + x.val, by omega⟩) fun a => ?_).trans (block0 m c t r _)
  match a with
  | ⟨0, _⟩ => rfl
  | ⟨1, _⟩ => exact (Nat.zero_add _).symm
  | ⟨2, _⟩ => rfl

/-- 128 lanes of the keys, from lane `off`. -/
theorem keys_at (t : Fin cfg0.N) (off : Nat) (ho : off + 128 ≤ 256)
    (inb : ∀ a, (![0, 0, off] : Fin 3 → Nat) a + (![1, 8, 128] : Fin 3 → Nat) a ≤ S1x8x256.size a) (r : Fin 8) (x : Fin 128) :
    View.ld (S := S1x8x256) (iblk m c 1 t) (Rect.unit (![0, 0, off] : Fin 3 → Nat) ![1, 8, 128] inb) (ix3 0 r x : S1x8x128.Idx) =
      m ((c : Thread nD τ).loc main_arg1) (ix3 (batch t) r ⟨off + x.val, by omega⟩) := by
  refine (View.ld_unit_apply_of (S := S1x8x256) _ _ _ _ _ (ix3 0 r ⟨off + x.val, by omega⟩) fun a => ?_).trans (block1 m c t r _)
  match a with
  | ⟨0, _⟩ => rfl
  | ⟨1, _⟩ => exact (Nat.zero_add _).symm
  | ⟨2, _⟩ => rfl

/-- 128 lanes of the values, from lane `off`. -/
theorem values_at (t : Fin cfg0.N) (off : Nat) (ho : off + 128 ≤ 512)
    (inb : ∀ a, (![0, 0, off] : Fin 3 → Nat) a + (![1, 8, 128] : Fin 3 → Nat) a ≤ S1x8x512.size a) (r : Fin 8) (x : Fin 128) :
    View.ld (S := S1x8x512) (iblk m c 2 t) (Rect.unit (![0, 0, off] : Fin 3 → Nat) ![1, 8, 128] inb) (ix3 0 r x : S1x8x128.Idx) =
      m ((c : Thread nD τ).loc main_arg2) (ix3 (batch t) r ⟨off + x.val, by omega⟩) := by
  refine (View.ld_unit_apply_of (S := S1x8x512) _ _ _ _ _ (ix3 0 r ⟨off + x.val, by omega⟩) fun a => ?_).trans (block2 m c t r _)
  match a with
  | ⟨0, _⟩ => rfl
  | ⟨1, _⟩ => exact (Nat.zero_add _).symm
  | ⟨2, _⟩ => rfl

/-- 128 lanes of the gates, from lane `off`. -/
theorem gates_at (t : Fin cfg0.N) (off : Nat) (ho : off + 128 ≤ 512)
    (inb : ∀ a, (![0, 0, off] : Fin 3 → Nat) a + (![1, 8, 128] : Fin 3 → Nat) a ≤ S1x8x512.size a) (r : Fin 8) (x : Fin 128) :
    View.ld (S := S1x8x512) (iblk m c 4 t) (Rect.unit (![0, 0, off] : Fin 3 → Nat) ![1, 8, 128] inb) (ix3 0 r x : S1x8x128.Idx) =
      m ((c : Thread nD τ).loc main_arg4) (ix3 (batch t) r ⟨off + x.val, by omega⟩) := by
  refine (View.ld_unit_apply_of (S := S1x8x512) _ _ _ _ _ (ix3 0 r ⟨off + x.val, by omega⟩) fun a => ?_).trans (block4 m c t r _)
  match a with
  | ⟨0, _⟩ => rfl
  | ⟨1, _⟩ => exact (Nat.zero_add _).symm
  | ⟨2, _⟩ => rfl

/-- What point `t` first puts in the scratch: each pair's state, its rows and lanes exchanged. -/
def stores (t : Fin cfg0.N) : List (View.Piece (Elt Ideal) S2x128x128 .f32) :=
  [⟨Rect.unit ![1, 0, 0] ![1, 128, 128] inb_S2x128x128_S1x128x128_1_0_0,
      k0_pay8 (View.ld (iblk m c 6 t) (Rect.unit ![0, 1, 0, 0] ![1, 1, 128, 128] inb_S1x2x128x128_S1x1x128x128_0_1_0_0))⟩,
    ⟨Rect.unit ![0, 0, 0] ![1, 128, 128] inb_S2x128x128_S1x128x128_0_0_0,
      k0_pay7 (View.ld (iblk m c 6 t) (Rect.unit ![0, 0, 0, 0] ![1, 1, 128, 128] inb_S1x2x128x128_S1x1x128x128_0_0_0_0))⟩]

/-- Where pair 0's state lies in the scratch. -/
abbrev place0 : Rect S2x128x128 := Rect.unit ![0, 0, 0] ![1, 128, 128] inb_S2x128x128_S1x128x128_0_0_0

/-- Pair 0's state, as the scratch hands it back. -/
def carried0 (t : Fin cfg0.N) : Vec Ideal S1x128x128 .f32 :=
  (View.whole cc0_scratch0).readCov (Val := Elt Ideal) (stores m c t) place0.toLoadRect

theorem pair0_at (t : Fin cfg0.N) (e x : Fin 128) :
    carried0 m c t (ix3 0 e x : S1x128x128.Idx) =
    m ((c : Thread nD τ).loc main_arg6) (ix4 (batch t) ⟨0 + x.val / 64, by omega⟩ ⟨x.val % 64, by omega⟩ e) := by
  unfold carried0 stores
  rw [View.readCov_skip _ _ _ _ _ (by decide +kernel)]
  rw [View.readCov_cons_toLoadRect]
  refine Eq.trans (b := View.ld (iblk m c 6 t)
    (Rect.unit ![0, 0, 0, 0] ![1, 1, 128, 128] inb_S1x2x128x128_S1x1x128x128_0_0_0_0) (ix4 0 0 x e : S1x1x128x128.Idx)) ?_ ?_
  · pointwise [k0_pay7]
  · refine (View.ld_unit_apply_of (S := S1x2x128x128) _ _ _ _ _ (ix4 0 0 x e) fun a => ?_).trans ?_
    · match a with
      | ⟨0, _⟩ => rfl
      | ⟨1, _⟩ => rfl
      | ⟨2, _⟩ => exact (Nat.zero_add _).symm
      | ⟨3, _⟩ => exact (Nat.zero_add _).symm
    · exact block6 m c t 0 x e

/-- Where pair 1's state lies in the scratch. -/
abbrev place1 : Rect S2x128x128 := Rect.unit ![1, 0, 0] ![1, 128, 128] inb_S2x128x128_S1x128x128_1_0_0

/-- Pair 1's state, as the scratch hands it back. -/
def carried1 (t : Fin cfg0.N) : Vec Ideal S1x128x128 .f32 :=
  (View.whole cc0_scratch0).readCov (Val := Elt Ideal) (stores m c t) place1.toLoadRect

theorem pair1_at (t : Fin cfg0.N) (e x : Fin 128) :
    carried1 m c t (ix3 0 e x : S1x128x128.Idx) =
    m ((c : Thread nD τ).loc main_arg6) (ix4 (batch t) ⟨2 + x.val / 64, by omega⟩ ⟨x.val % 64, by omega⟩ e) := by
  unfold carried1 stores
  rw [View.readCov_cons_toLoadRect]
  refine Eq.trans (b := View.ld (iblk m c 6 t)
    (Rect.unit ![0, 1, 0, 0] ![1, 1, 128, 128] inb_S1x2x128x128_S1x1x128x128_0_1_0_0) (ix4 0 0 x e : S1x1x128x128.Idx)) ?_ ?_
  · pointwise [k0_pay8]
  · refine (View.ld_unit_apply_of (S := S1x2x128x128) _ _ _ _ _ (ix4 0 1 x e) fun a => ?_).trans ?_
    · match a with
      | ⟨0, _⟩ => rfl
      | ⟨1, _⟩ => rfl
      | ⟨2, _⟩ => exact (Nat.zero_add _).symm
      | ⟨3, _⟩ => exact (Nat.zero_add _).symm
    · exact block6 m c t 1 x e

/-- Two rows gated alike are alike. -/
theorem gated_congr {o o' gain gain' g g' : Fin 128 → EReal} {e e' : Fin 128} (h0 : ∀ x, o x = o' x) (h1 : ∀ x, gain x = gain' x)
    (h2 : ∀ x, g x = g' x) (h3 : e = e') : Gla.gated o gain g e = Gla.gated o' gain' g' e' := by
  obtain rfl : o = o' := funext h0
  obtain rfl : gain = gain' := funext h1
  obtain rfl : g = g' := funext h2
  rw [h3]

/-- A head's row as the kernel takes it, once its pair's lanes are known to be the head's arrays. -/
theorem row_of {lo hi : BitVec 32} (pos : Fin 64 → Fin 128) (hl : ∀ f, lanes lo hi f = ∑ d, f (pos d))
    (x0 x1 : Shape.Idx ⟨3, ![32, 8, 256]⟩ → EReal) (x2 : Shape.Idx ⟨3, ![32, 8, 512]⟩ → EReal)
    (x3 : Shape.Idx ⟨3, ![32, 8, 256]⟩ → EReal) (x6 : Shape.Idx ⟨4, ![32, 4, 64, 128]⟩ → EReal) (ha : ∀ i, x3 i ≤ 0)
    (b : Fin 32) (h : Fin 4) (q k w : Fin 8 → Fin 128 → EReal) (v : Fin 8 → Fin 128 → EReal) (st : Fin 128 → Fin 128 → EReal)
    (hq : ∀ t d, q t (pos d) = Gla.head64 x0 b h t d * Ideal.ofBits .f32 0x3E000000#32)
    (hk : ∀ t d, k t (pos d) = Gla.head64 x1 b h t d) (hw : ∀ t d, w t (pos d) = Gla.cum (Gla.head64 x3 b h) t d)
    (hv : ∀ t e, v t e = Gla.head128 x2 b h t e) (hs : ∀ e d, st e (pos d) = x6 (ix4 b h d e)) (r : Fin 8) (e : Fin 128) :
    pairRow lo hi q k w v st r e = Gla.rowAt x0 x1 x2 x3 x6 b h r e := by
  rw [pairRow_eq pos hl q k w (Gla.head64 x3 b h) (fun _ _ => ha _) hw]
  unfold Gla.rowAt
  rw [show v = Gla.head128 x2 b h from funext fun t => funext fun e => hv t e,
    show (fun t d => k t (pos d)) = Gla.head64 x1 b h from funext fun t => funext fun d => hk t d]
  simp only [hq, hs]

/-- A pair's state in the lanes of its first head, once they are known to be the head's arrays. -/
theorem state_low_of (x1 : Shape.Idx ⟨3, ![32, 8, 256]⟩ → EReal) (x2 : Shape.Idx ⟨3, ![32, 8, 512]⟩ → EReal)
    (x3 : Shape.Idx ⟨3, ![32, 8, 256]⟩ → EReal) (x6 : Shape.Idx ⟨4, ![32, 4, 64, 128]⟩ → EReal)
    (b : Fin 32) (h : Fin 4) (k s : Fin 8 → Fin 128 → EReal) (v w : Fin 8 → Fin 128 → EReal) (st : Fin 128 → Fin 128 → EReal)
    (l e : Fin 128) (d : Fin 64) (hd : l.val = d.val)
    (hk : ∀ t (d : Fin 64), k t ⟨d.val, by omega⟩ = Gla.head64 x1 b h t d) (hw : ∀ t, s t l = Gla.cum (Gla.head64 x3 b h) t d)
    (hv : ∀ t e, v t e = Gla.head128 x2 b h t e) (hs : ∀ e (d : Fin 64), st e ⟨d.val, by omega⟩ = x6 (ix4 b h d e)) :
    pairState k s v w st l e = Gla.state (Gla.head64 x1 b h) (Gla.head64 x3 b h) (Gla.head128 x2 b h) (fun d e => x6 (ix4 b h d e)) d e := by
  rw [pairState_low k s v w st (Gla.head64 x3 b h) l e d hd hw]
  rw [show v = Gla.head128 x2 b h from funext fun t => funext fun e => hv t e]
  simp only [hk, hs]

/-- A pair's state in the lanes of its second head, once they are known to be the head's arrays. -/
theorem state_high_of (x1 : Shape.Idx ⟨3, ![32, 8, 256]⟩ → EReal) (x2 : Shape.Idx ⟨3, ![32, 8, 512]⟩ → EReal)
    (x3 : Shape.Idx ⟨3, ![32, 8, 256]⟩ → EReal) (x6 : Shape.Idx ⟨4, ![32, 4, 64, 128]⟩ → EReal)
    (b : Fin 32) (h : Fin 4) (k s : Fin 8 → Fin 128 → EReal) (v w : Fin 8 → Fin 128 → EReal) (st : Fin 128 → Fin 128 → EReal)
    (l e : Fin 128) (d : Fin 64) (hd : l.val = 64 + d.val)
    (hk : ∀ t (d : Fin 64), k t ⟨64 + d.val, by omega⟩ = Gla.head64 x1 b h t d) (hw : ∀ t, s t l = Gla.cum (Gla.head64 x3 b h) t d)
    (hv : ∀ t e, w t e = Gla.head128 x2 b h t e) (hs : ∀ e (d : Fin 64), st e ⟨64 + d.val, by omega⟩ = x6 (ix4 b h d e)) :
    pairState k s v w st l e = Gla.state (Gla.head64 x1 b h) (Gla.head64 x3 b h) (Gla.head128 x2 b h) (fun d e => x6 (ix4 b h d e)) d e := by
  rw [pairState_high k s v w st (Gla.head64 x3 b h) l e d hd hw]
  rw [show w = Gla.head128 x2 b h from funext fun t => funext fun e => hv t e]
  simp only [hk, hs]

/-- A head's running sums, read off the kernel's: its lanes start at lane `off`. -/
theorem decay_of (t : Fin cfg0.N) (h : Fin 4) (s : Fin 8) (d : Fin 64) (j : Fin 256) (hj : j.val = h.val * 64 + d.val) :
    k0_pay11 (iblk m c 3 t) (ix2 s j) = Gla.cum (Gla.head64 (m ((c : Thread nD τ).loc main_arg3)) (batch t) h) s d := by
  refine (sums_at (iblk m c 3 t) s j).trans ?_
  unfold Gla.cum Gla.head64
  refine Finset.sum_congr rfl fun u _ => ?_
  rw [block3 m c t u j, show j = (⟨h.val * 64 + d.val, by omega⟩ : Fin 256) from Fin.ext hj]

set_option maxHeartbeats 4000000 in
/-- The rows' array after the run, at batch `b`, row `r` and lane `j`, where no log decay is positive. -/
theorem final7 (ha : ∀ i : S32x8x256.Idx, @LE.le EReal _ (m ((c : Thread nD τ).loc main_arg3) i) 0) : (dats m 0 c).arrAt 7 cfg0.N = fun i => Gla.resultAt
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (i 0) (i 1) (i 2) := by
  refine (dats m 0 c).arrAt_eq_of_covers 7 _ (by decide +kernel) fun t hf y => ?_
  obtain ⟨r, j, rfl⟩ : ∃ (r : Fin 8) (j : Fin 512), y = (ix3 0 r j : S1x8x512.Idx) :=
    ⟨y 1, y 2, by funext a; match a with | ⟨0, _⟩ => exact Subsingleton.elim (α := Fin 1) _ _ | ⟨1, _⟩ => rfl | ⟨2, _⟩ => rfl⟩
  have e : ((cfg0.win 7).blk t).view.emb (ix3 0 r j : S1x8x512.Idx) = (ix3 (batch t) r j : S32x8x512.Idx) := by
    blk_ext [index7 t, batch]
  rw [e]
  show (dats m 0 c).after 7 t (ix3 0 r j : S1x8x512.Idx) = Gla.resultAt _ _ _ _ _ _ _ (batch t) r j
  rw [after0_7]
  unfold outsAt0
  frame_out
  canon_tiles x h
  · obtain ⟨s, l, rfl⟩ : ∃ (s : Fin 8) (l : Fin 128), x = (ix3 0 s l : S1x8x128.Idx) :=
      ⟨x 1, x 2, by funext a; match a with | ⟨0, _⟩ => exact Subsingleton.elim (α := Fin 1) _ _ | ⟨1, _⟩ => rfl | ⟨2, _⟩ => rfl⟩
    obtain rfl : r = s := Fin.ext h1
    have hj : j.val = 384 + l.val := h2
    unfold Gla.resultAt
    refine (gated3_at _ _ _ r l).trans (gated_congr (fun e => ?_) (fun e => block5 m c t e) (fun e => ?_) ?_)
    · refine (head3_at _ _ _ _ (carried1 m c t) r e).trans ?_
      rw [show (⟨j.val / 128, by omega⟩ : Fin 4) = 3 from Fin.ext (by show j.val / 128 = 3; omega)]
      refine row_of (fun d => ⟨64 + d.val, by omega⟩) lanes_high _ _ _ _ _ ha _ _ _ _ _ _ _ (fun t' d => ?_) (fun t' d => ?_) (fun t' d => ?_)
        (fun t' e => ?_) (fun e d => ?_) r e
      · exact congrArg (· * _) ((queries_at m c t 128 (by omega) _ t' _).trans (congrArg _ (congrArg (ix3 _ _) (Fin.ext (by
          show 128 + (64 + d.val) = 3 * 64 + d.val; omega)))))
      · exact (keys_at m c t 128 (by omega) _ t' _).trans (congrArg _ (congrArg (ix3 _ _) (Fin.ext (by
          show 128 + (64 + d.val) = 3 * 64 + d.val; omega))))
      · exact decay_of m c t 3 t' d _ (by show 128 + (64 + d.val) = 3 * 64 + d.val; omega)
      · exact values_at m c t 384 (by omega) _ t' e
      · refine (pair1_at m c t e _).trans (congrArg _ ?_)
        rw [show (⟨2 + (64 + d.val) / 64, by omega⟩ : Fin 4) = 3 from Fin.ext (by show 2 + (64 + d.val) / 64 = 3; omega),
          show (⟨(64 + d.val) % 64, by omega⟩ : Fin 64) = d from Fin.ext (by show (64 + d.val) % 64 = d.val; omega)]
    · rw [show (⟨j.val / 128, by omega⟩ : Fin 4) = 3 from Fin.ext (by show j.val / 128 = 3; omega)]
      exact gates_at m c t 384 (by omega) _ r e
    · exact Fin.ext (by show l.val = j.val % 128; omega)
  · obtain ⟨s, l, rfl⟩ : ∃ (s : Fin 8) (l : Fin 128), x = (ix3 0 s l : S1x8x128.Idx) :=
      ⟨x 1, x 2, by funext a; match a with | ⟨0, _⟩ => exact Subsingleton.elim (α := Fin 1) _ _ | ⟨1, _⟩ => rfl | ⟨2, _⟩ => rfl⟩
    obtain rfl : r = s := Fin.ext h1
    have hj : j.val = 256 + l.val := h2
    unfold Gla.resultAt
    refine (gated2_at _ _ _ _ (squares_at _ _ _ _ _ _) r l).trans (gated_congr (fun e => ?_) (fun e => block5 m c t e) (fun e => ?_) ?_)
    · refine (head2_at _ _ _ _ (carried1 m c t) r e).trans ?_
      rw [show (⟨j.val / 128, by omega⟩ : Fin 4) = 2 from Fin.ext (by show j.val / 128 = 2; omega)]
      refine row_of (fun d => ⟨d.val, by omega⟩) lanes_low _ _ _ _ _ ha _ _ _ _ _ _ _ (fun t' d => ?_) (fun t' d => ?_) (fun t' d => ?_)
        (fun t' e => ?_) (fun e d => ?_) r e
      · exact congrArg (· * _) ((queries_at m c t 128 (by omega) _ t' _).trans (congrArg _ (congrArg (ix3 _ _) (Fin.ext (by
          show 128 + (d.val) = 2 * 64 + d.val; omega)))))
      · exact (keys_at m c t 128 (by omega) _ t' _).trans (congrArg _ (congrArg (ix3 _ _) (Fin.ext (by
          show 128 + (d.val) = 2 * 64 + d.val; omega))))
      · exact decay_of m c t 2 t' d _ (by show 128 + (d.val) = 2 * 64 + d.val; omega)
      · exact values_at m c t 256 (by omega) _ t' e
      · refine (pair1_at m c t e _).trans (congrArg _ ?_)
        rw [show (⟨2 + (d.val) / 64, by omega⟩ : Fin 4) = 2 from Fin.ext (by show 2 + (d.val) / 64 = 2; omega),
          show (⟨(d.val) % 64, by omega⟩ : Fin 64) = d from Fin.ext (by show (d.val) % 64 = d.val; omega)]
    · rw [show (⟨j.val / 128, by omega⟩ : Fin 4) = 2 from Fin.ext (by show j.val / 128 = 2; omega)]
      exact gates_at m c t 256 (by omega) _ r e
    · exact Fin.ext (by show l.val = j.val % 128; omega)
  · obtain ⟨s, l, rfl⟩ : ∃ (s : Fin 8) (l : Fin 128), x = (ix3 0 s l : S1x8x128.Idx) :=
      ⟨x 1, x 2, by funext a; match a with | ⟨0, _⟩ => exact Subsingleton.elim (α := Fin 1) _ _ | ⟨1, _⟩ => rfl | ⟨2, _⟩ => rfl⟩
    obtain rfl : r = s := Fin.ext h1
    have hj : j.val = 128 + l.val := h2
    unfold Gla.resultAt
    refine (gated1_at _ _ _ r l).trans (gated_congr (fun e => ?_) (fun e => block5 m c t e) (fun e => ?_) ?_)
    · refine (head1_at _ _ _ _ (carried0 m c t) r e).trans ?_
      rw [show (⟨j.val / 128, by omega⟩ : Fin 4) = 1 from Fin.ext (by show j.val / 128 = 1; omega)]
      refine row_of (fun d => ⟨64 + d.val, by omega⟩) lanes_high _ _ _ _ _ ha _ _ _ _ _ _ _ (fun t' d => ?_) (fun t' d => ?_) (fun t' d => ?_)
        (fun t' e => ?_) (fun e d => ?_) r e
      · exact congrArg (· * _) ((queries_at m c t 0 (by omega) _ t' _).trans (congrArg _ (congrArg (ix3 _ _) (Fin.ext (by
          show 0 + (64 + d.val) = 1 * 64 + d.val; omega)))))
      · exact (keys_at m c t 0 (by omega) _ t' _).trans (congrArg _ (congrArg (ix3 _ _) (Fin.ext (by
          show 0 + (64 + d.val) = 1 * 64 + d.val; omega))))
      · exact decay_of m c t 1 t' d _ (by show 64 + d.val = 1 * 64 + d.val; omega)
      · exact values_at m c t 128 (by omega) _ t' e
      · refine (pair0_at m c t e _).trans (congrArg _ ?_)
        rw [show (⟨0 + (64 + d.val) / 64, by omega⟩ : Fin 4) = 1 from Fin.ext (by show 0 + (64 + d.val) / 64 = 1; omega),
          show (⟨(64 + d.val) % 64, by omega⟩ : Fin 64) = d from Fin.ext (by show (64 + d.val) % 64 = d.val; omega)]
    · rw [show (⟨j.val / 128, by omega⟩ : Fin 4) = 1 from Fin.ext (by show j.val / 128 = 1; omega)]
      exact gates_at m c t 128 (by omega) _ r e
    · exact Fin.ext (by show l.val = j.val % 128; omega)
  · obtain ⟨s, l, rfl⟩ : ∃ (s : Fin 8) (l : Fin 128), x = (ix3 0 s l : S1x8x128.Idx) :=
      ⟨x 1, x 2, by funext a; match a with | ⟨0, _⟩ => exact Subsingleton.elim (α := Fin 1) _ _ | ⟨1, _⟩ => rfl | ⟨2, _⟩ => rfl⟩
    obtain rfl : r = s := Fin.ext h1
    have hj : j.val = 0 + l.val := by have := h2; simpa using this
    unfold Gla.resultAt
    refine (gated0_at _ _ _ r l).trans (gated_congr (fun e => ?_) (fun e => block5 m c t e) (fun e => ?_) ?_)
    · refine (head0_at _ _ _ _ (carried0 m c t) r e).trans ?_
      rw [show (⟨j.val / 128, by omega⟩ : Fin 4) = 0 from Fin.ext (by show j.val / 128 = 0; omega)]
      refine row_of (fun d => ⟨d.val, by omega⟩) lanes_low _ _ _ _ _ ha _ _ _ _ _ _ _ (fun t' d => ?_) (fun t' d => ?_) (fun t' d => ?_)
        (fun t' e => ?_) (fun e d => ?_) r e
      · exact congrArg (· * _) ((queries_at m c t 0 (by omega) _ t' _).trans (congrArg _ (congrArg (ix3 _ _) (Fin.ext (by
          show 0 + (d.val) = 0 * 64 + d.val; omega)))))
      · exact (keys_at m c t 0 (by omega) _ t' _).trans (congrArg _ (congrArg (ix3 _ _) (Fin.ext (by
          show 0 + (d.val) = 0 * 64 + d.val; omega))))
      · exact decay_of m c t 0 t' d _ (by show d.val = 0 * 64 + d.val; omega)
      · exact values_at m c t 0 (by omega) _ t' e |>.trans (congrArg _ (congrArg (ix3 _ _) (Fin.ext (by show 0 + e.val = 0 * 128 + e.val; omega))))
      · refine (pair0_at m c t e _).trans (congrArg _ ?_)
        rw [show (⟨0 + (d.val) / 64, by omega⟩ : Fin 4) = 0 from Fin.ext (by show 0 + (d.val) / 64 = 0; omega),
          show (⟨(d.val) % 64, by omega⟩ : Fin 64) = d from Fin.ext (by show (d.val) % 64 = d.val; omega)]
    · rw [show (⟨j.val / 128, by omega⟩ : Fin 4) = 0 from Fin.ext (by show j.val / 128 = 0; omega)]
      exact gates_at m c t 0 (by omega) _ r e |>.trans (congrArg _ (congrArg (ix3 _ _) (Fin.ext (by show 0 + e.val = 0 * 128 + e.val; omega))))
    · exact Fin.ext (by show l.val = j.val % 128; omega)

set_option maxHeartbeats 4000000 in
/-- The states' array after the run, at batch `b`, pair `p`, row `l` and lane `e`. -/
theorem final8 : (dats m 0 c).arrAt 8 cfg0.N = fun i => Gla.stateAt (m ((c : Thread nD τ).loc main_arg1)) (m ((c : Thread nD τ).loc main_arg2))
    (m ((c : Thread nD τ).loc main_arg3)) (m ((c : Thread nD τ).loc main_arg6)) (i 0) (i 1) (i 2) (i 3) := by
  refine (dats m 0 c).arrAt_eq_of_covers 8 _ (by decide +kernel) fun t hf y => ?_
  obtain ⟨p, l, e, rfl⟩ : ∃ (p : Fin 2) (l e : Fin 128), y = (ix4 0 p l e : S1x2x128x128.Idx) :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  have e' : ((cfg0.win 8).blk t).view.emb (ix4 0 p l e : S1x2x128x128.Idx) = (ix4 (batch t) p l e : S32x2x128x128.Idx) := by
    blk_ext [index8 t, batch]
  rw [e']
  show (dats m 0 c).after 8 t (ix4 0 p l e : S1x2x128x128.Idx) = Gla.stateAt _ _ _ _ (batch t) p l e
  rw [after0_8]
  unfold outsAt0
  frame_out
  canon_tiles x h
  · obtain ⟨l', e', rfl⟩ : ∃ l' e' : Fin 128, x = (ix4 0 0 l' e' : S1x1x128x128.Idx) :=
      ⟨x 2, x 3, by
        funext a
        match a with
        | ⟨0, _⟩ => exact Subsingleton.elim (α := Fin 1) _ _
        | ⟨1, _⟩ => exact Subsingleton.elim (α := Fin 1) _ _
        | ⟨2, _⟩ => rfl
        | ⟨3, _⟩ => rfl⟩
    obtain rfl : l = l' := Fin.ext (by have := h2; simpa using this)
    obtain rfl : e = e' := Fin.ext (by have := h3; simpa using this)
    obtain rfl : p = 1 := Fin.ext (by have := h1; simpa using this)
    refine (state1_at _ _ _ _ (carried1 m c t) l e).trans ?_
    unfold Gla.stateAt
    by_cases hlt : l.val < 64
    · rw [show (⟨((1 : Fin 2) : Nat) * 2 + l.val / 64, by omega⟩ : Fin 4) = 2 from Fin.ext (by show 1 * 2 + l.val / 64 = 2; omega)]
      refine (state_low_of _ _ _ _ (batch t) 2 _ _ _ _ _ l e ⟨l.val % 64, by omega⟩ (by show l.val = l.val % 64; omega) (fun t' d => ?_)
        (fun t' => ?_) (fun t' e => ?_) (fun e d => ?_))
      · exact (keys_at m c t 128 (by omega) _ t' _).trans (congrArg _ (congrArg (ix3 _ _) (Fin.ext (by
          show 128 + (d.val) = 2 * 64 + d.val; omega))))
      · exact decay_of m c t 2 t' _ _ (by show 128 + l.val = 2 * 64 + l.val % 64; omega)
      · exact values_at m c t 256 (by omega) _ t' e
      · refine (pair1_at m c t e _).trans (congrArg _ ?_)
        rw [show (⟨2 + (d.val) / 64, by omega⟩ : Fin 4) = 2 from Fin.ext (by show 2 + (d.val) / 64 = 2; omega),
          show (⟨(d.val) % 64, by omega⟩ : Fin 64) = d from Fin.ext (by show (d.val) % 64 = d.val; omega)]
    · rw [show (⟨((1 : Fin 2) : Nat) * 2 + l.val / 64, by omega⟩ : Fin 4) = 3 from Fin.ext (by show 1 * 2 + l.val / 64 = 3; omega)]
      refine (state_high_of _ _ _ _ (batch t) 3 _ _ _ _ _ l e ⟨l.val % 64, by omega⟩ (by show l.val = 64 + l.val % 64; omega) (fun t' d => ?_)
        (fun t' => ?_) (fun t' e => ?_) (fun e d => ?_))
      · exact (keys_at m c t 128 (by omega) _ t' _).trans (congrArg _ (congrArg (ix3 _ _) (Fin.ext (by
          show 128 + (64 + d.val) = 3 * 64 + d.val; omega))))
      · exact decay_of m c t 3 t' _ _ (by show 128 + l.val = 3 * 64 + l.val % 64; omega)
      · exact values_at m c t 384 (by omega) _ t' e
      · refine (pair1_at m c t e _).trans (congrArg _ ?_)
        rw [show (⟨2 + (64 + d.val) / 64, by omega⟩ : Fin 4) = 3 from Fin.ext (by show 2 + (64 + d.val) / 64 = 3; omega),
          show (⟨(64 + d.val) % 64, by omega⟩ : Fin 64) = d from Fin.ext (by show (64 + d.val) % 64 = d.val; omega)]
  · obtain ⟨l', e', rfl⟩ : ∃ l' e' : Fin 128, x = (ix4 0 0 l' e' : S1x1x128x128.Idx) :=
      ⟨x 2, x 3, by
        funext a
        match a with
        | ⟨0, _⟩ => exact Subsingleton.elim (α := Fin 1) _ _
        | ⟨1, _⟩ => exact Subsingleton.elim (α := Fin 1) _ _
        | ⟨2, _⟩ => rfl
        | ⟨3, _⟩ => rfl⟩
    obtain rfl : l = l' := Fin.ext (by have := h2; simpa using this)
    obtain rfl : e = e' := Fin.ext (by have := h3; simpa using this)
    obtain rfl : p = 0 := Fin.ext (by have := h1; simpa using this)
    refine (state0_at _ _ _ _ (carried0 m c t) l e).trans ?_
    unfold Gla.stateAt
    by_cases hlt : l.val < 64
    · rw [show (⟨((0 : Fin 2) : Nat) * 2 + l.val / 64, by omega⟩ : Fin 4) = 0 from Fin.ext (by show 0 * 2 + l.val / 64 = 0; omega)]
      refine (state_low_of _ _ _ _ (batch t) 0 _ _ _ _ _ l e ⟨l.val % 64, by omega⟩ (by show l.val = l.val % 64; omega) (fun t' d => ?_)
        (fun t' => ?_) (fun t' e => ?_) (fun e d => ?_))
      · exact (keys_at m c t 0 (by omega) _ t' _).trans (congrArg _ (congrArg (ix3 _ _) (Fin.ext (by
          show 0 + (d.val) = 0 * 64 + d.val; omega))))
      · exact decay_of m c t 0 t' _ _ (by show l.val = 0 * 64 + l.val % 64; omega)
      · exact values_at m c t 0 (by omega) _ t' e |>.trans (congrArg _ (congrArg (ix3 _ _) (Fin.ext (by show 0 + e.val = 0 * 128 + e.val; omega))))
      · refine (pair0_at m c t e _).trans (congrArg _ ?_)
        rw [show (⟨0 + (d.val) / 64, by omega⟩ : Fin 4) = 0 from Fin.ext (by show 0 + (d.val) / 64 = 0; omega),
          show (⟨(d.val) % 64, by omega⟩ : Fin 64) = d from Fin.ext (by show (d.val) % 64 = d.val; omega)]
    · rw [show (⟨((0 : Fin 2) : Nat) * 2 + l.val / 64, by omega⟩ : Fin 4) = 1 from Fin.ext (by show 0 * 2 + l.val / 64 = 1; omega)]
      refine (state_high_of _ _ _ _ (batch t) 1 _ _ _ _ _ l e ⟨l.val % 64, by omega⟩ (by show l.val = 64 + l.val % 64; omega) (fun t' d => ?_)
        (fun t' => ?_) (fun t' e => ?_) (fun e d => ?_))
      · exact (keys_at m c t 0 (by omega) _ t' _).trans (congrArg _ (congrArg (ix3 _ _) (Fin.ext (by
          show 0 + (64 + d.val) = 1 * 64 + d.val; omega))))
      · exact decay_of m c t 1 t' _ _ (by show l.val = 1 * 64 + l.val % 64; omega)
      · exact values_at m c t 128 (by omega) _ t' e
      · refine (pair0_at m c t e _).trans (congrArg _ ?_)
        rw [show (⟨0 + (64 + d.val) / 64, by omega⟩ : Fin 4) = 1 from Fin.ext (by show 0 + (64 + d.val) / 64 = 1; omega),
          show (⟨(64 + d.val) % 64, by omega⟩ : Fin 64) = d from Fin.ext (by show (64 + d.val) % 64 = d.val; omega)]

end Cert.KernelIdeal.GlaValue

end
end
-- ==== Proof.GlaClaim.lean ====
/-
The gated linear attention call of the sample: the rows and the states the kernel leaves are the reference's, where no log
decay is positive.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.GlaReference
public import proofs.«01_k».proof.Proof.GlaValue

@[expose] public section

set_option maxRecDepth 16384

noncomputable section

namespace Cert.GlaClaim

open Idealize.ShloMosaic Idealize.ShloMosaic.TcCoe Idealize.SL.Sem
open Idealize.ShloMosaic.Pipeline (Dat)

/-- What the precondition's one broadcast asks of its shapes. -/
theorem preFacts : Cert.Pre_decaying.Facts := ⟨by decide⟩

/-- The precondition says that no log decay is positive. -/
theorem decaying (m : (ℓ : Loc Cert.KernelIdeal.nD Cert.KernelIdeal.τ Cert.KernelIdeal.sig) → Buf (Elt Ideal) ℓ)
    (hp : Cert.Pre_KernelIdeal_decaying (hPre_decaying := preFacts) m) (c : Dev Cert.KernelIdeal.nD)
    (i : Cert.KernelIdeal.S32x8x256.Idx) :
    @LE.le EReal _ (m ((c.tc : Thread Cert.KernelIdeal.nD Cert.KernelIdeal.τ).loc Cert.KernelIdeal.main_arg3) i) 0 := by
  have h : Ideal.cmp .ole (m ((c.tc : Thread Cert.KernelIdeal.nD Cert.KernelIdeal.τ).loc Cert.KernelIdeal.main_arg3) i)
      (Ideal.ofBits .f32 0x00000000#32) = 1#1 := congrFun (hp c) i
  rw [Ideal.ofBits_zero_f32] at h
  by_contra hn
  rw [Ideal.cmp] at h
  simp [hn] at h

/-- The array the kernel leaves for window 7 is what the reference computes as `main_v62`, when the
arguments are the same. -/
theorem same7 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hla : ∀ i : Cert.KernelIdeal.S32x8x256.Idx, @LE.le EReal _ (m ((c.tc : Thread Cert.KernelIdeal.nD Cert.KernelIdeal.τ).loc Cert.KernelIdeal.main_arg3) i) 0)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Read.val_main_v62 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = (Cert.KernelIdeal.Gen.dats m 0 c).arrAt 7 Cert.KernelIdeal.cfg0.N := by
  obtain ⟨h0, h1, h2, h3, h4, h5, h6⟩ := h
  rw [h0, h1, h2, h3, h4, h5, h6]
  refine Eq.trans ?_ (Cert.KernelIdeal.GlaValue.final7 m c hla).symm
  funext i
  obtain ⟨b, t, j, rfl⟩ : ∃ b t j, i = ix3 b t j := ⟨i 0, i 1, i 2, eq_ix3 i⟩
  exact Cert.ReferenceIdeal.RefValue.result_at _ _ _ _ _ _ _ b t j
/-- The array the kernel leaves for window 8 is what the reference computes as `main_v63`, when the
arguments are the same. -/
theorem same8 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Read.val_main_v63 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) = (Cert.KernelIdeal.Gen.dats m 0 c).arrAt 8 Cert.KernelIdeal.cfg0.N := by
  obtain ⟨h0, h1, h2, h3, h4, h5, h6⟩ := h
  rw [h1, h2, h3, h6]
  refine Eq.trans ?_ (Cert.KernelIdeal.GlaValue.final8 m c).symm
  funext i
  obtain ⟨b, p, l, e, rfl⟩ : ∃ b p l e, i = ix4 b p l e := ⟨i 0, i 1, i 2, i 3, eq_ix4 i⟩
  exact Cert.ReferenceIdeal.RefValue.state_at _ _ _ _ b p l e
set_option maxHeartbeats 4000000 in
/-- The kernel and the reference, run from equal arguments, leave equal results. -/
theorem algebraic : Cert.algebraic_KernelIdeal_ReferenceIdeal_pre_decaying
    (hKernelIdeal := Cert.KernelIdeal.Gen.facts) (hReferenceIdeal := Cert.ReferenceIdeal.Gen.facts)
    (hPre_decaying := preFacts) := by
  intro m g m' g' hp hargs
  refine ⟨fun c => (Cert.KernelIdeal.Gen.dats m 0 c).arrAt 7 Cert.KernelIdeal.cfg0.N, fun c => (Cert.KernelIdeal.Gen.dats m 0 c).arrAt 8 Cert.KernelIdeal.cfg0.N, ?_, ?_⟩
  · exact Cert.KernelIdeal.Value.run_blocks m g
  · refine (θ_run Cert.ReferenceIdeal.defs _ _).mono (fun r h c => ?_) (Cert.ReferenceIdeal.Value.run (F := Ideal) m' g')
    obtain ⟨e7, e8, hk⟩ := h c
    have ha := hargs c
    refine ⟨e7.trans ?_, e8.trans ?_, hk⟩
    · exact Eq.trans (Cert.ReferenceIdeal.Read.val_main_v62_eq m' c) (same7 m m' c (decaying m hp c) ha)
    · exact Eq.trans (Cert.ReferenceIdeal.Read.val_main_v63_eq (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6))) (same8 m m' c ha)

end Cert.GlaClaim

end

end
-- ==== Proof.MixReference.lean ====
/- What the plain program of the part after the mixers computes, row by row: `Rows.mixAt`. -/
module

public import proofs.«01_k».proof.Proof.Gen.MixRefIdeal.Read
public import proofs.«01_k».proof.Proof.Rows

@[expose] public section

set_option maxRecDepth 16384

noncomputable section

namespace Cert.MixRefIdeal.RefValue

open Idealize.ShloMosaic Idealize.ShloMosaic.TcCoe Idealize.SL.Sem
open Cert.MixRefIdeal Cert.MixRefIdeal.Read

variable (x0 : (⟨S16384x1024, .f32⟩ : BufTy).Contents (Elt Ideal)) (x1 x2 : (⟨S16384x512, .f32⟩ : BufTy).Contents (Elt Ideal))
  (x3 x4 : (⟨S16384x1024, .bf16⟩ : BufTy).Contents (Elt Ideal)) (x5 x6 : (⟨S1x512x1024, .f32⟩ : BufTy).Contents (Elt Ideal))
  (x7 : (⟨S1x1024x1024, .f32⟩ : BufTy).Contents (Elt Ideal)) (x8 : (⟨S1x1024x4096, .f32⟩ : BufTy).Contents (Elt Ideal))
  (x9 : (⟨S1x4096x1024, .f32⟩ : BufTy).Contents (Elt Ideal)) (x10 x11 x12 : (⟨S1x1024, .f32⟩ : BufTy).Contents (Elt Ideal))

/-- The merged branches. -/
theorem merge_at (r : Fin 16384) (j : Fin 1024) : val_main_v10 (F := Ideal) x1 x2 x3 x4 x5 x6 x7 (ix2 r j) =
    Rows.merge (fun k => x3 (ix2 r k)) (fun k => x4 (ix2 r k)) (fun k => x1 (ix2 r k)) (fun k => x2 (ix2 r k))
      (fun l k => x5 (ix3 0 l k)) (fun l k => x6 (ix3 0 l k)) (fun l k => x7 (ix3 0 l k)) j := by
  unfold Rows.merge
  pointwise [val_main_v10, val_main_v9, val_main_v8, val_main_v7, val_main_v6, val_main_v5, val_main_v4, val_main_v3,
    val_main_v2, val_main_v1, val_main_v0, dot_S16384x1024_S1024x1024_S16384x1024_1_0_0_1_n_n,
    dot_S16384x512_S512x1024_S16384x1024_1_0_0_1_n_n]

/-- The row after the branches. -/
theorem afterMix_at (r : Fin 16384) (j : Fin 1024) : val_main_v25 (F := Ideal) x0 x1 x2 x3 x4 x5 x6 x7 x10 (ix2 r j) =
    Rows.afterMix (Ideal.ofBits .f32 0x44800000#32) (Ideal.ofBits .f32 0x358637BD#32) (fun k => x0 (ix2 r k))
      (fun k => x3 (ix2 r k)) (fun k => x4 (ix2 r k)) (fun k => x1 (ix2 r k)) (fun k => x2 (ix2 r k))
      (fun l k => x5 (ix3 0 l k)) (fun l k => x6 (ix3 0 l k)) (fun l k => x7 (ix3 0 l k)) (fun k => x10 (ix2 0 k)) j := by
  unfold Rows.afterMix Rows.rms
  simp only [← merge_at]
  pointwise [val_main_v25, val_main_v24, val_main_v23, val_main_v22, val_main_v21, val_main_v20, val_main_v19, val_main_v18,
    val_main_v17, val_main_v16, val_main_v15, val_main_v14, val_main_v13, val_main_v12, val_main_v11, val_main_cst,
    val_main_cst_0, val_main_cst_1]

/-- The network on the normalised row. -/
theorem relu2_at (r : Fin 16384) (j : Fin 1024) :
    val_main_v45 (F := Ideal) x0 x1 x2 x3 x4 x5 x6 x7 x8 x9 x10 x11 (ix2 r j) =
    Rows.relu2 (fun l => Rows.rms (Ideal.ofBits .f32 0x44800000#32) (Ideal.ofBits .f32 0x358637BD#32)
        (fun k => val_main_v25 (F := Ideal) x0 x1 x2 x3 x4 x5 x6 x7 x10 (ix2 r k)) l * x11 (ix2 0 l))
      (fun l k => x8 (ix3 0 l k)) (fun l k => x9 (ix3 0 l k)) j := by
  unfold Rows.relu2 Rows.rms
  pointwise [val_main_v45, val_main_v44, val_main_v43, val_main_v42, val_main_call0_v0, val_main_call0_cst, val_main_v41, val_main_v40, val_main_v39, val_main_v38,
    val_main_v37, val_main_v36, val_main_v35, val_main_v34, val_main_v33, val_main_v32, val_main_v31, val_main_v30,
    val_main_v29, val_main_v28, val_main_v27, val_main_v26, val_main_cst_2, val_main_cst_3, val_main_cst_4,
    dot_S16384x1024_S1024x4096_S16384x4096_1_0_0_1_n_n, dot_S16384x4096_S4096x1024_S16384x1024_1_0_0_1_n_n]

/-- The result array at row `r`, lane `j`. -/
theorem result_at (r : Fin 16384) (j : Fin 1024) :
    val_main_v60 (F := Ideal) x0 x1 x2 x3 x4 x5 x6 x7 x8 x9 x10 x11 x12 (ix2 r j) =
    Rows.mixAt x0 x1 x2 x3 x4 x5 x6 x7 x8 x9 x10 x11 x12 r j := by
  have h : Rows.mixAt x0 x1 x2 x3 x4 x5 x6 x7 x8 x9 x10 x11 x12 r j =
      val_main_v25 (F := Ideal) x0 x1 x2 x3 x4 x5 x6 x7 x10 (ix2 r j)
        + Rows.rms (Ideal.ofBits .f32 0x44800000#32) (Ideal.ofBits .f32 0x358637BD#32)
          (fun k => val_main_v45 (F := Ideal) x0 x1 x2 x3 x4 x5 x6 x7 x8 x9 x10 x11 (ix2 r k)) j * x12 (ix2 0 j) := by
    simp only [relu2_at, afterMix_at]; rfl
  rw [h]
  unfold Rows.rms
  pointwise [val_main_v60, val_main_v59, val_main_v58, val_main_v57, val_main_v56, val_main_v55, val_main_v54, val_main_v53,
    val_main_v52, val_main_v51, val_main_v50, val_main_v49, val_main_v48, val_main_v47, val_main_v46, val_main_cst_5,
    val_main_cst_6, val_main_cst_7]

end Cert.MixRefIdeal.RefValue

end
-- ==== Proof.MixValue.lean ====
/- What the tiled kernel of the part after the mixers leaves in its result array: `Rows.mixAt` of its arguments. A grid
   point takes 512 rows; the matrices and the gains are whole at every point. -/
module

public import proofs.«01_k».proof.Proof.Gen.MixIdeal.Value
public import proofs.«01_k».proof.Proof.Rows

@[expose] public section

set_option maxRecDepth 16384

noncomputable section

namespace Cert.MixIdeal.MixValue

open Idealize.ShloMosaic Idealize.ShloMosaic.TcCoe Idealize.SL.Sem
open Idealize.ShloMosaic.Pipeline (Dat)
open Cert.MixIdeal Cert.MixIdeal.Gen

/-- A tile's merged and normalised branches. -/
theorem merged_at (v0 : Vec Ideal S512x1024 .bf16) (v2 : Vec Ideal S512x512 .f32) (v3 v8 : Vec Ideal S512x1024 .bf16)
    (v10 : Vec Ideal S512x512 .f32) (v11 : Vec Ideal S512x1024 .bf16) (v18 : Vec Ideal S1024x1024 .bf16)
    (r : Fin 512) (j : Fin 1024) :
    k0_pay1 v0 v2 v3 v8 v10 v11 v18 (ix2 r j) =
      Rows.rms (Ideal.ofBits .f32 0x44800000#32) (Ideal.ofBits .f32 0x358637BD#32)
        (Rows.merge (fun k => v0 (ix2 r k)) (fun k => v8 (ix2 r k)) (fun k => v2 (ix2 r k)) (fun k => v10 (ix2 r k))
          (fun l k => v3 (ix2 l k)) (fun l k => v11 (ix2 l k)) (fun l k => v18 (ix2 l k))) j := by
  unfold Rows.rms Rows.merge
  pointwise [k0_pay1, dot_S512x512_S512x1024_S512x1024_1_0_0_1_n_n, dot_S512x1024_S1024x1024_S512x1024_1_0_0_1_n_n]

/-- A tile's feed-forward network. -/
theorem ffn_at (v17 : Vec Ideal S512x1024 .f32) (v33 v34 : FVec Ideal S512x1024 .f32) (v37 : Vec Ideal S1x1024 .f32)
    (v51 : Vec Ideal S1024x4096 .bf16) (v58 : Vec Ideal S4096x1024 .bf16) (v62 : Vec Ideal S1x1024 .f32)
    (r : Fin 512) (j : Fin 1024) :
    k0_pay3 v17 v33 v34 v37 v51 v58 v62 (ix2 r j) =
      Rows.afterFfn (Ideal.ofBits .f32 0x44800000#32) (Ideal.ofBits .f32 0x358637BD#32)
        (fun k => v17 (ix2 r k) + v33 (ix2 r k) * v34 (ix2 r k)) (fun l k => v51 (ix2 l k)) (fun l k => v58 (ix2 l k))
        (fun k => v37 (ix2 0 k)) (fun k => v62 (ix2 0 k)) j := by
  unfold Rows.afterFfn Rows.relu2 Rows.rms
  pointwise [k0_pay3, dot_S512x1024_S1024x4096_S512x4096_1_0_0_1_n_n, dot_S512x4096_S4096x1024_S512x1024_1_0_0_1_n_n]

/-- The gain, spread over the tile's rows. -/
theorem gain_at (v22 : Vec Ideal S1x1024 .f32) (r : Fin 512) (j : Fin 1024) : k0_pay2 v22 (ix2 r j) = v22 (ix2 0 j) := by
  pointwise [k0_pay2]

variable (m : (ℓ : Loc nD τ sig) → Buf (Elt Ideal) ℓ) (c : Dev nD)

/-- The matrix of argument 5 as the region finds it. -/
theorem V_main_v1 (l : Fin 512) (k : Fin 1024) :
    V m c main_v1 (ix2 l k) = m ((c : Thread nD τ).loc main_arg5) (ix3 0 l k) := by
  show StableHlo.after hostOps0 _ (Proc.devRef .tc main_v1) _ = _
  after_results
  pointwise

/-- The matrix of argument 6 as the region finds it. -/
theorem V_main_v3 (l : Fin 512) (k : Fin 1024) :
    V m c main_v3 (ix2 l k) = m ((c : Thread nD τ).loc main_arg6) (ix3 0 l k) := by
  show StableHlo.after hostOps0 _ (Proc.devRef .tc main_v3) _ = _
  after_results
  pointwise

/-- The matrix of argument 7 as the region finds it. -/
theorem V_main_v5 (l : Fin 1024) (k : Fin 1024) :
    V m c main_v5 (ix2 l k) = m ((c : Thread nD τ).loc main_arg7) (ix3 0 l k) := by
  show StableHlo.after hostOps0 _ (Proc.devRef .tc main_v5) _ = _
  after_results
  pointwise

/-- The matrix of argument 8 as the region finds it. -/
theorem V_main_v7 (l : Fin 1024) (k : Fin 4096) :
    V m c main_v7 (ix2 l k) = m ((c : Thread nD τ).loc main_arg8) (ix3 0 l k) := by
  show StableHlo.after hostOps0 _ (Proc.devRef .tc main_v7) _ = _
  after_results
  pointwise

/-- The matrix of argument 9 as the region finds it. -/
theorem V_main_v9 (l : Fin 4096) (k : Fin 1024) :
    V m c main_v9 (ix2 l k) = m ((c : Thread nD τ).loc main_arg9) (ix3 0 l k) := by
  show StableHlo.after hostOps0 _ (Proc.devRef .tc main_v9) _ = _
  after_results
  pointwise

/-- The gain of argument 10 as the region finds it. -/
theorem V_main_v11 (k : Fin 1024) : V m c main_v11 (ix2 0 k) = m ((c : Thread nD τ).loc main_arg10) (ix2 0 k) := by
  show StableHlo.after hostOps0 _ (Proc.devRef .tc main_v11) _ = _
  after_results
  pointwise

/-- The gain of argument 11 as the region finds it. -/
theorem V_main_v13 (k : Fin 1024) : V m c main_v13 (ix2 0 k) = m ((c : Thread nD τ).loc main_arg11) (ix2 0 k) := by
  show StableHlo.after hostOps0 _ (Proc.devRef .tc main_v13) _ = _
  after_results
  pointwise

/-- The gain of argument 12 as the region finds it. -/
theorem V_main_v15 (k : Fin 1024) : V m c main_v15 (ix2 0 k) = m ((c : Thread nD τ).loc main_arg12) (ix2 0 k) := by
  show StableHlo.after hostOps0 _ (Proc.devRef .tc main_v15) _ = _
  after_results
  pointwise

/-- The array's row that row `r` of point `t`'s tile is. -/
def row (t : Fin cfg0.N) (r : Fin 512) : Fin 16384 :=
  ⟨t.val * 512 + r.val, by have h : t.val < 32 := t.isLt; have := r.isLt; omega⟩

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)
theorem index2 : ∀ t : Fin cfg0.N, win0_2.index t = ![t.val, 0] :=
  (by decide +kernel : ∀ t : Fin grid0.N, _)
theorem index3 : ∀ t : Fin cfg0.N, win0_3.index t = ![t.val, 0] :=
  (by decide +kernel : ∀ t : Fin grid0.N, _)
theorem index4 : ∀ t : Fin cfg0.N, win0_4.index t = ![t.val, 0] :=
  (by decide +kernel : ∀ t : Fin grid0.N, _)
theorem index13 : ∀ t : Fin cfg0.N, win0_13.index t = ![t.val, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![0, 0] :=
  (by decide +kernel : ∀ t : Fin grid0.N, _)

theorem block0 (t : Fin cfg0.N) (r : Fin 512) (k : Fin 1024) :
    iblk m c 0 t (ix2 r k) = m ((c : Thread nD τ).loc main_arg0) (ix2 (row t r) k) := by
  blk_ext! [iblk, V_main_arg0, index0 t, row]
theorem block1 (t : Fin cfg0.N) (r : Fin 512) (k : Fin 512) :
    iblk m c 1 t (ix2 r k) = m ((c : Thread nD τ).loc main_arg1) (ix2 (row t r) k) := by
  blk_ext! [iblk, V_main_arg1, index1 t, row]
theorem block2 (t : Fin cfg0.N) (r : Fin 512) (k : Fin 512) :
    iblk m c 2 t (ix2 r k) = m ((c : Thread nD τ).loc main_arg2) (ix2 (row t r) k) := by
  blk_ext! [iblk, V_main_arg2, index2 t, row]
theorem block3 (t : Fin cfg0.N) (r : Fin 512) (k : Fin 1024) :
    iblk m c 3 t (ix2 r k) = m ((c : Thread nD τ).loc main_arg3) (ix2 (row t r) k) := by
  blk_ext! [iblk, V_main_arg3, index3 t, row]
theorem block4 (t : Fin cfg0.N) (r : Fin 512) (k : Fin 1024) :
    iblk m c 4 t (ix2 r k) = m ((c : Thread nD τ).loc main_arg4) (ix2 (row t r) k) := by
  blk_ext! [iblk, V_main_arg4, index4 t, row]
theorem block5 (t : Fin cfg0.N) (l : Fin 512) (k : Fin 1024) :
    iblk m c 5 t (ix2 l k) = m ((c : Thread nD τ).loc main_arg5) (ix3 0 l k) := by
  refine Eq.trans ?_ (V_main_v1 m c l k)
  blk_ext [iblk, index5 t]
theorem block6 (t : Fin cfg0.N) (l : Fin 512) (k : Fin 1024) :
    iblk m c 6 t (ix2 l k) = m ((c : Thread nD τ).loc main_arg6) (ix3 0 l k) := by
  refine Eq.trans ?_ (V_main_v3 m c l k)
  blk_ext [iblk, index6 t]
theorem block7 (t : Fin cfg0.N) (l : Fin 1024) (k : Fin 1024) :
    iblk m c 7 t (ix2 l k) = m ((c : Thread nD τ).loc main_arg7) (ix3 0 l k) := by
  refine Eq.trans ?_ (V_main_v5 m c l k)
  blk_ext [iblk, index7 t]
theorem block8 (t : Fin cfg0.N) (l : Fin 1024) (k : Fin 4096) :
    iblk m c 8 t (ix2 l k) = m ((c : Thread nD τ).loc main_arg8) (ix3 0 l k) := by
  refine Eq.trans ?_ (V_main_v7 m c l k)
  blk_ext [iblk, index8 t]
theorem block9 (t : Fin cfg0.N) (l : Fin 4096) (k : Fin 1024) :
    iblk m c 9 t (ix2 l k) = m ((c : Thread nD τ).loc main_arg9) (ix3 0 l k) := by
  refine Eq.trans ?_ (V_main_v9 m c l k)
  blk_ext [iblk, index9 t]
theorem block10 (t : Fin cfg0.N) (k : Fin 1024) :
    iblk m c 10 t (ix2 0 k) = m ((c : Thread nD τ).loc main_arg10) (ix2 0 k) := by
  refine Eq.trans ?_ (V_main_v11 m c k)
  blk_ext [iblk, index10 t]
theorem block11 (t : Fin cfg0.N) (k : Fin 1024) :
    iblk m c 11 t (ix2 0 k) = m ((c : Thread nD τ).loc main_arg11) (ix2 0 k) := by
  refine Eq.trans ?_ (V_main_v13 m c k)
  blk_ext [iblk, index11 t]
theorem block12 (t : Fin cfg0.N) (k : Fin 1024) :
    iblk m c 12 t (ix2 0 k) = m ((c : Thread nD τ).loc main_arg12) (ix2 0 k) := by
  refine Eq.trans ?_ (V_main_v15 m c k)
  blk_ext [iblk, index12 t]

/-- The result array after the run, at row `r` and lane `j`. -/
theorem final (c : Dev nD) : (dats m 0 c).arrAt 13 cfg0.N = fun i => Rows.mixAt
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (i 0) (i 1) := by
  refine (dats m 0 c).arrAt_eq_of_covers 13 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  have e : ((cfg0.win 13).blk t).view.emb (ix2 r j : S512x1024.Idx) = (ix2 (row t r) j : S16384x1024.Idx) := by
    blk_ext [index13 t, row]
  rw [e]
  show (dats m 0 c).after 13 t (ix2 r j : S512x1024.Idx) = Rows.mixAt _ _ _ _ _ _ _ _ _ _ _ _ _ (row t r) j
  rw [after0_13]
  unfold out0_13
  frame_out
  rw [ffn_at]
  simp only [merged_at, gain_at, block0, block1, block2, block3, block4, block5, block6, block7, block8, block9, block10,
    block11, block12]
  rfl

end Cert.MixIdeal.MixValue

end
-- ==== Proof.MixClaim.lean ====
/-
The mix-and-feed-forward call: the kernel's result is the reference's.
-/
module

public import proofs.«01_k».proof.Defs
public import proofs.«01_k».proof.Proof.Gen.MixIdeal.Value
public import proofs.«01_k».proof.Proof.Gen.MixRefIdeal.Run
public import proofs.«01_k».proof.Proof.Gen.MixRefIdeal.Read
public import proofs.«01_k».proof.Proof.MixReference
public import proofs.«01_k».proof.Proof.MixValue

@[expose] public section

set_option maxRecDepth 16384

noncomputable section

namespace Cert.MixClaim

open Idealize.ShloMosaic Idealize.ShloMosaic.TcCoe Idealize.SL.Sem
open Idealize.ShloMosaic.Pipeline (Dat)

/-- The array the kernel leaves for window 13 is what the reference computes as `main_v60`, when the
arguments are the same. -/
theorem same13 (m : (ℓ : Loc Cert.MixIdeal.nD Cert.MixIdeal.τ Cert.MixIdeal.sig) → Buf (Elt Ideal) ℓ)
    (m' : (ℓ : Loc Cert.MixRefIdeal.nD Cert.MixRefIdeal.τ Cert.MixRefIdeal.sig) → Buf (Elt Ideal) ℓ)
    (c : Dev Cert.MixIdeal.nD)
    (h : m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) :
    Cert.MixRefIdeal.Read.val_main_v60 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) (m' ((c.tc : Thread Cert.MixRefIdeal.nD Cert.MixRefIdeal.τ).loc Cert.MixRefIdeal.main_arg8)) (m' ((c.tc : Thread Cert.MixRefIdeal.nD Cert.MixRefIdeal.τ).loc Cert.MixRefIdeal.main_arg9)) (m' ((c.tc : Thread Cert.MixRefIdeal.nD Cert.MixRefIdeal.τ).loc Cert.MixRefIdeal.main_arg10)) (m' ((c.tc : Thread Cert.MixRefIdeal.nD Cert.MixRefIdeal.τ).loc Cert.MixRefIdeal.main_arg11)) (m' ((c.tc : Thread Cert.MixRefIdeal.nD Cert.MixRefIdeal.τ).loc Cert.MixRefIdeal.main_arg12)) = (Cert.MixIdeal.Gen.dats m 0 c).arrAt 13 Cert.MixIdeal.cfg0.N := by
  obtain ⟨h0, h1, h2, h3, h4, h5, h6, h7, h8, h9, h10, h11, h12⟩ := h
  rw [h0, h1, h2, h3, h4, h5, h6, h7, h8, h9, h10, h11, h12]
  refine Eq.trans ?_ (Cert.MixIdeal.MixValue.final m c).symm
  funext i
  obtain ⟨r, j, rfl⟩ : ∃ r j, i = ix2 r j := ⟨i 0, i 1, eq_ix2 i⟩
  exact Cert.MixRefIdeal.RefValue.result_at _ _ _ _ _ _ _ _ _ _ _ _ _ r j
set_option maxHeartbeats 4000000 in
/-- The kernel and the reference, run from equal arguments, leave equal results. -/
theorem algebraic : Cert.algebraic_MixIdeal_MixRefIdeal
    (hMixIdeal := Cert.MixIdeal.Gen.facts) (hMixRefIdeal := Cert.MixRefIdeal.Gen.facts) := by
  intro m g m' g' _ hargs
  refine ⟨fun c => (Cert.MixIdeal.Gen.dats m 0 c).arrAt 13 Cert.MixIdeal.cfg0.N, ?_, ?_⟩
  · exact Cert.MixIdeal.Value.run_blocks m g
  · refine (θ_run Cert.MixRefIdeal.defs _ _).mono (fun r h c => ?_) (Cert.MixRefIdeal.Value.run (F := Ideal) m' g')
    obtain ⟨e13, hk⟩ := h c
    have ha := hargs c
    refine ⟨e13.trans ?_, hk⟩
    · exact Eq.trans (Cert.MixRefIdeal.Read.val_main_v60_eq m' c) (same13 m m' c ha)

end Cert.MixClaim

end

end
-- ==== Proof.ProjRows.lean ====
/- The mathematics of the projections of one row: the normalised row through a column of the wide matrix, the gates'
   logistic function, the log decay. With the two spellings of the log decay and of a mean shown equal. -/
module

public import proofs.«01_k».proof.Proof.Rows

@[expose] public section

noncomputable section

namespace Cert.Rows

open Idealize.ShloMosaic

/-- Column `j` of the projections of row `h`: the row normalised, under the gain `x4`, through the matrix `x1`. -/
def lane (h : Fin 1024 → EReal) (x1 : Shape.Idx ⟨3, ![1, 1024, 5136]⟩ → EReal) (x4 : Shape.Idx ⟨2, ![1, 1024]⟩ → EReal)
    (j : Fin 5136) : EReal :=
  ∑ k, rms (Ideal.ofBits .f32 0x44800000#32) (Ideal.ofBits .f32 0x358637BD#32) h k * x4 (ix2 0 k) * x1 (ix3 0 k j)

/-- Row `r` of the rows of the two sequences, one after the other. -/
def promptRow (x0 : Shape.Idx ⟨3, ![2, 8192, 1024]⟩ → EReal) (r : Fin 16384) (k : Fin 1024) : EReal :=
  x0 (ix3 ⟨r.val / 8192, by omega⟩ ⟨r.val % 8192, by omega⟩ k)

/-- Lane `j` of a group of columns that begins at column `o`. -/
abbrev col {w : ℕ} (o : ℕ) (j : Fin w) (h : o + w ≤ 5136) : Fin 5136 := ⟨o + j.val, by omega⟩
/-- The sequence of block `b` of 256 rows, and the place in it of the block's row `l`. -/
abbrev blockSeq (b : Fin 64) : Fin 2 := ⟨b.val / 32, by omega⟩
abbrev blockPos (b : Fin 64) (l : Fin 256) : Fin 8192 := ⟨b.val % 32 * 256 + l.val, by omega⟩

/-- The logistic function. -/
def gate (z : EReal) : EReal := Ideal.div 1 (1 + Ideal.exp (-z))

/-- A sixteenth of the logarithm of the logistic function, in the form that is stable at both ends. -/
def decay (a : EReal) : EReal :=
  Ideal.div (-(max (-a) 0 + Ideal.log1p (Ideal.exp (-max a (-a))))) (Ideal.ofBits .f32 0x41800000#32)

/-- The log decay of row `h` at lane `j`: sixteen columns of the projections through the small matrix `x2`, and a bias. -/
def decayAt (h : Fin 1024 → EReal) (x1 : Shape.Idx ⟨3, ![1, 1024, 5136]⟩ → EReal) (x2 : Shape.Idx ⟨3, ![1, 16, 256]⟩ → EReal)
    (x3 : Shape.Idx ⟨2, ![1, 256]⟩ → EReal) (x4 : Shape.Idx ⟨2, ![1, 1024]⟩ → EReal) (j : Fin 256) : EReal :=
  decay (∑ k : Fin 16, lane h x1 x4 ⟨3072 + k.val, by omega⟩ * x2 (ix3 0 k j) + x3 (ix2 0 j))

/-- The mean of 256 values. -/
def mean256 (f : Fin 256 → EReal) : EReal := Ideal.div (∑ k, f k) (Ideal.ofBits .f32 0x43800000#32)

theorem sixteen : Ideal.ofBits .f32 0x41800000#32 = ((16 : ℝ) : EReal) := by
  simp [Ideal.ofBits, Ideal.ieee, -EReal.coe_mul]; norm_num
theorem sixteenth : Ideal.ofBits .f32 0x3D800000#32 = (((16 : ℝ)⁻¹ : ℝ) : EReal) := by
  simp [Ideal.ofBits, Ideal.ieee, -EReal.coe_mul]; norm_num
theorem twoFiftySix : Ideal.ofBits .f32 0x43800000#32 = ((256 : ℝ) : EReal) := by
  simp [Ideal.ofBits, Ideal.ieee, -EReal.coe_mul]; norm_num
theorem twoFiftySixth : Ideal.ofBits .f32 0x3B800000#32 = (((256 : ℝ)⁻¹ : ℝ) : EReal) := by
  simp [Ideal.ofBits, Ideal.ieee, -EReal.coe_mul]; norm_num

/-- A quotient by a real that is not zero is the product with its inverse. -/
theorem div_coe (x : EReal) {r : ℝ} (hr : r ≠ 0) : Ideal.div x (r : EReal) = x * ((r⁻¹ : ℝ) : EReal) := by
  unfold Ideal.div
  rw [if_neg (by exact_mod_cast hr), EReal.coe_inv]

/-- The logarithm of one plus an exponential is not `⊥`. -/
theorem log1p_exp_ne_bot (x : EReal) : Ideal.log1p (Ideal.exp x) ≠ ⊥ := by
  induction x using EReal.rec with
  | bot =>
    show Ideal.log (1 + 0) ≠ ⊥
    rw [add_zero, ← EReal.coe_one]
    show (if (1 : ℝ) ≤ 0 then (⊥ : EReal) else (Real.log 1 : EReal)) ≠ ⊥
    rw [if_neg (by norm_num)]; exact EReal.coe_ne_bot _
  | top =>
    show Ideal.log (1 + ⊤) ≠ ⊥
    rw [EReal.add_top_of_ne_bot (by decide)]
    exact top_ne_bot
  | coe r =>
    show Ideal.log (1 + (Real.exp r : EReal)) ≠ ⊥
    rw [← EReal.coe_one, ← EReal.coe_add]
    show (if 1 + Real.exp r ≤ 0 then (⊥ : EReal) else (Real.log (1 + Real.exp r) : EReal)) ≠ ⊥
    have := Real.exp_pos r
    rw [if_neg (by linarith)]; exact EReal.coe_ne_bot _

/-- The other spelling of the log decay. -/
theorem decay_eq (a : EReal) :
    (min a 0 - Ideal.log1p (Ideal.exp (0 - max a (-a)))) * Ideal.ofBits .f32 0x3D800000#32 = decay a := by
  unfold decay
  rw [sixteen, sixteenth, div_coe _ (by norm_num), zero_sub,
    EReal.neg_add (.inl (ne_of_gt (lt_of_lt_of_le EReal.bot_lt_zero (le_max_right _ _)))) (.inr (log1p_exp_ne_bot _))]
  congr 2
  rcases le_total a 0 with h | h
  · rw [min_eq_left h, max_eq_left (EReal.neg_nonneg.mpr h), neg_neg]
  · rw [min_eq_right h, max_eq_right (by simpa using EReal.neg_le_neg_iff.mpr h), neg_zero]

/-- The other spelling of a mean. -/
theorem mean256_eq (f : Fin 256 → EReal) : (∑ k, f k) * Ideal.ofBits .f32 0x3B800000#32 = mean256 f := by
  unfold mean256
  rw [twoFiftySix, twoFiftySixth, div_coe _ (by norm_num)]

end Cert.Rows

end
-- ==== Proof.ProjReference.lean ====
/- What the plain program of the projections computes, result by result. -/
module

public import proofs.«01_k».proof.Proof.Gen.ProjRefIdeal.Read
public import proofs.«01_k».proof.Proof.ProjRows

@[expose] public section

set_option maxRecDepth 16384

noncomputable section

namespace Cert.ProjRefIdeal.RefValue

open Idealize.ShloMosaic Idealize.ShloMosaic.TcCoe Idealize.SL.Sem
open Cert.ProjRefIdeal Cert.ProjRefIdeal.Read

variable (x0 : (⟨S2x8192x1024, .f32⟩ : BufTy).Contents (Elt Ideal)) (x1 : (⟨S1x1024x5136, .f32⟩ : BufTy).Contents (Elt Ideal))
  (x2 : (⟨S1x16x256, .f32⟩ : BufTy).Contents (Elt Ideal)) (x3 : (⟨S1x256, .f32⟩ : BufTy).Contents (Elt Ideal))
  (x4 : (⟨S1x1024, .f32⟩ : BufTy).Contents (Elt Ideal))

/-- Every column of the projections. -/
theorem lane_at (b : Fin 2) (s : Fin 8192) (j : Fin 5136) : val_main_v15 (F := Ideal) x0 x1 x4 (ix3 b s j) =
    Rows.lane (fun k => x0 (ix3 b s k)) x1 x4 j := by
  unfold Rows.lane Rows.rms
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, dot_S2x8192x1024_S1024x5136_S2x8192x5136_2_0_01_1_n_n]

/-- The first result: the attention's queries. -/
theorem v42_at (r : Fin 16384) (j : Fin 512) : val_main_v42 (F := Ideal) x0 x1 x4 (ix2 r j) =
    Rows.lane (Rows.promptRow x0 r) x1 x4 (Rows.col 0 j (by decide)) := by
  rw [show Rows.col 0 j _ = ⟨j.val, by omega⟩ from Fin.ext (Nat.zero_add _)]
  unfold Rows.promptRow; rw [← lane_at]
  pointwise [val_main_v42, val_main_v16]

theorem v40_at (b : Fin 2) (j : Fin 512) (s : Fin 8192) : val_main_v40 (F := Ideal) x0 x1 x4 (ix3 b j s) =
    Rows.lane (fun k => x0 (ix3 b s k)) x1 x4 (Rows.col 512 j (by decide)) := by
  rw [← lane_at]
  pointwise [val_main_v40, val_main_v17]

theorem v41_at (b : Fin 2) (j : Fin 512) (s : Fin 8192) : val_main_v41 (F := Ideal) x0 x1 x4 (ix3 b j s) =
    Rows.lane (fun k => x0 (ix3 b s k)) x1 x4 (Rows.col 1024 j (by decide)) := by
  rw [← lane_at]
  pointwise [val_main_v41, val_main_v18]

theorem v43_at (r : Fin 16384) (j : Fin 256) : val_main_v43 (F := Ideal) x0 x1 x4 (ix2 r j) =
    Rows.lane (Rows.promptRow x0 r) x1 x4 (Rows.col 1536 j (by decide)) := by
  unfold Rows.promptRow; rw [← lane_at]
  pointwise [val_main_v43, val_main_v19]

theorem v44_at (r : Fin 16384) (j : Fin 256) : val_main_v44 (F := Ideal) x0 x1 x4 (ix2 r j) =
    Rows.lane (Rows.promptRow x0 r) x1 x4 (Rows.col 1792 j (by decide)) := by
  unfold Rows.promptRow; rw [← lane_at]
  pointwise [val_main_v44, val_main_v20]

theorem v45_at (r : Fin 16384) (j : Fin 512) : val_main_v45 (F := Ideal) x0 x1 x4 (ix2 r j) =
    Rows.lane (Rows.promptRow x0 r) x1 x4 (Rows.col 2048 j (by decide)) := by
  unfold Rows.promptRow; rw [← lane_at]
  pointwise [val_main_v45, val_main_v21]

theorem v46_at (r : Fin 16384) (j : Fin 512) : val_main_v46 (F := Ideal) x0 x1 x4 (ix2 r j) =
    Rows.lane (Rows.promptRow x0 r) x1 x4 (Rows.col 2560 j (by decide)) := by
  unfold Rows.promptRow; rw [← lane_at]
  pointwise [val_main_v46, val_main_v22]

/-- The decay's sixteen columns through the small matrix, with the bias. -/
theorem logit_at (b : Fin 2) (s : Fin 8192) (j : Fin 256) : val_main_v31 (F := Ideal) x0 x1 x2 x3 x4 (ix3 b s j) =
    ∑ k : Fin 16, Rows.lane (fun k => x0 (ix3 b s k)) x1 x4 ⟨3072 + k.val, by omega⟩ * x2 (ix3 0 k j) + x3 (ix2 0 j) := by
  simp only [← lane_at]
  pointwise [val_main_v31, val_main_v30, val_main_v29, val_main_v28, val_main_v27, val_main_v26, val_main_v23,
    dot_S2x8192x16_S16x256_S2x8192x256_2_0_01_1_n_n]

/-- The log decay, from its logit. -/
theorem decay_at (r : Fin 16384) (j : Fin 256) : val_main_v47 (F := Ideal) x0 x1 x2 x3 x4 (ix2 r j) =
    Rows.decay (val_main_v31 (F := Ideal) x0 x1 x2 x3 x4 (ix3 ⟨r.val / 8192, by omega⟩ ⟨r.val % 8192, by omega⟩ j)) := by
  have e : ∀ a : EReal, Rows.decay a = Ideal.div (-(if -a ≠ -a then -a else max (-a) 0 + Ideal.log1p (Ideal.exp
      (-FloatOps.absf (F := Ideal) (φ := .f32) (-a))))) (Ideal.ofBits .f32 0x41800000#32) := fun a => by
    rw [if_neg (by simp), Ideal.absf_def, neg_neg, max_comm (-a) a]; rfl
  rw [e]
  pointwise [val_main_v47, val_main_v34, val_main_v33, val_main_v32, val_main_call0_v1, val_main_call0_v0,
    val_main_call0_call0_v0, val_main_call0_call0_v1, val_main_call0_call0_v2, val_main_call0_call0_v3,
    val_main_call0_call0_v4, val_main_call0_call0_v5, val_main_call0_call0_v6, val_main_call0_call0_v7,
    val_main_call0_call0_v8, val_main_call0_call0_v9, val_main_call0_call0_v10, val_main_call0_call0_v11,
    val_main_call0_call0_cst, val_main_cst_2]

theorem v47_at (r : Fin 16384) (j : Fin 256) : val_main_v47 (F := Ideal) x0 x1 x2 x3 x4 (ix2 r j) =
    Rows.decayAt (Rows.promptRow x0 r) x1 x2 x3 x4 j := by
  rw [decay_at, logit_at]; rfl

theorem v55_at (r : Fin 16384) (j : Fin 1024) : val_main_v55 (F := Ideal) x0 x1 x4 (ix2 r j) =
    Rows.gate (Rows.lane (Rows.promptRow x0 r) x1 x4 (Rows.col 3088 j (by decide))) := by
  unfold Rows.promptRow Rows.gate; rw [← lane_at]
  pointwise [val_main_v55, val_main_v54, val_main_v53, val_main_v52, val_main_v51, val_main_v50, val_main_v49, val_main_v48,
    val_main_v24, val_main_cst_5, val_main_cst_6]

theorem v63_at (r : Fin 16384) (j : Fin 1024) : val_main_v63 (F := Ideal) x0 x1 x4 (ix2 r j) =
    Rows.gate (Rows.lane (Rows.promptRow x0 r) x1 x4 (Rows.col 4112 j (by decide))) := by
  unfold Rows.promptRow Rows.gate; rw [← lane_at]
  pointwise [val_main_v63, val_main_v62, val_main_v61, val_main_v60, val_main_v59, val_main_v58, val_main_v57, val_main_v56,
    val_main_v25, val_main_cst_7, val_main_cst_8]

/-- The mean key of each block of 256 rows. -/
theorem v39_at (r : Fin 64) (j : Fin 512) : val_main_v39 (F := Ideal) x0 x1 x4 (ix3 r 0 j) =
    Rows.mean256 fun k => Rows.lane (fun l => x0 (ix3 (Rows.blockSeq r) (Rows.blockPos r k) l)) x1 x4
      (Rows.col 512 j (by decide)) := by
  unfold Rows.mean256; simp only [← lane_at]
  pointwise [val_main_v39, val_main_v38, val_main_v37, val_main_v36, val_main_v35, val_main_v17, val_main_cst_3,
    val_main_cst_4]

theorem v65_at (r : Fin 16384) (j : Fin 512) : val_main_v65 (F := Ideal) x0 x1 x4 (ix2 r j) =
    Rows.lane (Rows.promptRow x0 r) x1 x4 (Rows.col 512 j (by decide)) := by
  unfold Rows.promptRow; rw [← lane_at]
  pointwise [val_main_v65, val_main_v64, val_main_v17]

theorem v66_at (b : Fin 2) (j : Fin 512) (s : Fin 8192) : val_main_v66 (F := Ideal) x0 x1 x4 (ix3 b j s) =
    Rows.lane (fun k => x0 (ix3 b s k)) x1 x4 (Rows.col 1024 j (by decide)) := by
  rw [← lane_at]
  pointwise [val_main_v66, val_main_v41, val_main_v18]

end Cert.ProjRefIdeal.RefValue

end
-- ==== Proof.ProjTile.lean ====
/- One tile of the projections' kernel, value by value, and the arrays that its host code prepares. -/
module

public import proofs.«01_k».proof.Proof.Gen.ProjIdeal.Value
public import proofs.«01_k».proof.Proof.ProjRows

@[expose] public section

set_option maxRecDepth 16384

noncomputable section

namespace Cert.ProjIdeal.ProjValue

open Idealize.ShloMosaic Idealize.ShloMosaic.TcCoe Idealize.SL.Sem
open Idealize.ShloMosaic.Pipeline (Dat)
open Cert.ProjIdeal Cert.ProjIdeal.Gen

/-- A tile's rows, normalised, under the gain. -/
theorem normed_at (v0 : Vec Ideal S512x1024 .f32) (v2 : Vec Ideal S1x1024 .f32) (r : Fin 512) (k : Fin 1024) :
    k0_pay3 v0 v2 (ix2 r k) =
      Rows.rms (Ideal.ofBits .f32 0x44800000#32) (Ideal.ofBits .f32 0x358637BD#32) (fun k => v0 (ix2 r k)) k * v2 (ix2 0 k) := by
  unfold Rows.rms
  pointwise [k0_pay3]

/-- A product of the normalised tile with 512 columns. -/
theorem pay4_at (v0 : Vec Ideal S512x1024 .f32) (v2 : Vec Ideal S1x1024 .f32) (w : Vec Ideal S1024x512 .bf16)
    (r : Fin 512) (j : Fin 512) : k0_pay4 v0 v2 w (ix2 r j) = ∑ k, k0_pay3 v0 v2 (ix2 r k) * w (ix2 k j) := by
  pointwise [k0_pay4, dot_S512x1024_S1024x512_S512x512_1_0_0_1_n_n]
theorem pay5_at (v0 : Vec Ideal S512x1024 .f32) (v2 : Vec Ideal S1x1024 .f32) (w : Vec Ideal S1024x512 .bf16)
    (r : Fin 512) (j : Fin 512) : k0_pay5 v0 v2 w (ix2 r j) = ∑ k, k0_pay3 v0 v2 (ix2 r k) * w (ix2 k j) := by
  pointwise [k0_pay5, dot_S512x1024_S1024x512_S512x512_1_0_0_1_n_n]
theorem pay6_at (v0 : Vec Ideal S512x1024 .f32) (v2 : Vec Ideal S1x1024 .f32) (w : Vec Ideal S1024x512 .bf16)
    (r : Fin 512) (j : Fin 512) : k0_pay6 v0 v2 w (ix2 r j) = ∑ k, k0_pay3 v0 v2 (ix2 r k) * w (ix2 k j) := by
  pointwise [k0_pay6, dot_S512x1024_S1024x512_S512x512_1_0_0_1_n_n]
theorem pay14_at (h : FVec Ideal S512x1024 .bf16) (w : Vec Ideal S1024x256 .bf16) (r : Fin 512) (j : Fin 256) :
    k0_pay14 h w (ix2 r j) = ∑ k, h (ix2 r k) * w (ix2 k j) := by
  pointwise [k0_pay14, dot_S512x1024_S1024x256_S512x256_1_0_0_1_n_n]
theorem pay15_at (h : FVec Ideal S512x1024 .bf16) (w : Vec Ideal S1024x256 .bf16) (r : Fin 512) (j : Fin 256) :
    k0_pay15 h w (ix2 r j) = ∑ k, h (ix2 r k) * w (ix2 k j) := by
  pointwise [k0_pay15, dot_S512x1024_S1024x256_S512x256_1_0_0_1_n_n]
theorem pay16_at (h : FVec Ideal S512x1024 .bf16) (w : Vec Ideal S1024x512 .bf16) (r : Fin 512) (j : Fin 512) :
    k0_pay16 h w (ix2 r j) = ∑ k, h (ix2 r k) * w (ix2 k j) := by
  pointwise [k0_pay16, dot_S512x1024_S1024x512_S512x512_1_0_0_1_n_n]
theorem pay17_at (h : FVec Ideal S512x1024 .bf16) (w : Vec Ideal S1024x512 .bf16) (r : Fin 512) (j : Fin 512) :
    k0_pay17 h w (ix2 r j) = ∑ k, h (ix2 r k) * w (ix2 k j) := by
  pointwise [k0_pay17, dot_S512x1024_S1024x512_S512x512_1_0_0_1_n_n]

/-- The two gates of a tile. -/
theorem pay1_at (h : FVec Ideal S512x1024 .bf16) (w : Vec Ideal S1024x1024 .bf16) (r : Fin 512) (j : Fin 1024) :
    k0_pay1 h w (ix2 r j) = Rows.gate (∑ k, h (ix2 r k) * w (ix2 k j)) := by
  unfold Rows.gate; simp only [← zero_sub]
  pointwise [k0_pay1, dot_S512x1024_S1024x1024_S512x1024_1_0_0_1_n_n]
theorem pay2_at (h : FVec Ideal S512x1024 .bf16) (w : Vec Ideal S1024x1024 .bf16) (r : Fin 512) (j : Fin 1024) :
    k0_pay2 h w (ix2 r j) = Rows.gate (∑ k, h (ix2 r k) * w (ix2 k j)) := by
  unfold Rows.gate; simp only [← zero_sub]
  pointwise [k0_pay2, dot_S512x1024_S1024x1024_S512x1024_1_0_0_1_n_n]

/-- The log decay of a tile: 128 columns through 128 rows. -/
theorem pay18_at (h : FVec Ideal S512x1024 .bf16) (w : Vec Ideal S1024x128 .bf16) (u : Vec Ideal S128x256 .bf16)
    (b : Vec Ideal S1x256 .f32) (r : Fin 512) (j : Fin 256) :
    k0_pay18 h w u b (ix2 r j) =
      Rows.decay (∑ l, (∑ k, h (ix2 r k) * w (ix2 k l)) * u (ix2 l j) + b (ix2 0 j)) := by
  rw [← Rows.decay_eq]; simp only [← Ideal.absf_def (φ := .f32)]
  pointwise [k0_pay18, dot_S512x1024_S1024x128_S512x128_1_0_0_1_n_n, dot_S512x128_S128x256_S512x256_1_0_0_1_n_n]

/-- The mean key of a tile's first 256 rows. -/
theorem pay7_at (v0 : Vec Ideal S512x1024 .f32) (v2 : Vec Ideal S1x1024 .f32) (w : Vec Ideal S1024x512 .bf16)
    (j : Fin 512) : k0_pay7 v0 v2 w (ix3 0 0 j) = Rows.mean256 fun l => k0_pay5 v0 v2 w (ix2 ⟨l.val, by omega⟩ j) := by
  rw [← Rows.mean256_eq]
  pointwise [k0_pay7]

/-- The mean key of a tile's last 256 rows. -/
theorem pay8_at (v : FVec Ideal S512x512 .f32) (j : Fin 512) :
    k0_pay8 v (ix3 0 0 j) = Rows.mean256 fun l => v (ix2 ⟨256 + l.val, by omega⟩ j) := by
  rw [← Rows.mean256_eq]
  pointwise [k0_pay8]

/-- The transposed and the copied blocks. -/
theorem pay10_at (v : FVec Ideal S512x512 .f32) (j r : Fin 512) : k0_pay10 v (ix3 0 j r) = v (ix2 r j) := by
  pointwise [k0_pay10]
theorem pay11_at (v : FVec Ideal S512x512 .f32) (j r : Fin 512) : k0_pay11 v (ix3 0 j r) = v (ix2 r j) := by
  pointwise [k0_pay11, k0_pay9]
theorem pay13_at (v : FVec Ideal S512x512 .f32) (j r : Fin 512) : k0_pay13 v (ix3 0 j r) = v (ix2 r j) := by
  pointwise [k0_pay13, k0_pay9]
theorem pay12_at (v : FVec Ideal S512x512 .f32) (r j : Fin 512) : k0_pay12 v (ix2 r j) = v (ix2 r j) := by
  pointwise [k0_pay12]

variable (m : (ℓ : Loc nD τ sig) → Buf (Elt Ideal) ℓ) (c : Dev nD)

/-- The rows as the region finds them. -/
theorem V_main_v0 (r : Fin 16384) (k : Fin 1024) : V m c main_v0 (ix2 r k) =
    m ((c : Thread nD τ).loc main_arg0) (ix3 ⟨r.val / 8192, by omega⟩ ⟨r.val % 8192, by omega⟩ k) := by
  show StableHlo.after (List.flatten [hostOps0, hostOps0_1, hostOps0_2, hostOps0_3, hostOps0_4]) _ (Proc.devRef .tc main_v0) _ = _
  simp only [hostOps0, hostOps0_1, hostOps0_2, hostOps0_3, hostOps0_4, List.flatten_cons, List.flatten_nil, List.append_nil,
    List.cons_append, List.nil_append]
  after_results
  pointwise
/-- The wide matrix's first 3072 columns. -/
theorem V_main_v3 (k : Fin 1024) (j : Fin 3072) : V m c main_v3 (ix2 k j) =
    m ((c : Thread nD τ).loc main_arg1) (ix3 0 k ⟨j.val, by omega⟩) := by
  show StableHlo.after (List.flatten [hostOps0, hostOps0_1, hostOps0_2, hostOps0_3, hostOps0_4]) _ (Proc.devRef .tc main_v3) _ = _
  simp only [hostOps0, hostOps0_1, hostOps0_2, hostOps0_3, hostOps0_4, List.flatten_cons, List.flatten_nil, List.append_nil,
    List.cons_append, List.nil_append]
  after_results
  pointwise
/-- Its last 2048 columns. -/
theorem V_main_v10 (k : Fin 1024) (j : Fin 2048) : V m c main_v10 (ix2 k j) =
    m ((c : Thread nD τ).loc main_arg1) (ix3 0 k ⟨3088 + j.val, by omega⟩) := by
  show StableHlo.after (List.flatten [hostOps0, hostOps0_1, hostOps0_2, hostOps0_3, hostOps0_4]) _ (Proc.devRef .tc main_v10) _ = _
  simp only [hostOps0, hostOps0_1, hostOps0_2, hostOps0_3, hostOps0_4, List.flatten_cons, List.flatten_nil, List.append_nil,
    List.cons_append, List.nil_append]
  after_results
  pointwise
/-- The padding value, an integer zero made a float, is zero. -/
theorem int_zero : (FloatOps.sitofp FTy.f32 (0#32) : Ideal .f32) = (0 : EReal) := by
  show (((0#32 : BitVec 32).toInt : ℝ) : EReal) = 0
  simp

/-- The sixteen columns between, and zeros. -/
theorem V_main_v7 (k : Fin 1024) (j : Fin 128) : V m c main_v7 (ix2 k j) =
    if h : j.val < 16 then (m ((c : Thread nD τ).loc main_arg1) (ix3 0 k ⟨3072 + j.val, by omega⟩) : EReal) else (0 : EReal) := by
  show StableHlo.after (List.flatten [hostOps0, hostOps0_1, hostOps0_2, hostOps0_3, hostOps0_4]) _ (Proc.devRef .tc main_v7) _ = _
  simp only [hostOps0, hostOps0_1, hostOps0_2, hostOps0_3, hostOps0_4, List.flatten_cons, List.flatten_nil, List.append_nil,
    List.cons_append, List.nil_append]
  after_results
  pointwise
  show pad (α := EReal) S1024x128 ![0, 0] ![0, 112] ![0, 0] (fun i : S1024x16.Idx => m (c, Proc.tc.devRef main_arg1)
    (ix3 0 (i 0) ⟨3072 + (i 1).val, by have := (i 1).isLt; change _ < 16 at this; omega⟩))
    (sitofp (F := Ideal) .f32 (constantI S_ 32 0#32)) pads_S1024x16_S1024x128_000_01120 h_S_ (ix2 k j) = _
  pointwise
  rw [int_zero]
/-- The small matrix's sixteen rows, and zeros. -/
theorem V_main_v13 (k : Fin 128) (j : Fin 256) : V m c main_v13 (ix2 k j) =
    if h : k.val < 16 then (m ((c : Thread nD τ).loc main_arg2) (ix3 0 ⟨k.val, h⟩ j) : EReal) else (0 : EReal) := by
  show StableHlo.after (List.flatten [hostOps0, hostOps0_1, hostOps0_2, hostOps0_3, hostOps0_4]) _ (Proc.devRef .tc main_v13) _ = _
  simp only [hostOps0, hostOps0_1, hostOps0_2, hostOps0_3, hostOps0_4, List.flatten_cons, List.flatten_nil, List.append_nil,
    List.cons_append, List.nil_append]
  after_results
  pointwise
  show pad (α := EReal) S128x256 ![0, 0] ![112, 0] ![0, 0] (fun i : S16x256.Idx => m (c, Proc.tc.devRef main_arg2)
    (ix3 0 (i 0) (i 1)))
    (sitofp (F := Ideal) .f32 (constantI S_ 32 0#32)) pads_S16x256_S128x256_01120_000 h_S_ (ix2 k j) = _
  pointwise
  rw [int_zero]
/-- The bias. -/
theorem V_main_v15 (j : Fin 256) : V m c main_v15 (ix2 0 j) = m ((c : Thread nD τ).loc main_arg3) (ix2 0 j) := by
  show StableHlo.after (List.flatten [hostOps0, hostOps0_1, hostOps0_2, hostOps0_3, hostOps0_4]) _ (Proc.devRef .tc main_v15) _ = _
  simp only [hostOps0, hostOps0_1, hostOps0_2, hostOps0_3, hostOps0_4, List.flatten_cons, List.flatten_nil, List.append_nil,
    List.cons_append, List.nil_append]
  after_results
  pointwise
/-- The gain. -/
theorem V_main_v17 (j : Fin 1024) : V m c main_v17 (ix2 0 j) = m ((c : Thread nD τ).loc main_arg4) (ix2 0 j) := by
  show StableHlo.after (List.flatten [hostOps0, hostOps0_1, hostOps0_2, hostOps0_3, hostOps0_4]) _ (Proc.devRef .tc main_v17) _ = _
  simp only [hostOps0, hostOps0_1, hostOps0_2, hostOps0_3, hostOps0_4, List.flatten_cons, List.flatten_nil, List.append_nil,
    List.cons_append, List.nil_append]
  after_results
  pointwise

end Cert.ProjIdeal.ProjValue

end
-- ==== Proof.ProjValue.lean ====
/- What the tiled kernel of the projections leaves in each of its thirteen result arrays. A grid point takes 512 rows. -/
module

public import proofs.«01_k».proof.Proof.ProjTile

@[expose] public section

set_option maxRecDepth 16384

noncomputable section

namespace Cert.ProjIdeal.ProjValue

open Idealize.ShloMosaic Idealize.ShloMosaic.TcCoe Idealize.SL.Sem
open Idealize.ShloMosaic.Pipeline (Dat)
open Cert.ProjIdeal Cert.ProjIdeal.Gen

variable (m : (ℓ : Loc nD τ sig) → Buf (Elt Ideal) ℓ) (c : Dev nD)

/-- The row that row `r` of point `t`'s tile is. -/
def row (t : Fin cfg0.N) (r : Fin 512) : Fin 16384 :=
  ⟨t.val * 512 + r.val, by have h : t.val < 32 := t.isLt; have := r.isLt; omega⟩
/-- The sequence that point `t`'s rows belong to. -/
def seqOf (t : Fin cfg0.N) : Fin 2 := ⟨t.val / 16, by have h : t.val < 32 := t.isLt; omega⟩
/-- The place in its sequence of row `r` of point `t`'s tile. -/
def posOf (t : Fin cfg0.N) (r : Fin 512) : Fin 8192 := ⟨t.val % 16 * 512 + r.val, by have := r.isLt; omega⟩
/-- The block of 256 rows that half `h` of point `t`'s tile is. -/
def halfOf (t : Fin cfg0.N) (h : Fin 2) : Fin 64 :=
  ⟨t.val * 2 + h.val, by have e : t.val < 32 := t.isLt; have := h.isLt; omega⟩

theorem index0 : ∀ t : Fin cfg0.N, win0_0.index t = ![t.val, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![t.val, 0] :=
  (by decide +kernel : ∀ t : Fin grid0.N, _)
theorem index8 : ∀ t : Fin cfg0.N, win0_8.index t = ![t.val / 16, 0, t.val % 16] :=
  (by decide +kernel : ∀ t : Fin grid0.N, _)
theorem index9 : ∀ t : Fin cfg0.N, win0_9.index t = ![t.val / 16, 0, t.val % 16] :=
  (by decide +kernel : ∀ t : Fin grid0.N, _)
theorem index10 : ∀ t : Fin cfg0.N, win0_10.index t = ![t.val, 0] :=
  (by decide +kernel : ∀ t : Fin grid0.N, _)
theorem index11 : ∀ t : Fin cfg0.N, win0_11.index t = ![t.val, 0] :=
  (by decide +kernel : ∀ t : Fin grid0.N, _)
theorem index12 : ∀ t : Fin cfg0.N, win0_12.index t = ![t.val, 0] :=
  (by decide +kernel : ∀ t : Fin grid0.N, _)
theorem index13 : ∀ t : Fin cfg0.N, win0_13.index t = ![t.val, 0] :=
  (by decide +kernel : ∀ t : Fin grid0.N, _)
theorem index14 : ∀ t : Fin cfg0.N, win0_14.index t = ![t.val, 0] :=
  (by decide +kernel : ∀ t : Fin grid0.N, _)
theorem index15 : ∀ t : Fin cfg0.N, win0_15.index t = ![t.val, 0] :=
  (by decide +kernel : ∀ t : Fin grid0.N, _)
theorem index16 : ∀ t : Fin cfg0.N, win0_16.index t = ![t.val, 0] :=
  (by decide +kernel : ∀ t : Fin grid0.N, _)
theorem index17 : ∀ t : Fin cfg0.N, win0_17.index t = ![t.val, 0, 0] :=
  (by decide +kernel : ∀ t : Fin grid0.N, _)
theorem index18 : ∀ t : Fin cfg0.N, win0_18.index t = ![t.val, 0] :=
  (by decide +kernel : ∀ t : Fin grid0.N, _)
theorem index19 : ∀ t : Fin cfg0.N, win0_19.index t = ![t.val / 16, 0, t.val % 16] :=
  (by decide +kernel : ∀ t : Fin grid0.N, _)

theorem block0 (t : Fin cfg0.N) (r : Fin 512) (k : Fin 1024) :
    iblk m c 0 t (ix2 r k) = Rows.promptRow (m ((c : Thread nD τ).loc main_arg0)) (row t r) k := by
  refine Eq.trans ?_ (V_main_v0 m c (row t r) k)
  blk_ext [iblk, index0 t, row]
theorem block1 (t : Fin cfg0.N) (k : Fin 1024) : iblk m c 1 t (ix2 0 k) = m ((c : Thread nD τ).loc main_arg4) (ix2 0 k) := by
  refine Eq.trans ?_ (V_main_v17 m c k)
  blk_ext [iblk, index1 t]
theorem block2 (t : Fin cfg0.N) (k : Fin 1024) (j : Fin 3072) :
    iblk m c 2 t (ix2 k j) = m ((c : Thread nD τ).loc main_arg1) (ix3 0 k ⟨j.val, by omega⟩) := by
  refine Eq.trans ?_ (V_main_v3 m c k j)
  blk_ext [iblk, index2 t]
theorem block3 (t : Fin cfg0.N) (k : Fin 1024) (j : Fin 128) : iblk m c 3 t (ix2 k j) =
    if h : j.val < 16 then (m ((c : Thread nD τ).loc main_arg1) (ix3 0 k ⟨3072 + j.val, by omega⟩) : EReal) else (0 : EReal) := by
  refine Eq.trans ?_ (V_main_v7 m c k j)
  blk_ext [iblk, index3 t]
theorem block4 (t : Fin cfg0.N) (k : Fin 1024) (j : Fin 2048) :
    iblk m c 4 t (ix2 k j) = m ((c : Thread nD τ).loc main_arg1) (ix3 0 k ⟨3088 + j.val, by omega⟩) := by
  refine Eq.trans ?_ (V_main_v10 m c k j)
  blk_ext [iblk, index4 t]
theorem block5 (t : Fin cfg0.N) (k : Fin 128) (j : Fin 256) : iblk m c 5 t (ix2 k j) =
    if h : k.val < 16 then (m ((c : Thread nD τ).loc main_arg2) (ix3 0 ⟨k.val, h⟩ j) : EReal) else (0 : EReal) := by
  refine Eq.trans ?_ (V_main_v13 m c k j)
  blk_ext [iblk, index5 t]
theorem block6 (t : Fin cfg0.N) (j : Fin 256) : iblk m c 6 t (ix2 0 j) = m ((c : Thread nD τ).loc main_arg3) (ix2 0 j) := by
  refine Eq.trans ?_ (V_main_v15 m c j)
  blk_ext [iblk, index6 t]

theorem cols2 (t : Fin cfg0.N) (k : Fin 1024) (j : Fin 512) :
    View.ld (iblk m c 2 t) r0_2 (ix2 k j) = m ((c : Thread nD τ).loc main_arg1) (ix3 0 k ⟨0 + j.val, by omega⟩) := by
  refine Eq.trans (b := iblk m c 2 t (ix2 k ⟨0 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols4 (t : Fin cfg0.N) (k : Fin 1024) (j : Fin 512) :
    View.ld (iblk m c 2 t) r0_4 (ix2 k j) = m ((c : Thread nD τ).loc main_arg1) (ix3 0 k ⟨512 + j.val, by omega⟩) := by
  refine Eq.trans (b := iblk m c 2 t (ix2 k ⟨512 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols5 (t : Fin cfg0.N) (k : Fin 1024) (j : Fin 512) :
    View.ld (iblk m c 2 t) r0_5 (ix2 k j) = m ((c : Thread nD τ).loc main_arg1) (ix3 0 k ⟨1024 + j.val, by omega⟩) := by
  refine Eq.trans (b := iblk m c 2 t (ix2 k ⟨1024 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols9 (t : Fin cfg0.N) (k : Fin 1024) (j : Fin 256) :
    View.ld (iblk m c 2 t) r0_9 (ix2 k j) = m ((c : Thread nD τ).loc main_arg1) (ix3 0 k ⟨1536 + j.val, by omega⟩) := by
  refine Eq.trans (b := iblk m c 2 t (ix2 k ⟨1536 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols11 (t : Fin cfg0.N) (k : Fin 1024) (j : Fin 256) :
    View.ld (iblk m c 2 t) r0_11 (ix2 k j) = m ((c : Thread nD τ).loc main_arg1) (ix3 0 k ⟨1792 + j.val, by omega⟩) := by
  refine Eq.trans (b := iblk m c 2 t (ix2 k ⟨1792 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols12 (t : Fin cfg0.N) (k : Fin 1024) (j : Fin 512) :
    View.ld (iblk m c 2 t) r0_12 (ix2 k j) = m ((c : Thread nD τ).loc main_arg1) (ix3 0 k ⟨2048 + j.val, by omega⟩) := by
  refine Eq.trans (b := iblk m c 2 t (ix2 k ⟨2048 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols13 (t : Fin cfg0.N) (k : Fin 1024) (j : Fin 512) :
    View.ld (iblk m c 2 t) r0_13 (ix2 k j) = m ((c : Thread nD τ).loc main_arg1) (ix3 0 k ⟨2560 + j.val, by omega⟩) := by
  refine Eq.trans (b := iblk m c 2 t (ix2 k ⟨2560 + j.val, by omega⟩)) ?_ ?_
  · refine View.ld_unit_apply_of _ _ _ _ _ _ fun a => ?_
    match a with
    | ⟨0, _⟩ => exact (Nat.zero_add _).symm
    | ⟨1, _⟩ => rfl
  · rw [block2]

theorem cols17 (t : Fin cfg0.N) (k : Fin 1024) (j : Fin 1024) :
    View.ld (iblk m c 4 t) r0_17 (ix2 k j) = m ((c : Thread nD τ).loc main_arg1) (ix3 0 k ⟨3088 + j.val, by omega⟩) := by
  refine Eq.trans (b := iblk m c 4 t (ix2 k ⟨0 + j.val, by omega⟩)) ?_ ?_
  · refine View.ld_unit_apply_of _ _ _ _ _ _ fun a => ?_
    match a with
    | ⟨0, _⟩ => exact (Nat.zero_add _).symm
    | ⟨1, _⟩ => rfl
  · rw [block4]
    congr 2; exact Fin.ext (by show 3088 + (0 + j.val) = 3088 + j.val; omega)
theorem cols18 (t : Fin cfg0.N) (k : Fin 1024) (j : Fin 1024) :
    View.ld (iblk m c 4 t) r0_18 (ix2 k j) = m ((c : Thread nD τ).loc main_arg1) (ix3 0 k ⟨4112 + j.val, by omega⟩) := by
  refine Eq.trans (b := iblk m c 4 t (ix2 k ⟨1024 + j.val, by omega⟩)) ?_ ?_
  · refine View.ld_unit_apply_of _ _ _ _ _ _ fun a => ?_
    match a with
    | ⟨0, _⟩ => exact (Nat.zero_add _).symm
    | ⟨1, _⟩ => rfl
  · rw [block4]
    congr 2; exact Fin.ext (by show 3088 + (1024 + j.val) = 4112 + j.val; omega)

/-- A column of the projections, summed over a tile's normalised row. -/
theorem lane_tile (t : Fin cfg0.N) (r : Fin 512) (j : Fin 5136) (w : Fin 1024 → EReal)
    (hw : ∀ k, w k = m ((c : Thread nD τ).loc main_arg1) (ix3 0 k j)) :
    ∑ k, k0_pay3 (iblk m c 0 t) (iblk m c 1 t) (ix2 r k) * w k =
      Rows.lane (Rows.promptRow (m ((c : Thread nD τ).loc main_arg0)) (row t r)) (m ((c : Thread nD τ).loc main_arg1)) (m ((c : Thread nD τ).loc main_arg4)) j := by
  simp only [normed_at, block0, block1, hw]
  rfl

/-- A row of a tile, by its sequence and its place in it. -/
theorem promptRow_tile (x0 : Shape.Idx ⟨3, ![2, 8192, 1024]⟩ → EReal) (t : Fin cfg0.N) (r : Fin 512) :
    Rows.promptRow x0 (row t r) = fun k => x0 (ix3 (seqOf t) (posOf t r) k) := by
  have h : t.val < 32 := t.isLt
  have h' := r.isLt
  have e0 : (⟨(row t r).val / 8192, by omega⟩ : Fin 2) = seqOf t :=
    Fin.ext (by show (t.val * 512 + r.val) / 8192 = t.val / 16; omega)
  have e1 : (⟨(row t r).val % 8192, by omega⟩ : Fin 8192) = posOf t r :=
    Fin.ext (by show (t.val * 512 + r.val) % 8192 = t.val % 16 * 512 + r.val; omega)
  funext k
  unfold Rows.promptRow
  rw [e0, e1]

/-- A row of a half of a tile, by the block of 256 rows that the half is. -/
theorem promptRow_half (x0 : Shape.Idx ⟨3, ![2, 8192, 1024]⟩ → EReal) (t : Fin cfg0.N) (h : Fin 2) (l : Fin 256)
    (r : Fin 512) (hr : r.val = h.val * 256 + l.val) :
    Rows.promptRow x0 (row t r) =
      fun k => x0 (ix3 (Rows.blockSeq (halfOf t h)) (Rows.blockPos (halfOf t h) l) k) := by
  have h1 : t.val < 32 := t.isLt
  have h2 := h.isLt
  have h3 := l.isLt
  have e0 : (⟨(row t r).val / 8192, by omega⟩ : Fin 2) = (Rows.blockSeq (halfOf t h)) :=
    Fin.ext (by show (t.val * 512 + r.val) / 8192 = (t.val * 2 + h.val) / 32; omega)
  have e1 : (⟨(row t r).val % 8192, by omega⟩ : Fin 8192) = (Rows.blockPos (halfOf t h) l) :=
    Fin.ext (by show (t.val * 512 + r.val) % 8192 = (t.val * 2 + h.val) % 32 * 256 + l.val; omega)
  funext k
  unfold Rows.promptRow
  rw [e0, e1]

/-- A sum over 128 whose terms from the seventeenth on are zero. -/
theorem sum_sixteen (f : Fin 128 → EReal) (h : ∀ l : Fin 128, ¬ l.val < 16 → f l = 0) :
    ∑ l, f l = ∑ k : Fin 16, f ⟨k.val, by omega⟩ := by
  have e := Fin.sum_univ_add (a := 16) (b := 112) f
  rw [show (∑ l, f l) = _ from e]
  rw [Finset.sum_eq_zero (s := Finset.univ) (f := fun i : Fin 112 => f (Fin.natAdd 16 i)) (fun i _ => h _ (by simp)), add_zero]
  rfl

/-- The sum that the log decay is taken of. -/
theorem logit_tile (t : Fin cfg0.N) (r : Fin 512) (j : Fin 256) :
    ∑ l, (∑ k, k0_pay3 (iblk m c 0 t) (iblk m c 1 t) (ix2 r k) * iblk m c 3 t (ix2 k l)) * iblk m c 5 t (ix2 l j) =
      ∑ l : Fin 16, Rows.lane (Rows.promptRow (m ((c : Thread nD τ).loc main_arg0)) (row t r)) (m ((c : Thread nD τ).loc main_arg1)) (m ((c : Thread nD τ).loc main_arg4)) ⟨3072 + l.val, by omega⟩
        * (m ((c : Thread nD τ).loc main_arg2)) (ix3 0 l j) := by
  rw [sum_sixteen _ fun l hl => by rw [block5, dif_neg hl, mul_zero]]
  refine Finset.sum_congr rfl fun l _ => ?_
  rw [block5, dif_pos (show (⟨l.val, _⟩ : Fin 128).val < 16 from l.isLt),
    lane_tile m c t r ⟨3072 + l.val, by omega⟩ _ fun k => by rw [block3, dif_pos (show (⟨l.val, _⟩ : Fin 128).val < 16 from l.isLt)]]

/-- The attention's queries. -/
theorem final7 : (dats m 0 c).arrAt 7 cfg0.N = fun i => Rows.lane (Rows.promptRow (m ((c : Thread nD τ).loc main_arg0)) (i 0)) (m ((c : Thread nD τ).loc main_arg1)) (m ((c : Thread nD τ).loc main_arg4)) (Rows.col (w := 512) 0 (i 1) (by decide)) := by
  refine (dats m 0 c).arrAt_eq_of_covers 7 _ (by decide +kernel) fun t hf y => ?_
  obtain ⟨r, j, rfl⟩ : ∃ (r : Fin 512) (j : Fin 512), y = (ix2 r j : S512x512.Idx) :=
    ⟨y 0, y 1, by funext a; match a with | ⟨0, _⟩ => rfl | ⟨1, _⟩ => rfl⟩
  have e : ((cfg0.win 7).blk t).view.emb (ix2 r j : S512x512.Idx) = (ix2 (row t r) j : S16384x512.Idx) := by
    blk_ext [index7 t, row]
  rw [e]
  show (dats m 0 c).after 7 t (ix2 r j : S512x512.Idx) = Rows.lane (Rows.promptRow (m ((c : Thread nD τ).loc main_arg0)) (row t r)) (m ((c : Thread nD τ).loc main_arg1)) (m ((c : Thread nD τ).loc main_arg4)) (Rows.col (w := 512) 0 j (by decide))
  rw [after0_7]
  unfold_out out0_7
  frame_out
  rw [pay4_at]
  exact lane_tile m c t r _ _ fun k => cols2 m c t k j
/-- The recurrence's queries. -/
theorem final10 : (dats m 0 c).arrAt 10 cfg0.N = fun i => Rows.lane (Rows.promptRow (m ((c : Thread nD τ).loc main_arg0)) (i 0)) (m ((c : Thread nD τ).loc main_arg1)) (m ((c : Thread nD τ).loc main_arg4)) (Rows.col (w := 256) 1536 (i 1) (by decide)) := by
  refine (dats m 0 c).arrAt_eq_of_covers 10 _ (by decide +kernel) fun t hf y => ?_
  obtain ⟨r, j, rfl⟩ : ∃ (r : Fin 512) (j : Fin 256), y = (ix2 r j : S512x256.Idx) :=
    ⟨y 0, y 1, by funext a; match a with | ⟨0, _⟩ => rfl | ⟨1, _⟩ => rfl⟩
  have e : ((cfg0.win 10).blk t).view.emb (ix2 r j : S512x256.Idx) = (ix2 (row t r) j : S16384x256.Idx) := by
    blk_ext [index10 t, row]
  rw [e]
  show (dats m 0 c).after 10 t (ix2 r j : S512x256.Idx) = Rows.lane (Rows.promptRow (m ((c : Thread nD τ).loc main_arg0)) (row t r)) (m ((c : Thread nD τ).loc main_arg1)) (m ((c : Thread nD τ).loc main_arg4)) (Rows.col (w := 256) 1536 j (by decide))
  rw [after0_10]
  unfold_out out0_10
  frame_out
  rw [pay14_at]
  exact lane_tile m c t r _ _ fun k => cols9 m c t k j
/-- The recurrence's keys. -/
theorem final11 : (dats m 0 c).arrAt 11 cfg0.N = fun i => Rows.lane (Rows.promptRow (m ((c : Thread nD τ).loc main_arg0)) (i 0)) (m ((c : Thread nD τ).loc main_arg1)) (m ((c : Thread nD τ).loc main_arg4)) (Rows.col (w := 256) 1792 (i 1) (by decide)) := by
  refine (dats m 0 c).arrAt_eq_of_covers 11 _ (by decide +kernel) fun t hf y => ?_
  obtain ⟨r, j, rfl⟩ : ∃ (r : Fin 512) (j : Fin 256), y = (ix2 r j : S512x256.Idx) :=
    ⟨y 0, y 1, by funext a; match a with | ⟨0, _⟩ => rfl | ⟨1, _⟩ => rfl⟩
  have e : ((cfg0.win 11).blk t).view.emb (ix2 r j : S512x256.Idx) = (ix2 (row t r) j : S16384x256.Idx) := by
    blk_ext [index11 t, row]
  rw [e]
  show (dats m 0 c).after 11 t (ix2 r j : S512x256.Idx) = Rows.lane (Rows.promptRow (m ((c : Thread nD τ).loc main_arg0)) (row t r)) (m ((c : Thread nD τ).loc main_arg1)) (m ((c : Thread nD τ).loc main_arg4)) (Rows.col (w := 256) 1792 j (by decide))
  rw [after0_11]
  unfold_out out0_11
  frame_out
  rw [pay15_at]
  exact lane_tile m c t r _ _ fun k => cols11 m c t k j
/-- The recurrence's values. -/
theorem final12 : (dats m 0 c).arrAt 12 cfg0.N = fun i => Rows.lane (Rows.promptRow (m ((c : Thread nD τ).loc main_arg0)) (i 0)) (m ((c : Thread nD τ).loc main_arg1)) (m ((c : Thread nD τ).loc main_arg4)) (Rows.col (w := 512) 2048 (i 1) (by decide)) := by
  refine (dats m 0 c).arrAt_eq_of_covers 12 _ (by decide +kernel) fun t hf y => ?_
  obtain ⟨r, j, rfl⟩ : ∃ (r : Fin 512) (j : Fin 512), y = (ix2 r j : S512x512.Idx) :=
    ⟨y 0, y 1, by funext a; match a with | ⟨0, _⟩ => rfl | ⟨1, _⟩ => rfl⟩
  have e : ((cfg0.win 12).blk t).view.emb (ix2 r j : S512x512.Idx) = (ix2 (row t r) j : S16384x512.Idx) := by
    blk_ext [index12 t, row]
  rw [e]
  show (dats m 0 c).after 12 t (ix2 r j : S512x512.Idx) = Rows.lane (Rows.promptRow (m ((c : Thread nD τ).loc main_arg0)) (row t r)) (m ((c : Thread nD τ).loc main_arg1)) (m ((c : Thread nD τ).loc main_arg4)) (Rows.col (w := 512) 2048 j (by decide))
  rw [after0_12]
  unfold_out out0_12
  frame_out
  rw [pay16_at]
  exact lane_tile m c t r _ _ fun k => cols12 m c t k j
/-- The recurrence's output gate. -/
theorem final13 : (dats m 0 c).arrAt 13 cfg0.N = fun i => Rows.lane (Rows.promptRow (m ((c : Thread nD τ).loc main_arg0)) (i 0)) (m ((c : Thread nD τ).loc main_arg1)) (m ((c : Thread nD τ).loc main_arg4)) (Rows.col (w := 512) 2560 (i 1) (by decide)) := by
  refine (dats m 0 c).arrAt_eq_of_covers 13 _ (by decide +kernel) fun t hf y => ?_
  obtain ⟨r, j, rfl⟩ : ∃ (r : Fin 512) (j : Fin 512), y = (ix2 r j : S512x512.Idx) :=
    ⟨y 0, y 1, by funext a; match a with | ⟨0, _⟩ => rfl | ⟨1, _⟩ => rfl⟩
  have e : ((cfg0.win 13).blk t).view.emb (ix2 r j : S512x512.Idx) = (ix2 (row t r) j : S16384x512.Idx) := by
    blk_ext [index13 t, row]
  rw [e]
  show (dats m 0 c).after 13 t (ix2 r j : S512x512.Idx) = Rows.lane (Rows.promptRow (m ((c : Thread nD τ).loc main_arg0)) (row t r)) (m ((c : Thread nD τ).loc main_arg1)) (m ((c : Thread nD τ).loc main_arg4)) (Rows.col (w := 512) 2560 j (by decide))
  rw [after0_13]
  unfold_out out0_13
  frame_out
  rw [pay17_at]
  exact lane_tile m c t r _ _ fun k => cols13 m c t k j
/-- The log decay. -/
theorem final14 : (dats m 0 c).arrAt 14 cfg0.N = fun i => Rows.decayAt (Rows.promptRow (m ((c : Thread nD τ).loc main_arg0)) (i 0)) (m ((c : Thread nD τ).loc main_arg1)) (m ((c : Thread nD τ).loc main_arg2)) (m ((c : Thread nD τ).loc main_arg3)) (m ((c : Thread nD τ).loc main_arg4)) (i 1) := by
  refine (dats m 0 c).arrAt_eq_of_covers 14 _ (by decide +kernel) fun t hf y => ?_
  obtain ⟨r, j, rfl⟩ : ∃ (r : Fin 512) (j : Fin 256), y = (ix2 r j : S512x256.Idx) :=
    ⟨y 0, y 1, by funext a; match a with | ⟨0, _⟩ => rfl | ⟨1, _⟩ => rfl⟩
  have e : ((cfg0.win 14).blk t).view.emb (ix2 r j : S512x256.Idx) = (ix2 (row t r) j : S16384x256.Idx) := by
    blk_ext [index14 t, row]
  rw [e]
  show (dats m 0 c).after 14 t (ix2 r j : S512x256.Idx) = Rows.decayAt (Rows.promptRow (m ((c : Thread nD τ).loc main_arg0)) (row t r)) (m ((c : Thread nD τ).loc main_arg1)) (m ((c : Thread nD τ).loc main_arg2)) (m ((c : Thread nD τ).loc main_arg3)) (m ((c : Thread nD τ).loc main_arg4)) j
  rw [after0_14]
  unfold_out out0_14
  frame_out
  rw [pay18_at, logit_tile, block6]
  rfl
/-- The attention branch's gate. -/
theorem final15 : (dats m 0 c).arrAt 15 cfg0.N = fun i => Rows.gate (Rows.lane (Rows.promptRow (m ((c : Thread nD τ).loc main_arg0)) (i 0)) (m ((c : Thread nD τ).loc main_arg1)) (m ((c : Thread nD τ).loc main_arg4)) (Rows.col (w := 1024) 3088 (i 1) (by decide))) := by
  refine (dats m 0 c).arrAt_eq_of_covers 15 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  have e : ((cfg0.win 15).blk t).view.emb (ix2 r j : S512x1024.Idx) = (ix2 (row t r) j : S16384x1024.Idx) := by
    blk_ext [index15 t, row]
  rw [e]
  show (dats m 0 c).after 15 t (ix2 r j : S512x1024.Idx) = Rows.gate (Rows.lane (Rows.promptRow (m ((c : Thread nD τ).loc main_arg0)) (row t r)) (m ((c : Thread nD τ).loc main_arg1)) (m ((c : Thread nD τ).loc main_arg4)) (Rows.col (w := 1024) 3088 j (by decide)))
  rw [after0_15]
  unfold_out out0_15
  frame_out
  rw [pay1_at]
  exact congrArg Rows.gate (lane_tile m c t r _ _ fun k => cols17 m c t k j)
/-- The recurrence branch's gate. -/
theorem final16 : (dats m 0 c).arrAt 16 cfg0.N = fun i => Rows.gate (Rows.lane (Rows.promptRow (m ((c : Thread nD τ).loc main_arg0)) (i 0)) (m ((c : Thread nD τ).loc main_arg1)) (m ((c : Thread nD τ).loc main_arg4)) (Rows.col (w := 1024) 4112 (i 1) (by decide))) := by
  refine (dats m 0 c).arrAt_eq_of_covers 16 _ (by decide +kernel) fun t hf y => ?_
  obtain ⟨r, j, rfl⟩ : ∃ (r : Fin 512) (j : Fin 1024), y = (ix2 r j : S512x1024.Idx) :=
    ⟨y 0, y 1, by funext a; match a with | ⟨0, _⟩ => rfl | ⟨1, _⟩ => rfl⟩
  have e : ((cfg0.win 16).blk t).view.emb (ix2 r j : S512x1024.Idx) = (ix2 (row t r) j : S16384x1024.Idx) := by
    blk_ext [index16 t, row]
  rw [e]
  show (dats m 0 c).after 16 t (ix2 r j : S512x1024.Idx) = Rows.gate (Rows.lane (Rows.promptRow (m ((c : Thread nD τ).loc main_arg0)) (row t r)) (m ((c : Thread nD τ).loc main_arg1)) (m ((c : Thread nD τ).loc main_arg4)) (Rows.col (w := 1024) 4112 j (by decide)))
  rw [after0_16]
  unfold_out out0_16
  frame_out
  rw [pay2_at]
  exact congrArg Rows.gate (lane_tile m c t r _ _ fun k => cols18 m c t k j)
/-- The attention's keys, by rows. -/
theorem final18 : (dats m 0 c).arrAt 18 cfg0.N = fun i => Rows.lane (Rows.promptRow (m ((c : Thread nD τ).loc main_arg0)) (i 0)) (m ((c : Thread nD τ).loc main_arg1)) (m ((c : Thread nD τ).loc main_arg4)) (Rows.col (w := 512) 512 (i 1) (by decide)) := by
  refine (dats m 0 c).arrAt_eq_of_covers 18 _ (by decide +kernel) fun t hf y => ?_
  obtain ⟨r, j, rfl⟩ : ∃ (r : Fin 512) (j : Fin 512), y = (ix2 r j : S512x512.Idx) :=
    ⟨y 0, y 1, by funext a; match a with | ⟨0, _⟩ => rfl | ⟨1, _⟩ => rfl⟩
  have e : ((cfg0.win 18).blk t).view.emb (ix2 r j : S512x512.Idx) = (ix2 (row t r) j : S16384x512.Idx) := by
    blk_ext [index18 t, row]
  rw [e]
  show (dats m 0 c).after 18 t (ix2 r j : S512x512.Idx) = Rows.lane (Rows.promptRow (m ((c : Thread nD τ).loc main_arg0)) (row t r)) (m ((c : Thread nD τ).loc main_arg1)) (m ((c : Thread nD τ).loc main_arg4)) (Rows.col (w := 512) 512 j (by decide))
  rw [after0_18]
  unfold_out out0_18
  frame_out
  rw [pay12_at, pay5_at]
  exact lane_tile m c t r _ _ fun k => cols4 m c t k j
/-- The attention's keys, transposed. -/
theorem final8 : (dats m 0 c).arrAt 8 cfg0.N = fun i => Rows.lane (fun k => (m ((c : Thread nD τ).loc main_arg0)) (ix3 (i 0) (i 2) k)) (m ((c : Thread nD τ).loc main_arg1)) (m ((c : Thread nD τ).loc main_arg4)) (Rows.col (w := 512) 512 (i 1) (by decide)) := by
  refine (dats m 0 c).arrAt_eq_of_covers 8 _ (by decide +kernel) fun t hf y => ?_
  obtain ⟨u, j, r, rfl⟩ : ∃ (u : Fin 1) (j r : Fin 512), y = (ix3 u j r : S1x512x512.Idx) :=
    ⟨y 0, y 1, y 2, by funext a; match a with | ⟨0, _⟩ => rfl | ⟨1, _⟩ => rfl | ⟨2, _⟩ => rfl⟩
  obtain rfl : u = 0 := Subsingleton.elim _ _
  have e : ((cfg0.win 8).blk t).view.emb (ix3 0 j r : S1x512x512.Idx) = (ix3 (seqOf t) j (posOf t r) : S2x512x8192.Idx) := by
    blk_ext [index8 t, seqOf, posOf]
  rw [e]
  show (dats m 0 c).after 8 t (ix3 0 j r : S1x512x512.Idx) = Rows.lane (fun k => (m ((c : Thread nD τ).loc main_arg0)) (ix3 (seqOf t) (posOf t r) k)) (m ((c : Thread nD τ).loc main_arg1)) (m ((c : Thread nD τ).loc main_arg4)) (Rows.col (w := 512) 512 j (by decide))
  rw [after0_8]
  unfold_out out0_8
  frame_out
  rw [pay10_at, pay5_at, ← promptRow_tile]
  exact lane_tile m c t r _ _ fun k => cols4 m c t k j
/-- The attention's values, transposed. -/
theorem final9 : (dats m 0 c).arrAt 9 cfg0.N = fun i => Rows.lane (fun k => (m ((c : Thread nD τ).loc main_arg0)) (ix3 (i 0) (i 2) k)) (m ((c : Thread nD τ).loc main_arg1)) (m ((c : Thread nD τ).loc main_arg4)) (Rows.col (w := 512) 1024 (i 1) (by decide)) := by
  refine (dats m 0 c).arrAt_eq_of_covers 9 _ (by decide +kernel) fun t hf y => ?_
  obtain ⟨u, j, r, rfl⟩ : ∃ (u : Fin 1) (j r : Fin 512), y = (ix3 u j r : S1x512x512.Idx) :=
    ⟨y 0, y 1, y 2, by funext a; match a with | ⟨0, _⟩ => rfl | ⟨1, _⟩ => rfl | ⟨2, _⟩ => rfl⟩
  obtain rfl : u = 0 := Subsingleton.elim _ _
  have e : ((cfg0.win 9).blk t).view.emb (ix3 0 j r : S1x512x512.Idx) = (ix3 (seqOf t) j (posOf t r) : S2x512x8192.Idx) := by
    blk_ext [index9 t, seqOf, posOf]
  rw [e]
  show (dats m 0 c).after 9 t (ix3 0 j r : S1x512x512.Idx) = Rows.lane (fun k => (m ((c : Thread nD τ).loc main_arg0)) (ix3 (seqOf t) (posOf t r) k)) (m ((c : Thread nD τ).loc main_arg1)) (m ((c : Thread nD τ).loc main_arg4)) (Rows.col (w := 512) 1024 j (by decide))
  rw [after0_9]
  unfold_out out0_9
  frame_out
  rw [pay11_at, pay6_at, ← promptRow_tile]
  exact lane_tile m c t r _ _ fun k => cols5 m c t k j
/-- The attention's values, transposed, as a narrower type. -/
theorem final19 : (dats m 0 c).arrAt 19 cfg0.N = fun i => Rows.lane (fun k => (m ((c : Thread nD τ).loc main_arg0)) (ix3 (i 0) (i 2) k)) (m ((c : Thread nD τ).loc main_arg1)) (m ((c : Thread nD τ).loc main_arg4)) (Rows.col (w := 512) 1024 (i 1) (by decide)) := by
  refine (dats m 0 c).arrAt_eq_of_covers 19 _ (by decide +kernel) fun t hf y => ?_
  obtain ⟨u, j, r, rfl⟩ : ∃ (u : Fin 1) (j r : Fin 512), y = (ix3 u j r : S1x512x512.Idx) :=
    ⟨y 0, y 1, y 2, by funext a; match a with | ⟨0, _⟩ => rfl | ⟨1, _⟩ => rfl | ⟨2, _⟩ => rfl⟩
  obtain rfl : u = 0 := Subsingleton.elim _ _
  have e : ((cfg0.win 19).blk t).view.emb (ix3 0 j r : S1x512x512.Idx) = (ix3 (seqOf t) j (posOf t r) : S2x512x8192.Idx) := by
    blk_ext [index19 t, seqOf, posOf]
  rw [e]
  show (dats m 0 c).after 19 t (ix3 0 j r : S1x512x512.Idx) = Rows.lane (fun k => (m ((c : Thread nD τ).loc main_arg0)) (ix3 (seqOf t) (posOf t r) k)) (m ((c : Thread nD τ).loc main_arg1)) (m ((c : Thread nD τ).loc main_arg4)) (Rows.col (w := 512) 1024 j (by decide))
  rw [after0_19]
  unfold_out out0_19
  frame_out
  rw [pay13_at, pay6_at, ← promptRow_tile]
  exact lane_tile m c t r _ _ fun k => cols5 m c t k j
/-- The mean key of each block of 256 rows. -/
theorem final17 : (dats m 0 c).arrAt 17 cfg0.N = fun i => Rows.mean256 fun l => Rows.lane (fun k => (m ((c : Thread nD τ).loc main_arg0)) (ix3 (Rows.blockSeq (i 0)) (Rows.blockPos (i 0) l) k)) (m ((c : Thread nD τ).loc main_arg1)) (m ((c : Thread nD τ).loc main_arg4)) (Rows.col (w := 512) 512 (i 2) (by decide)) := by
  refine (dats m 0 c).arrAt_eq_of_covers 17 _ (by decide +kernel) fun t hf y => ?_
  obtain ⟨h, u, j, rfl⟩ : ∃ (h : Fin 2) (u : Fin 1) (j : Fin 512), y = (ix3 h u j : S2x1x512.Idx) :=
    ⟨y 0, y 1, y 2, by funext a; match a with | ⟨0, _⟩ => rfl | ⟨1, _⟩ => rfl | ⟨2, _⟩ => rfl⟩
  obtain rfl : u = 0 := Subsingleton.elim _ _
  have e : ((cfg0.win 17).blk t).view.emb (ix3 h 0 j : S2x1x512.Idx) = (ix3 (halfOf t h) 0 j : S64x1x512.Idx) := by
    blk_ext [index17 t, halfOf]
  rw [e]
  show (dats m 0 c).after 17 t (ix3 h 0 j : S2x1x512.Idx) = Rows.mean256 fun l => Rows.lane (fun k => (m ((c : Thread nD τ).loc main_arg0)) (ix3 (Rows.blockSeq (halfOf t h)) (Rows.blockPos (halfOf t h) l) k)) (m ((c : Thread nD τ).loc main_arg1)) (m ((c : Thread nD τ).loc main_arg4)) (Rows.col (w := 512) 512 j (by decide))
  rw [after0_17]
  unfold_out out0_17
  canon_tiles x hx
  · obtain rfl : x = (ix3 0 0 j : S1x1x512.Idx) := by
      funext a; match a with
      | ⟨0, _⟩ => exact Fin.ext (by show (x 0).val = 0; omega)
      | ⟨1, _⟩ => exact Fin.ext (by show (x 1).val = 0; omega)
      | ⟨2, _⟩ => exact Fin.ext hx2.symm
    have hh : h.val = 1 := hx0
    rw [pay8_at]
    refine congrArg Rows.mean256 (funext fun l => ?_)
    frame_out
    rw [pay5_at, ← promptRow_half _ t h l ⟨256 + l.val, by omega⟩ (by show 256 + l.val = h.val * 256 + l.val; omega)]
    exact lane_tile m c t _ _ _ fun k => cols4 m c t k j
  · obtain rfl : x = (ix3 0 0 j : S1x1x512.Idx) := by
      funext a; match a with
      | ⟨0, _⟩ => exact Fin.ext (by show (x 0).val = 0; omega)
      | ⟨1, _⟩ => exact Fin.ext (by show (x 1).val = 0; omega)
      | ⟨2, _⟩ => exact Fin.ext hx2.symm
    have hh : h.val = 0 := hx0
    rw [pay7_at]
    refine congrArg Rows.mean256 (funext fun l => ?_)
    frame_out
    rw [pay5_at, ← promptRow_half _ t h l ⟨l.val, by omega⟩ (by show l.val = h.val * 256 + l.val; omega)]
    exact lane_tile m c t _ _ _ fun k => cols4 m c t k j

end Cert.ProjIdeal.ProjValue

end
-- ==== Proof.ProjClaim.lean ====
/-
The projection call of the prompt: each of the kernel's thirteen results is the reference's.
-/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjReference
public import proofs.«01_k».proof.Proof.ProjValue

@[expose] public section

set_option maxRecDepth 16384

noncomputable section

namespace Cert.ProjClaim

open Idealize.ShloMosaic Idealize.ShloMosaic.TcCoe Idealize.SL.Sem
open Idealize.ShloMosaic.Pipeline (Dat)

/-- The array the kernel leaves for window 7 is what the reference computes as `main_v42`, when the
arguments are the same. -/
theorem same7 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v42 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 7 Cert.ProjIdeal.cfg0.N := by
  obtain ⟨h0, h1, h2, h3, h4⟩ := h
  rw [h0, h1, h4]
  refine Eq.trans ?_ (Cert.ProjIdeal.ProjValue.final7 m c).symm
  funext i
  obtain ⟨r, j, rfl⟩ : ∃ r j, i = ix2 r j := ⟨i 0, i 1, eq_ix2 i⟩
  exact Cert.ProjRefIdeal.RefValue.v42_at _ _ _ r j
/-- The array the kernel leaves for window 8 is what the reference computes as `main_v40`, when the
arguments are the same. -/
theorem same8 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v40 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 8 Cert.ProjIdeal.cfg0.N := by
  obtain ⟨h0, h1, h2, h3, h4⟩ := h
  rw [h0, h1, h4]
  refine Eq.trans ?_ (Cert.ProjIdeal.ProjValue.final8 m c).symm
  funext i
  obtain ⟨b, j, s, rfl⟩ : ∃ b j s, i = ix3 b j s := ⟨i 0, i 1, i 2, eq_ix3 i⟩
  exact Cert.ProjRefIdeal.RefValue.v40_at _ _ _ b j s
/-- The array the kernel leaves for window 9 is what the reference computes as `main_v41`, when the
arguments are the same. -/
theorem same9 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v41 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 9 Cert.ProjIdeal.cfg0.N := by
  obtain ⟨h0, h1, h2, h3, h4⟩ := h
  rw [h0, h1, h4]
  refine Eq.trans ?_ (Cert.ProjIdeal.ProjValue.final9 m c).symm
  funext i
  obtain ⟨b, j, s, rfl⟩ : ∃ b j s, i = ix3 b j s := ⟨i 0, i 1, i 2, eq_ix3 i⟩
  exact Cert.ProjRefIdeal.RefValue.v41_at _ _ _ b j s
/-- The array the kernel leaves for window 10 is what the reference computes as `main_v43`, when the
arguments are the same. -/
theorem same10 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v43 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 10 Cert.ProjIdeal.cfg0.N := by
  obtain ⟨h0, h1, h2, h3, h4⟩ := h
  rw [h0, h1, h4]
  refine Eq.trans ?_ (Cert.ProjIdeal.ProjValue.final10 m c).symm
  funext i
  obtain ⟨r, j, rfl⟩ : ∃ r j, i = ix2 r j := ⟨i 0, i 1, eq_ix2 i⟩
  exact Cert.ProjRefIdeal.RefValue.v43_at _ _ _ r j
/-- The array the kernel leaves for window 11 is what the reference computes as `main_v44`, when the
arguments are the same. -/
theorem same11 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v44 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 11 Cert.ProjIdeal.cfg0.N := by
  obtain ⟨h0, h1, h2, h3, h4⟩ := h
  rw [h0, h1, h4]
  refine Eq.trans ?_ (Cert.ProjIdeal.ProjValue.final11 m c).symm
  funext i
  obtain ⟨r, j, rfl⟩ : ∃ r j, i = ix2 r j := ⟨i 0, i 1, eq_ix2 i⟩
  exact Cert.ProjRefIdeal.RefValue.v44_at _ _ _ r j
/-- The array the kernel leaves for window 12 is what the reference computes as `main_v45`, when the
arguments are the same. -/
theorem same12 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v45 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 12 Cert.ProjIdeal.cfg0.N := by
  obtain ⟨h0, h1, h2, h3, h4⟩ := h
  rw [h0, h1, h4]
  refine Eq.trans ?_ (Cert.ProjIdeal.ProjValue.final12 m c).symm
  funext i
  obtain ⟨r, j, rfl⟩ : ∃ r j, i = ix2 r j := ⟨i 0, i 1, eq_ix2 i⟩
  exact Cert.ProjRefIdeal.RefValue.v45_at _ _ _ r j
/-- The array the kernel leaves for window 13 is what the reference computes as `main_v46`, when the
arguments are the same. -/
theorem same13 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v46 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 13 Cert.ProjIdeal.cfg0.N := by
  obtain ⟨h0, h1, h2, h3, h4⟩ := h
  rw [h0, h1, h4]
  refine Eq.trans ?_ (Cert.ProjIdeal.ProjValue.final13 m c).symm
  funext i
  obtain ⟨r, j, rfl⟩ : ∃ r j, i = ix2 r j := ⟨i 0, i 1, eq_ix2 i⟩
  exact Cert.ProjRefIdeal.RefValue.v46_at _ _ _ r j
/-- The array the kernel leaves for window 14 is what the reference computes as `main_v47`, when the
arguments are the same. -/
theorem same14 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v47 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) = (Cert.ProjIdeal.Gen.dats m 0 c).arrAt 14 Cert.ProjIdeal.cfg0.N := by
  obtain ⟨h0, h1, h2, h3, h4⟩ := h
  rw [h0, h1, h2, h3, h4]
  refine Eq.trans ?_ (Cert.ProjIdeal.ProjValue.final14 m c).symm
  funext i
  obtain ⟨r, j, rfl⟩ : ∃ r j, i = ix2 r j := ⟨i 0, i 1, eq_ix2 i⟩
  exact Cert.ProjRefIdeal.RefValue.v47_at _ _ _ _ _ r j
/-- The array the kernel leaves for window 15 is what the reference computes as `main_v55`, when the
arguments are the same. -/
theorem same15 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v55 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 15 Cert.ProjIdeal.cfg0.N := by
  obtain ⟨h0, h1, h2, h3, h4⟩ := h
  rw [h0, h1, h4]
  refine Eq.trans ?_ (Cert.ProjIdeal.ProjValue.final15 m c).symm
  funext i
  obtain ⟨r, j, rfl⟩ : ∃ r j, i = ix2 r j := ⟨i 0, i 1, eq_ix2 i⟩
  exact Cert.ProjRefIdeal.RefValue.v55_at _ _ _ r j
/-- The array the kernel leaves for window 16 is what the reference computes as `main_v63`, when the
arguments are the same. -/
theorem same16 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v63 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 16 Cert.ProjIdeal.cfg0.N := by
  obtain ⟨h0, h1, h2, h3, h4⟩ := h
  rw [h0, h1, h4]
  refine Eq.trans ?_ (Cert.ProjIdeal.ProjValue.final16 m c).symm
  funext i
  obtain ⟨r, j, rfl⟩ : ∃ r j, i = ix2 r j := ⟨i 0, i 1, eq_ix2 i⟩
  exact Cert.ProjRefIdeal.RefValue.v63_at _ _ _ r j
/-- The array the kernel leaves for window 17 is what the reference computes as `main_v39`, when the
arguments are the same. -/
theorem same17 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v39 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 17 Cert.ProjIdeal.cfg0.N := by
  obtain ⟨h0, h1, h2, h3, h4⟩ := h
  rw [h0, h1, h4]
  refine Eq.trans ?_ (Cert.ProjIdeal.ProjValue.final17 m c).symm
  funext i
  obtain ⟨b, u, s, rfl⟩ : ∃ b u s, i = ix3 b u s := ⟨i 0, i 1, i 2, eq_ix3 i⟩
  obtain rfl : u = 0 := Fin.fin_one_eq_zero u
  exact Cert.ProjRefIdeal.RefValue.v39_at _ _ _ b s
/-- The array the kernel leaves for window 18 is what the reference computes as `main_v65`, when the
arguments are the same. -/
theorem same18 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v65 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 18 Cert.ProjIdeal.cfg0.N := by
  obtain ⟨h0, h1, h2, h3, h4⟩ := h
  rw [h0, h1, h4]
  refine Eq.trans ?_ (Cert.ProjIdeal.ProjValue.final18 m c).symm
  funext i
  obtain ⟨r, j, rfl⟩ : ∃ r j, i = ix2 r j := ⟨i 0, i 1, eq_ix2 i⟩
  exact Cert.ProjRefIdeal.RefValue.v65_at _ _ _ r j
/-- The array the kernel leaves for window 19 is what the reference computes as `main_v66`, when the
arguments are the same. -/
theorem same19 (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (c : Dev Cert.ProjIdeal.nD)
    (h : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) :
    Cert.ProjRefIdeal.Read.val_main_v66 (F := Ideal) (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = (Cert.ProjIdeal.Gen.dats m 0 c).arrAt 19 Cert.ProjIdeal.cfg0.N := by
  obtain ⟨h0, h1, h2, h3, h4⟩ := h
  rw [h0, h1, h4]
  refine Eq.trans ?_ (Cert.ProjIdeal.ProjValue.final19 m c).symm
  funext i
  obtain ⟨b, j, s, rfl⟩ : ∃ b j s, i = ix3 b j s := ⟨i 0, i 1, i 2, eq_ix3 i⟩
  exact Cert.ProjRefIdeal.RefValue.v66_at _ _ _ b j s
set_option maxHeartbeats 4000000 in
/-- The kernel and the reference, run from equal arguments, leave equal results. -/
theorem algebraic : Cert.algebraic_ProjIdeal_ProjRefIdeal
    (hProjIdeal := Cert.ProjIdeal.Gen.facts) (hProjRefIdeal := Cert.ProjRefIdeal.Gen.facts) := by
  intro m g m' g' _ hargs
  refine ⟨fun c => (Cert.ProjIdeal.Gen.dats m 0 c).arrAt 7 Cert.ProjIdeal.cfg0.N, fun c => (Cert.ProjIdeal.Gen.dats m 0 c).arrAt 8 Cert.ProjIdeal.cfg0.N, fun c => (Cert.ProjIdeal.Gen.dats m 0 c).arrAt 9 Cert.ProjIdeal.cfg0.N, fun c => (Cert.ProjIdeal.Gen.dats m 0 c).arrAt 10 Cert.ProjIdeal.cfg0.N, fun c => (Cert.ProjIdeal.Gen.dats m 0 c).arrAt 11 Cert.ProjIdeal.cfg0.N, fun c => (Cert.ProjIdeal.Gen.dats m 0 c).arrAt 12 Cert.ProjIdeal.cfg0.N, fun c => (Cert.ProjIdeal.Gen.dats m 0 c).arrAt 13 Cert.ProjIdeal.cfg0.N, fun c => (Cert.ProjIdeal.Gen.dats m 0 c).arrAt 14 Cert.ProjIdeal.cfg0.N, fun c => (Cert.ProjIdeal.Gen.dats m 0 c).arrAt 15 Cert.ProjIdeal.cfg0.N, fun c => (Cert.ProjIdeal.Gen.dats m 0 c).arrAt 16 Cert.ProjIdeal.cfg0.N, fun c => (Cert.ProjIdeal.Gen.dats m 0 c).arrAt 17 Cert.ProjIdeal.cfg0.N, fun c => (Cert.ProjIdeal.Gen.dats m 0 c).arrAt 18 Cert.ProjIdeal.cfg0.N, fun c => (Cert.ProjIdeal.Gen.dats m 0 c).arrAt 19 Cert.ProjIdeal.cfg0.N, ?_, ?_⟩
  · exact Cert.ProjIdeal.Value.run_blocks m g
  · refine (θ_run Cert.ProjRefIdeal.defs _ _).mono (fun r h c => ?_) (Cert.ProjRefIdeal.Value.run (F := Ideal) m' g')
    obtain ⟨e7, e8, e9, e10, e11, e12, e13, e14, e15, e16, e17, e18, e19, hk⟩ := h c
    have ha := hargs c
    refine ⟨e7.trans ?_, e8.trans ?_, e9.trans ?_, e10.trans ?_, e11.trans ?_, e12.trans ?_, e13.trans ?_, e14.trans ?_, e15.trans ?_, e16.trans ?_, e17.trans ?_, e18.trans ?_, e19.trans ?_, hk⟩
    · exact Eq.trans (Cert.ProjRefIdeal.Read.val_main_v42_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same7 m m' c ha)
    · exact Eq.trans (Cert.ProjRefIdeal.Read.val_main_v40_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same8 m m' c ha)
    · exact Eq.trans (Cert.ProjRefIdeal.Read.val_main_v41_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same9 m m' c ha)
    · exact Eq.trans (Cert.ProjRefIdeal.Read.val_main_v43_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same10 m m' c ha)
    · exact Eq.trans (Cert.ProjRefIdeal.Read.val_main_v44_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same11 m m' c ha)
    · exact Eq.trans (Cert.ProjRefIdeal.Read.val_main_v45_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same12 m m' c ha)
    · exact Eq.trans (Cert.ProjRefIdeal.Read.val_main_v46_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same13 m m' c ha)
    · exact Eq.trans (Cert.ProjRefIdeal.Read.val_main_v47_eq m' c) (same14 m m' c ha)
    · exact Eq.trans (Cert.ProjRefIdeal.Read.val_main_v55_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same15 m m' c ha)
    · exact Eq.trans (Cert.ProjRefIdeal.Read.val_main_v63_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same16 m m' c ha)
    · exact Eq.trans (Cert.ProjRefIdeal.Read.val_main_v39_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same17 m m' c ha)
    · exact Eq.trans (Cert.ProjRefIdeal.Read.val_main_v65_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same18 m m' c ha)
    · exact Eq.trans (Cert.ProjRefIdeal.Read.val_main_v66_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))) (same19 m m' c ha)

end Cert.ProjClaim

end

end
-- ==== Proof.SampleRows.lean ====
/- The rows of the sample batch, 32 sequences of 8, as one array of 256 rows. -/
module

public import proofs.«01_k».proof.Proof.Rows

@[expose] public section

noncomputable section

namespace Cert.Rows

open Idealize.ShloMosaic

/-- Row `r` of the rows of the 32 sequences, one after the other. -/
def sampleRow (x0 : Shape.Idx ⟨3, ![32, 8, 1024]⟩ → EReal) (r : Fin 256) (k : Fin 1024) : EReal :=
  x0 (ix3 ⟨r.val / 8, by omega⟩ ⟨r.val % 8, by omega⟩ k)

/-- Those rows as an array. -/
def sampleRows (x0 : Shape.Idx ⟨3, ![32, 8, 1024]⟩ → EReal) : Shape.Idx ⟨2, ![256, 1024]⟩ → EReal :=
  fun i => sampleRow x0 (i 0) (i 1)

end Cert.Rows

end
-- ==== Proof.MixSampleReference.lean ====
/- What the plain program of the part after the mixers computes of the sample batch, row by row: `Rows.mixAt`. -/
module

public import proofs.«01_k».proof.Proof.Gen.MixSampleRefIdeal.Read
public import proofs.«01_k».proof.Proof.SampleRows

@[expose] public section

set_option maxRecDepth 16384

noncomputable section

namespace Cert.MixSampleRefIdeal.RefValue

open Idealize.ShloMosaic Idealize.ShloMosaic.TcCoe Idealize.SL.Sem
open Cert.MixSampleRefIdeal Cert.MixSampleRefIdeal.Read

variable (x0 : (⟨S32x8x1024, .f32⟩ : BufTy).Contents (Elt Ideal)) (x1 x2 : (⟨S256x512, .f32⟩ : BufTy).Contents (Elt Ideal))
  (x3 x4 : (⟨S256x1024, .bf16⟩ : BufTy).Contents (Elt Ideal)) (x5 x6 : (⟨S1x512x1024, .f32⟩ : BufTy).Contents (Elt Ideal))
  (x7 : (⟨S1x1024x1024, .f32⟩ : BufTy).Contents (Elt Ideal)) (x8 : (⟨S1x1024x4096, .f32⟩ : BufTy).Contents (Elt Ideal))
  (x9 : (⟨S1x4096x1024, .f32⟩ : BufTy).Contents (Elt Ideal)) (x10 x11 x12 : (⟨S1x1024, .f32⟩ : BufTy).Contents (Elt Ideal))

/-- The residual rows, one after the other. -/
theorem rows_at (r : Fin 256) (k : Fin 1024) : val_main_v0 (F := Ideal) x0 (ix2 r k) = Rows.sampleRows x0 (ix2 r k) := by
  unfold Rows.sampleRows Rows.sampleRow
  pointwise [val_main_v0]

/-- The merged branches. -/
theorem merge_at (r : Fin 256) (j : Fin 1024) : val_main_v11 (F := Ideal) x1 x2 x3 x4 x5 x6 x7 (ix2 r j) =
    Rows.merge (fun k => x3 (ix2 r k)) (fun k => x4 (ix2 r k)) (fun k => x1 (ix2 r k)) (fun k => x2 (ix2 r k))
      (fun l k => x5 (ix3 0 l k)) (fun l k => x6 (ix3 0 l k)) (fun l k => x7 (ix3 0 l k)) j := by
  unfold Rows.merge
  pointwise [val_main_v11, val_main_v10, val_main_v9, val_main_v8, val_main_v7, val_main_v6, val_main_v5, val_main_v4,
    val_main_v3, val_main_v2, val_main_v1, dot_S256x1024_S1024x1024_S256x1024_1_0_0_1_n_n,
    dot_S256x512_S512x1024_S256x1024_1_0_0_1_n_n]

/-- The row after the branches. -/
theorem afterMix_at (r : Fin 256) (j : Fin 1024) : val_main_v26 (F := Ideal) x0 x1 x2 x3 x4 x5 x6 x7 x10 (ix2 r j) =
    Rows.afterMix (Ideal.ofBits .f32 0x44800000#32) (Ideal.ofBits .f32 0x358637BD#32) (fun k => Rows.sampleRows x0 (ix2 r k))
      (fun k => x3 (ix2 r k)) (fun k => x4 (ix2 r k)) (fun k => x1 (ix2 r k)) (fun k => x2 (ix2 r k))
      (fun l k => x5 (ix3 0 l k)) (fun l k => x6 (ix3 0 l k)) (fun l k => x7 (ix3 0 l k)) (fun k => x10 (ix2 0 k)) j := by
  unfold Rows.afterMix Rows.rms
  simp only [← merge_at, ← rows_at]
  pointwise [val_main_v26, val_main_v25, val_main_v24, val_main_v23, val_main_v22, val_main_v21, val_main_v20, val_main_v19,
    val_main_v18, val_main_v17, val_main_v16, val_main_v15, val_main_v14, val_main_v13, val_main_v12, val_main_cst,
    val_main_cst_0, val_main_cst_1]

/-- The network on the normalised row. -/
theorem relu2_at (r : Fin 256) (j : Fin 1024) :
    val_main_v46 (F := Ideal) x0 x1 x2 x3 x4 x5 x6 x7 x8 x9 x10 x11 (ix2 r j) =
    Rows.relu2 (fun l => Rows.rms (Ideal.ofBits .f32 0x44800000#32) (Ideal.ofBits .f32 0x358637BD#32)
        (fun k => val_main_v26 (F := Ideal) x0 x1 x2 x3 x4 x5 x6 x7 x10 (ix2 r k)) l * x11 (ix2 0 l))
      (fun l k => x8 (ix3 0 l k)) (fun l k => x9 (ix3 0 l k)) j := by
  unfold Rows.relu2 Rows.rms
  pointwise [val_main_v46, val_main_v45, val_main_v44, val_main_v43, val_main_call0_v0, val_main_call0_cst, val_main_v42, val_main_v41, val_main_v40, val_main_v39,
    val_main_v38, val_main_v37, val_main_v36, val_main_v35, val_main_v34, val_main_v33, val_main_v32, val_main_v31,
    val_main_v30, val_main_v29, val_main_v28, val_main_v27, val_main_cst_2, val_main_cst_3, val_main_cst_4,
    dot_S256x1024_S1024x4096_S256x4096_1_0_0_1_n_n, dot_S256x4096_S4096x1024_S256x1024_1_0_0_1_n_n]

/-- The result array at row `r`, lane `j`. -/
theorem result_at (r : Fin 256) (j : Fin 1024) :
    val_main_v61 (F := Ideal) x0 x1 x2 x3 x4 x5 x6 x7 x8 x9 x10 x11 x12 (ix2 r j) =
    Rows.mixAt (Rows.sampleRows x0) x1 x2 x3 x4 x5 x6 x7 x8 x9 x10 x11 x12 r j := by
  have h : Rows.mixAt (Rows.sampleRows x0) x1 x2 x3 x4 x5 x6 x7 x8 x9 x10 x11 x12 r j =
      val_main_v26 (F := Ideal) x0 x1 x2 x3 x4 x5 x6 x7 x10 (ix2 r j)
        + Rows.rms (Ideal.ofBits .f32 0x44800000#32) (Ideal.ofBits .f32 0x358637BD#32)
          (fun k => val_main_v46 (F := Ideal) x0 x1 x2 x3 x4 x5 x6 x7 x8 x9 x10 x11 (ix2 r k)) j * x12 (ix2 0 j) := by
    simp only [relu2_at, afterMix_at]; rfl
  rw [h]
  unfold Rows.rms
  pointwise [val_main_v61, val_main_v60, val_main_v59, val_main_v58, val_main_v57, val_main_v56, val_main_v55, val_main_v54,
    val_main_v53, val_main_v52, val_main_v51, val_main_v50, val_main_v49, val_main_v48, val_main_v47, val_main_cst_5,
    val_main_cst_6, val_main_cst_7]

end Cert.MixSampleRefIdeal.RefValue

end
-- ==== Proof.MixSampleValue.lean ====
/- What the tiled kernel of the part after the mixers leaves in its result array: `Rows.mixAt` of its arguments. A grid
   point takes all 256 rows; the matrices and the gains are whole at every point. -/
module

public import proofs.«01_k».proof.Proof.Gen.MixSampleIdeal.Value
public import proofs.«01_k».proof.Proof.SampleRows

@[expose] public section

set_option maxRecDepth 16384

noncomputable section

namespace Cert.MixSampleIdeal.MixValue

open Idealize.ShloMosaic Idealize.ShloMosaic.TcCoe Idealize.SL.Sem
open Idealize.ShloMosaic.Pipeline (Dat)
open Cert.MixSampleIdeal Cert.MixSampleIdeal.Gen

/-- A tile's merged and normalised branches. -/
theorem merged_at (v0 : Vec Ideal S256x1024 .bf16) (v2 : Vec Ideal S256x512 .f32) (v3 : Vec Ideal S512x1024 .bf16) (v8 : Vec Ideal S256x1024 .bf16)
    (v10 : Vec Ideal S256x512 .f32) (v11 : Vec Ideal S512x1024 .bf16) (v18 : Vec Ideal S1024x1024 .bf16)
    (r : Fin 256) (j : Fin 1024) :
    k0_pay3 v0 v2 v3 v8 v10 v11 v18 (ix2 r j) =
      Rows.rms (Ideal.ofBits .f32 0x44800000#32) (Ideal.ofBits .f32 0x358637BD#32)
        (Rows.merge (fun k => v0 (ix2 r k)) (fun k => v8 (ix2 r k)) (fun k => v2 (ix2 r k)) (fun k => v10 (ix2 r k))
          (fun l k => v3 (ix2 l k)) (fun l k => v11 (ix2 l k)) (fun l k => v18 (ix2 l k))) j := by
  unfold Rows.rms Rows.merge
  pointwise [k0_pay3, dot_S256x512_S512x1024_S256x1024_1_0_0_1_n_n, dot_S256x1024_S1024x1024_S256x1024_1_0_0_1_n_n]

/-- The tile of the residual rows, and the first gain, as they are read. -/
theorem residual_eq (v : Vec Ideal S256x1024 .f32) (r : Fin 256) (j : Fin 1024) : k0_pay1 v (ix2 r j) = v (ix2 r j) := by
  pointwise [k0_pay1]
theorem gain_eq (v : Vec Ideal S1x1024 .f32) (j : Fin 1024) : k0_pay2 v (ix2 0 j) = v (ix2 0 j) := by
  pointwise [k0_pay2]

/-- A tile's feed-forward network. -/
theorem ffn_at (v18 : FVec Ideal S256x1024 .f32) (v24 : FVec Ideal S1x1024 .f32) (v34 : FVec Ideal S256x1024 .f32)
    (v38 : Vec Ideal S1x1024 .f32) (v52 : Vec Ideal S1024x4096 .bf16) (v59 : Vec Ideal S4096x1024 .bf16)
    (v63 : Vec Ideal S1x1024 .f32) (r : Fin 256) (j : Fin 1024) :
    k0_pay4 v18 v24 v34 v38 v52 v59 v63 (ix2 r j) =
      Rows.afterFfn (Ideal.ofBits .f32 0x44800000#32) (Ideal.ofBits .f32 0x358637BD#32)
        (fun k => v18 (ix2 r k) + v34 (ix2 r k) * v24 (ix2 0 k)) (fun l k => v52 (ix2 l k)) (fun l k => v59 (ix2 l k))
        (fun k => v38 (ix2 0 k)) (fun k => v63 (ix2 0 k)) j := by
  unfold Rows.afterFfn Rows.relu2 Rows.rms
  pointwise [k0_pay4, dot_S256x1024_S1024x4096_S256x4096_1_0_0_1_n_n, dot_S256x4096_S4096x1024_S256x1024_1_0_0_1_n_n]

variable (m : (ℓ : Loc nD τ sig) → Buf (Elt Ideal) ℓ) (c : Dev nD)

/-- The residual rows as the region finds them. -/
theorem V_main_v0 (r : Fin 256) (k : Fin 1024) :
    V m c main_v0 (ix2 r k) = Rows.sampleRows (m ((c : Thread nD τ).loc main_arg0)) (ix2 r k) := by
  unfold Rows.sampleRows Rows.sampleRow
  show StableHlo.after hostOps0 _ (Proc.devRef .tc main_v0) _ = _
  after_results
  pointwise

/-- The matrix of argument 5 as the region finds it. -/
theorem V_main_v2 (l : Fin 512) (k : Fin 1024) :
    V m c main_v2 (ix2 l k) = m ((c : Thread nD τ).loc main_arg5) (ix3 0 l k) := by
  show StableHlo.after hostOps0 _ (Proc.devRef .tc main_v2) _ = _
  after_results
  pointwise

/-- The matrix of argument 6 as the region finds it. -/
theorem V_main_v4 (l : Fin 512) (k : Fin 1024) :
    V m c main_v4 (ix2 l k) = m ((c : Thread nD τ).loc main_arg6) (ix3 0 l k) := by
  show StableHlo.after hostOps0 _ (Proc.devRef .tc main_v4) _ = _
  after_results
  pointwise

/-- The matrix of argument 7 as the region finds it. -/
theorem V_main_v6 (l : Fin 1024) (k : Fin 1024) :
    V m c main_v6 (ix2 l k) = m ((c : Thread nD τ).loc main_arg7) (ix3 0 l k) := by
  show StableHlo.after hostOps0 _ (Proc.devRef .tc main_v6) _ = _
  after_results
  pointwise

/-- The matrix of argument 8 as the region finds it. -/
theorem V_main_v8 (l : Fin 1024) (k : Fin 4096) :
    V m c main_v8 (ix2 l k) = m ((c : Thread nD τ).loc main_arg8) (ix3 0 l k) := by
  show StableHlo.after hostOps0 _ (Proc.devRef .tc main_v8) _ = _
  after_results
  pointwise

/-- The matrix of argument 9 as the region finds it. -/
theorem V_main_v10 (l : Fin 4096) (k : Fin 1024) :
    V m c main_v10 (ix2 l k) = m ((c : Thread nD τ).loc main_arg9) (ix3 0 l k) := by
  show StableHlo.after hostOps0 _ (Proc.devRef .tc main_v10) _ = _
  after_results
  pointwise

/-- The gain of argument 10 as the region finds it. -/
theorem V_main_v12 (k : Fin 1024) : V m c main_v12 (ix2 0 k) = m ((c : Thread nD τ).loc main_arg10) (ix2 0 k) := by
  show StableHlo.after hostOps0 _ (Proc.devRef .tc main_v12) _ = _
  after_results
  pointwise

/-- The gain of argument 11 as the region finds it. -/
theorem V_main_v14 (k : Fin 1024) : V m c main_v14 (ix2 0 k) = m ((c : Thread nD τ).loc main_arg11) (ix2 0 k) := by
  show StableHlo.after hostOps0 _ (Proc.devRef .tc main_v14) _ = _
  after_results
  pointwise

/-- The gain of argument 12 as the region finds it. -/
theorem V_main_v16 (k : Fin 1024) : V m c main_v16 (ix2 0 k) = m ((c : Thread nD τ).loc main_arg12) (ix2 0 k) := by
  show StableHlo.after hostOps0 _ (Proc.devRef .tc main_v16) _ = _
  after_results
  pointwise

/-- The array's row that row `r` of point `t`'s tile is. -/
def row (t : Fin cfg0.N) (r : Fin 256) : Fin 256 :=
  ⟨t.val * 256 + r.val, by have h : t.val < 1 := t.isLt; have := r.isLt; omega⟩

theorem index0 : ∀ t : Fin cfg0.N, win0_0.index t = ![t.val, 0] :=
  (by decide +kernel : ∀ t : Fin grid0.N, _)
theorem index1 : ∀ t : Fin cfg0.N, win0_1.index t = ![t.val, 0] :=
  (by decide +kernel : ∀ t : Fin grid0.N, _)
theorem index2 : ∀ t : Fin cfg0.N, win0_2.index t = ![t.val, 0] :=
  (by decide +kernel : ∀ t : Fin grid0.N, _)
theorem index3 : ∀ t : Fin cfg0.N, win0_3.index t = ![t.val, 0] :=
  (by decide +kernel : ∀ t : Fin grid0.N, _)
theorem index4 : ∀ t : Fin cfg0.N, win0_4.index t = ![t.val, 0] :=
  (by decide +kernel : ∀ t : Fin grid0.N, _)
theorem index13 : ∀ t : Fin cfg0.N, win0_13.index t = ![t.val, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![0, 0] :=
  (by decide +kernel : ∀ t : Fin grid0.N, _)

theorem block0 (t : Fin cfg0.N) (r : Fin 256) (k : Fin 1024) :
    iblk m c 0 t (ix2 r k) = Rows.sampleRows (m ((c : Thread nD τ).loc main_arg0)) (ix2 (row t r) k) := by
  refine Eq.trans ?_ (V_main_v0 m c (row t r) k)
  blk_ext [iblk, index0 t, row]
theorem block1 (t : Fin cfg0.N) (r : Fin 256) (k : Fin 512) :
    iblk m c 1 t (ix2 r k) = m ((c : Thread nD τ).loc main_arg1) (ix2 (row t r) k) := by
  blk_ext! [iblk, V_main_arg1, index1 t, row]
theorem block2 (t : Fin cfg0.N) (r : Fin 256) (k : Fin 512) :
    iblk m c 2 t (ix2 r k) = m ((c : Thread nD τ).loc main_arg2) (ix2 (row t r) k) := by
  blk_ext! [iblk, V_main_arg2, index2 t, row]
theorem block3 (t : Fin cfg0.N) (r : Fin 256) (k : Fin 1024) :
    iblk m c 3 t (ix2 r k) = m ((c : Thread nD τ).loc main_arg3) (ix2 (row t r) k) := by
  blk_ext! [iblk, V_main_arg3, index3 t, row]
theorem block4 (t : Fin cfg0.N) (r : Fin 256) (k : Fin 1024) :
    iblk m c 4 t (ix2 r k) = m ((c : Thread nD τ).loc main_arg4) (ix2 (row t r) k) := by
  blk_ext! [iblk, V_main_arg4, index4 t, row]
theorem block5 (t : Fin cfg0.N) (l : Fin 512) (k : Fin 1024) :
    iblk m c 5 t (ix2 l k) = m ((c : Thread nD τ).loc main_arg5) (ix3 0 l k) := by
  refine Eq.trans ?_ (V_main_v2 m c l k)
  blk_ext [iblk, index5 t]
theorem block6 (t : Fin cfg0.N) (l : Fin 512) (k : Fin 1024) :
    iblk m c 6 t (ix2 l k) = m ((c : Thread nD τ).loc main_arg6) (ix3 0 l k) := by
  refine Eq.trans ?_ (V_main_v4 m c l k)
  blk_ext [iblk, index6 t]
theorem block7 (t : Fin cfg0.N) (l : Fin 1024) (k : Fin 1024) :
    iblk m c 7 t (ix2 l k) = m ((c : Thread nD τ).loc main_arg7) (ix3 0 l k) := by
  refine Eq.trans ?_ (V_main_v6 m c l k)
  blk_ext [iblk, index7 t]
theorem block8 (t : Fin cfg0.N) (l : Fin 1024) (k : Fin 4096) :
    iblk m c 8 t (ix2 l k) = m ((c : Thread nD τ).loc main_arg8) (ix3 0 l k) := by
  refine Eq.trans ?_ (V_main_v8 m c l k)
  blk_ext [iblk, index8 t]
theorem block9 (t : Fin cfg0.N) (l : Fin 4096) (k : Fin 1024) :
    iblk m c 9 t (ix2 l k) = m ((c : Thread nD τ).loc main_arg9) (ix3 0 l k) := by
  refine Eq.trans ?_ (V_main_v10 m c l k)
  blk_ext [iblk, index9 t]
theorem block10 (t : Fin cfg0.N) (k : Fin 1024) :
    iblk m c 10 t (ix2 0 k) = m ((c : Thread nD τ).loc main_arg10) (ix2 0 k) := by
  refine Eq.trans ?_ (V_main_v12 m c k)
  blk_ext [iblk, index10 t]
theorem block11 (t : Fin cfg0.N) (k : Fin 1024) :
    iblk m c 11 t (ix2 0 k) = m ((c : Thread nD τ).loc main_arg11) (ix2 0 k) := by
  refine Eq.trans ?_ (V_main_v14 m c k)
  blk_ext [iblk, index11 t]
theorem block12 (t : Fin cfg0.N) (k : Fin 1024) :
    iblk m c 12 t (ix2 0 k) = m ((c : Thread nD τ).loc main_arg12) (ix2 0 k) := by
  refine Eq.trans ?_ (V_main_v16 m c k)
  blk_ext [iblk, index12 t]

/-- The result array after the run, at row `r` and lane `j`. -/
theorem final (c : Dev nD) : (dats m 0 c).arrAt 13 cfg0.N = fun i => Rows.mixAt
    (Rows.sampleRows (m ((c : Thread nD τ).loc main_arg0))) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (i 0) (i 1) := by
  refine (dats m 0 c).arrAt_eq_of_covers 13 _ (by decide +kernel) fun t hf y => ?_
  obtain ⟨r, j, rfl⟩ : ∃ (r : Fin 256) (j : Fin 1024), y = (ix2 r j : S256x1024.Idx) :=
    ⟨y 0, y 1, by funext a; match a with | ⟨0, _⟩ => rfl | ⟨1, _⟩ => rfl⟩
  have e : ((cfg0.win 13).blk t).view.emb (ix2 r j : S256x1024.Idx) = (ix2 (row t r) j : S256x1024.Idx) := by
    blk_ext [index13 t, row]
  rw [e]
  show (dats m 0 c).after 13 t (ix2 r j : S256x1024.Idx) = Rows.mixAt _ _ _ _ _ _ _ _ _ _ _ _ _ (row t r) j
  rw [after0_13]
  unfold out0_13
  frame_out
  rw [ffn_at]
  simp only [merged_at, residual_eq, gain_eq, block0, block1, block2, block3, block4, block5, block6, block7, block8, block9, block10,
    block11, block12]
  rfl

end Cert.MixSampleIdeal.MixValue

end
-- ==== Proof.MixSampleClaim.lean ====
/-
The mix-and-feed-forward call of the sample batch: the kernel's result is the reference's.
-/
module

public import proofs.«01_k».proof.Defs
public import proofs.«01_k».proof.Proof.Gen.MixSampleIdeal.Value
public import proofs.«01_k».proof.Proof.Gen.MixSampleRefIdeal.Run
public import proofs.«01_k».proof.Proof.Gen.MixSampleRefIdeal.Read
public import proofs.«01_k».proof.Proof.MixSampleReference
public import proofs.«01_k».proof.Proof.MixSampleValue

@[expose] public section

set_option maxRecDepth 16384

noncomputable section

namespace Cert.MixSampleClaim

open Idealize.ShloMosaic Idealize.ShloMosaic.TcCoe Idealize.SL.Sem
open Idealize.ShloMosaic.Pipeline (Dat)

/-- The array the kernel leaves for window 13 is what the reference computes as `main_v61`, when the
arguments are the same. -/
theorem same13 (m : (ℓ : Loc Cert.MixSampleIdeal.nD Cert.MixSampleIdeal.τ Cert.MixSampleIdeal.sig) → Buf (Elt Ideal) ℓ)
    (m' : (ℓ : Loc Cert.MixSampleRefIdeal.nD Cert.MixSampleRefIdeal.τ Cert.MixSampleRefIdeal.sig) → Buf (Elt Ideal) ℓ)
    (c : Dev Cert.MixSampleIdeal.nD)
    (h : m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)
      ∧ m' ((c.tc : Thread Cert.MixSampleRefIdeal.nD Cert.MixSampleRefIdeal.τ).loc Cert.MixSampleRefIdeal.main_arg3) = m ((c.tc : Thread Cert.MixSampleIdeal.nD Cert.MixSampleIdeal.τ).loc Cert.MixSampleIdeal.main_arg3)
      ∧ m' ((c.tc : Thread Cert.MixSampleRefIdeal.nD Cert.MixSampleRefIdeal.τ).loc Cert.MixSampleRefIdeal.main_arg4) = m ((c.tc : Thread Cert.MixSampleIdeal.nD Cert.MixSampleIdeal.τ).loc Cert.MixSampleIdeal.main_arg4)
      ∧ m' ((c.tc : Thread Cert.MixSampleRefIdeal.nD Cert.MixSampleRefIdeal.τ).loc Cert.MixSampleRefIdeal.main_arg5) = m ((c.tc : Thread Cert.MixSampleIdeal.nD Cert.MixSampleIdeal.τ).loc Cert.MixSampleIdeal.main_arg5)
      ∧ m' ((c.tc : Thread Cert.MixSampleRefIdeal.nD Cert.MixSampleRefIdeal.τ).loc Cert.MixSampleRefIdeal.main_arg6) = m ((c.tc : Thread Cert.MixSampleIdeal.nD Cert.MixSampleIdeal.τ).loc Cert.MixSampleIdeal.main_arg6)
      ∧ m' ((c.tc : Thread Cert.MixSampleRefIdeal.nD Cert.MixSampleRefIdeal.τ).loc Cert.MixSampleRefIdeal.main_arg7) = m ((c.tc : Thread Cert.MixSampleIdeal.nD Cert.MixSampleIdeal.τ).loc Cert.MixSampleIdeal.main_arg7)
      ∧ m' ((c.tc : Thread Cert.MixSampleRefIdeal.nD Cert.MixSampleRefIdeal.τ).loc Cert.MixSampleRefIdeal.main_arg8) = m ((c.tc : Thread Cert.MixSampleIdeal.nD Cert.MixSampleIdeal.τ).loc Cert.MixSampleIdeal.main_arg8)
      ∧ m' ((c.tc : Thread Cert.MixSampleRefIdeal.nD Cert.MixSampleRefIdeal.τ).loc Cert.MixSampleRefIdeal.main_arg9) = m ((c.tc : Thread Cert.MixSampleIdeal.nD Cert.MixSampleIdeal.τ).loc Cert.MixSampleIdeal.main_arg9)
      ∧ m' ((c.tc : Thread Cert.MixSampleRefIdeal.nD Cert.MixSampleRefIdeal.τ).loc Cert.MixSampleRefIdeal.main_arg10) = m ((c.tc : Thread Cert.MixSampleIdeal.nD Cert.MixSampleIdeal.τ).loc Cert.MixSampleIdeal.main_arg10)
      ∧ m' ((c.tc : Thread Cert.MixSampleRefIdeal.nD Cert.MixSampleRefIdeal.τ).loc Cert.MixSampleRefIdeal.main_arg11) = m ((c.tc : Thread Cert.MixSampleIdeal.nD Cert.MixSampleIdeal.τ).loc Cert.MixSampleIdeal.main_arg11)
      ∧ m' ((c.tc : Thread Cert.MixSampleRefIdeal.nD Cert.MixSampleRefIdeal.τ).loc Cert.MixSampleRefIdeal.main_arg12) = m ((c.tc : Thread Cert.MixSampleIdeal.nD Cert.MixSampleIdeal.τ).loc Cert.MixSampleIdeal.main_arg12)) :
    Cert.MixSampleRefIdeal.Read.val_main_v61 (F := Ideal) (m' ((c.tc : Thread Cert.MixSampleRefIdeal.nD Cert.MixSampleRefIdeal.τ).loc Cert.MixSampleRefIdeal.main_arg0)) (m' ((c.tc : Thread Cert.MixSampleRefIdeal.nD Cert.MixSampleRefIdeal.τ).loc Cert.MixSampleRefIdeal.main_arg1)) (m' ((c.tc : Thread Cert.MixSampleRefIdeal.nD Cert.MixSampleRefIdeal.τ).loc Cert.MixSampleRefIdeal.main_arg2)) (m' ((c.tc : Thread Cert.MixSampleRefIdeal.nD Cert.MixSampleRefIdeal.τ).loc Cert.MixSampleRefIdeal.main_arg3)) (m' ((c.tc : Thread Cert.MixSampleRefIdeal.nD Cert.MixSampleRefIdeal.τ).loc Cert.MixSampleRefIdeal.main_arg4)) (m' ((c.tc : Thread Cert.MixSampleRefIdeal.nD Cert.MixSampleRefIdeal.τ).loc Cert.MixSampleRefIdeal.main_arg5)) (m' ((c.tc : Thread Cert.MixSampleRefIdeal.nD Cert.MixSampleRefIdeal.τ).loc Cert.MixSampleRefIdeal.main_arg6)) (m' ((c.tc : Thread Cert.MixSampleRefIdeal.nD Cert.MixSampleRefIdeal.τ).loc Cert.MixSampleRefIdeal.main_arg7)) (m' ((c.tc : Thread Cert.MixSampleRefIdeal.nD Cert.MixSampleRefIdeal.τ).loc Cert.MixSampleRefIdeal.main_arg8)) (m' ((c.tc : Thread Cert.MixSampleRefIdeal.nD Cert.MixSampleRefIdeal.τ).loc Cert.MixSampleRefIdeal.main_arg9)) (m' ((c.tc : Thread Cert.MixSampleRefIdeal.nD Cert.MixSampleRefIdeal.τ).loc Cert.MixSampleRefIdeal.main_arg10)) (m' ((c.tc : Thread Cert.MixSampleRefIdeal.nD Cert.MixSampleRefIdeal.τ).loc Cert.MixSampleRefIdeal.main_arg11)) (m' ((c.tc : Thread Cert.MixSampleRefIdeal.nD Cert.MixSampleRefIdeal.τ).loc Cert.MixSampleRefIdeal.main_arg12)) = (Cert.MixSampleIdeal.Gen.dats m 0 c).arrAt 13 Cert.MixSampleIdeal.cfg0.N := by
  obtain ⟨h0, h1, h2, h3, h4, h5, h6, h7, h8, h9, h10, h11, h12⟩ := h
  rw [h0, h1, h2, h3, h4, h5, h6, h7, h8, h9, h10, h11, h12]
  refine Eq.trans ?_ (Cert.MixSampleIdeal.MixValue.final m c).symm
  funext i
  obtain ⟨r, j, rfl⟩ : ∃ r j, i = ix2 r j := ⟨i 0, i 1, eq_ix2 i⟩
  exact Cert.MixSampleRefIdeal.RefValue.result_at _ _ _ _ _ _ _ _ _ _ _ _ _ r j
set_option maxHeartbeats 4000000 in
/-- The kernel and the reference, run from equal arguments, leave equal results. -/
theorem algebraic : Cert.algebraic_MixSampleIdeal_MixSampleRefIdeal
    (hMixSampleIdeal := Cert.MixSampleIdeal.Gen.facts) (hMixSampleRefIdeal := Cert.MixSampleRefIdeal.Gen.facts) := by
  intro m g m' g' _ hargs
  refine ⟨fun c => (Cert.MixSampleIdeal.Gen.dats m 0 c).arrAt 13 Cert.MixSampleIdeal.cfg0.N, ?_, ?_⟩
  · exact Cert.MixSampleIdeal.Value.run_blocks m g
  · refine (θ_run Cert.MixSampleRefIdeal.defs _ _).mono (fun r h c => ?_) (Cert.MixSampleRefIdeal.Value.run (F := Ideal) m' g')
    obtain ⟨e13, hk⟩ := h c
    have ha := hargs c
    refine ⟨e13.trans ?_, hk⟩
    · exact Eq.trans (Cert.MixSampleRefIdeal.Read.val_main_v61_eq m' c) (same13 m m' c ha)

end Cert.MixSampleClaim

end

end
-- ==== Proof.ProjSampleReference.lean ====
/- What the plain program of the projections computes, result by result. -/
module

public import proofs.«01_k».proof.Proof.Gen.ProjSampleRefIdeal.Read
public import proofs.«01_k».proof.Proof.ProjRows
public import proofs.«01_k».proof.Proof.SampleRows

@[expose] public section

set_option maxRecDepth 16384

noncomputable section

namespace Cert.ProjSampleRefIdeal.RefValue

open Idealize.ShloMosaic Idealize.ShloMosaic.TcCoe Idealize.SL.Sem
open Cert.ProjSampleRefIdeal Cert.ProjSampleRefIdeal.Read

variable (x0 : (⟨S32x8x1024, .f32⟩ : BufTy).Contents (Elt Ideal)) (x1 : (⟨S1x1024x5136, .f32⟩ : BufTy).Contents (Elt Ideal))
  (x2 : (⟨S1x16x256, .f32⟩ : BufTy).Contents (Elt Ideal)) (x3 : (⟨S1x256, .f32⟩ : BufTy).Contents (Elt Ideal))
  (x4 : (⟨S1x1024, .f32⟩ : BufTy).Contents (Elt Ideal))

/-- Every column of the projections. -/
theorem lane_at (b : Fin 32) (s : Fin 8) (j : Fin 5136) : val_main_v15 (F := Ideal) x0 x1 x4 (ix3 b s j) =
    Rows.lane (fun k => x0 (ix3 b s k)) x1 x4 j := by
  unfold Rows.lane Rows.rms
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, dot_S32x8x1024_S1024x5136_S32x8x5136_2_0_01_1_n_n]

/-- The attention's queries, keys and values. -/
theorem v35_at (r : Fin 256) (j : Fin 512) : val_main_v35 (F := Ideal) x0 x1 x4 (ix2 r j) =
    Rows.lane (Rows.sampleRow x0 r) x1 x4 (Rows.col 0 j (by decide)) := by
  rw [show Rows.col 0 j _ = ⟨j.val, by omega⟩ from Fin.ext (Nat.zero_add _)]
  unfold Rows.sampleRow; rw [← lane_at]
  pointwise [val_main_v35, val_main_v16]

theorem v36_at (r : Fin 256) (j : Fin 512) : val_main_v36 (F := Ideal) x0 x1 x4 (ix2 r j) =
    Rows.lane (Rows.sampleRow x0 r) x1 x4 (Rows.col 512 j (by decide)) := by
  unfold Rows.sampleRow; rw [← lane_at]
  pointwise [val_main_v36, val_main_v17]

theorem v37_at (r : Fin 256) (j : Fin 512) : val_main_v37 (F := Ideal) x0 x1 x4 (ix2 r j) =
    Rows.lane (Rows.sampleRow x0 r) x1 x4 (Rows.col 1024 j (by decide)) := by
  unfold Rows.sampleRow; rw [← lane_at]
  pointwise [val_main_v37, val_main_v18]

/-- The recurrence's queries, keys, values and output gate. -/
theorem v38_at (r : Fin 256) (j : Fin 256) : val_main_v38 (F := Ideal) x0 x1 x4 (ix2 r j) =
    Rows.lane (Rows.sampleRow x0 r) x1 x4 (Rows.col 1536 j (by decide)) := by
  unfold Rows.sampleRow; rw [← lane_at]
  pointwise [val_main_v38, val_main_v19]

theorem v39_at (r : Fin 256) (j : Fin 256) : val_main_v39 (F := Ideal) x0 x1 x4 (ix2 r j) =
    Rows.lane (Rows.sampleRow x0 r) x1 x4 (Rows.col 1792 j (by decide)) := by
  unfold Rows.sampleRow; rw [← lane_at]
  pointwise [val_main_v39, val_main_v20]

theorem v40_at (r : Fin 256) (j : Fin 512) : val_main_v40 (F := Ideal) x0 x1 x4 (ix2 r j) =
    Rows.lane (Rows.sampleRow x0 r) x1 x4 (Rows.col 2048 j (by decide)) := by
  unfold Rows.sampleRow; rw [← lane_at]
  pointwise [val_main_v40, val_main_v21]

theorem v41_at (r : Fin 256) (j : Fin 512) : val_main_v41 (F := Ideal) x0 x1 x4 (ix2 r j) =
    Rows.lane (Rows.sampleRow x0 r) x1 x4 (Rows.col 2560 j (by decide)) := by
  unfold Rows.sampleRow; rw [← lane_at]
  pointwise [val_main_v41, val_main_v22]

/-- The decay's sixteen columns through the small matrix, with the bias. -/
theorem logit_at (b : Fin 32) (s : Fin 8) (j : Fin 256) : val_main_v31 (F := Ideal) x0 x1 x2 x3 x4 (ix3 b s j) =
    ∑ k : Fin 16, Rows.lane (fun k => x0 (ix3 b s k)) x1 x4 ⟨3072 + k.val, by omega⟩ * x2 (ix3 0 k j) + x3 (ix2 0 j) := by
  simp only [← lane_at]
  pointwise [val_main_v31, val_main_v30, val_main_v29, val_main_v28, val_main_v27, val_main_v26, val_main_v23,
    dot_S32x8x16_S16x256_S32x8x256_2_0_01_1_n_n]

/-- The log decay, from its logit. -/
theorem decay_at (r : Fin 256) (j : Fin 256) : val_main_v42 (F := Ideal) x0 x1 x2 x3 x4 (ix2 r j) =
    Rows.decay (val_main_v31 (F := Ideal) x0 x1 x2 x3 x4 (ix3 ⟨r.val / 8, by omega⟩ ⟨r.val % 8, by omega⟩ j)) := by
  have e : ∀ a : EReal, Rows.decay a = Ideal.div (-(if -a ≠ -a then -a else max (-a) 0 + Ideal.log1p (Ideal.exp
      (-FloatOps.absf (F := Ideal) (φ := .f32) (-a))))) (Ideal.ofBits .f32 0x41800000#32) := fun a => by
    rw [if_neg (by simp), Ideal.absf_def, neg_neg, max_comm (-a) a]; rfl
  rw [e]
  pointwise [val_main_v42, val_main_v34, val_main_v33, val_main_v32, val_main_call0_v1, val_main_call0_v0,
    val_main_call0_call0_v0, val_main_call0_call0_v1, val_main_call0_call0_v2, val_main_call0_call0_v3,
    val_main_call0_call0_v4, val_main_call0_call0_v5, val_main_call0_call0_v6, val_main_call0_call0_v7,
    val_main_call0_call0_v8, val_main_call0_call0_v9, val_main_call0_call0_v10, val_main_call0_call0_v11,
    val_main_call0_call0_cst, val_main_cst_2]

theorem v42_at (r : Fin 256) (j : Fin 256) : val_main_v42 (F := Ideal) x0 x1 x2 x3 x4 (ix2 r j) =
    Rows.decayAt (Rows.sampleRow x0 r) x1 x2 x3 x4 j := by
  rw [decay_at, logit_at]; rfl

theorem v50_at (r : Fin 256) (j : Fin 1024) : val_main_v50 (F := Ideal) x0 x1 x4 (ix2 r j) =
    Rows.gate (Rows.lane (Rows.sampleRow x0 r) x1 x4 (Rows.col 3088 j (by decide))) := by
  unfold Rows.sampleRow Rows.gate; rw [← lane_at]
  pointwise [val_main_v50, val_main_v49, val_main_v48, val_main_v47, val_main_v46, val_main_v45, val_main_v44, val_main_v43,
    val_main_v24, val_main_cst_3, val_main_cst_4]

theorem v58_at (r : Fin 256) (j : Fin 1024) : val_main_v58 (F := Ideal) x0 x1 x4 (ix2 r j) =
    Rows.gate (Rows.lane (Rows.sampleRow x0 r) x1 x4 (Rows.col 4112 j (by decide))) := by
  unfold Rows.sampleRow Rows.gate; rw [← lane_at]
  pointwise [val_main_v58, val_main_v57, val_main_v56, val_main_v55, val_main_v54, val_main_v53, val_main_v52, val_main_v51,
    val_main_v25, val_main_cst_5, val_main_cst_6]

end Cert.ProjSampleRefIdeal.RefValue

end
-- ==== Proof.ProjSampleTile.lean ====
/- The one tile of the projections' kernel on the sample batch, value by value, and the arrays that its host code prepares. -/
module

public import proofs.«01_k».proof.Proof.Gen.ProjSampleIdeal.Value
public import proofs.«01_k».proof.Proof.ProjRows
public import proofs.«01_k».proof.Proof.SampleRows

@[expose] public section

set_option maxRecDepth 16384

noncomputable section

namespace Cert.ProjSampleIdeal.ProjValue

open Idealize.ShloMosaic Idealize.ShloMosaic.TcCoe Idealize.SL.Sem
open Idealize.ShloMosaic.Pipeline (Dat)
open Cert.ProjSampleIdeal Cert.ProjSampleIdeal.Gen

/-- The tile's rows, normalised, under the gain. -/
theorem normed_at (v0 : Vec Ideal S256x1024 .f32) (v2 : Vec Ideal S1x1024 .f32) (r : Fin 256) (k : Fin 1024) :
    k0_pay2 v0 v2 (ix2 r k) =
      Rows.rms (Ideal.ofBits .f32 0x44800000#32) (Ideal.ofBits .f32 0x358637BD#32) (fun k => v0 (ix2 r k)) k * v2 (ix2 0 k) := by
  unfold Rows.rms
  pointwise [k0_pay2]

/-- A product of the normalised tile with a group of columns. -/
theorem pay3_at (v0 : Vec Ideal S256x1024 .f32) (v2 : Vec Ideal S1x1024 .f32) (w : Vec Ideal S1024x512 .bf16)
    (r : Fin 256) (j : Fin 512) : k0_pay3 v0 v2 w (ix2 r j) = ∑ k, k0_pay2 v0 v2 (ix2 r k) * w (ix2 k j) := by
  pointwise [k0_pay3, dot_S256x1024_S1024x512_S256x512_1_0_0_1_n_n]
theorem pay4_at (v0 : Vec Ideal S256x1024 .f32) (v2 : Vec Ideal S1x1024 .f32) (w : Vec Ideal S1024x512 .bf16)
    (r : Fin 256) (j : Fin 512) : k0_pay4 v0 v2 w (ix2 r j) = ∑ k, k0_pay2 v0 v2 (ix2 r k) * w (ix2 k j) := by
  pointwise [k0_pay4, dot_S256x1024_S1024x512_S256x512_1_0_0_1_n_n]
theorem pay5_at (v0 : Vec Ideal S256x1024 .f32) (v2 : Vec Ideal S1x1024 .f32) (w : Vec Ideal S1024x512 .bf16)
    (r : Fin 256) (j : Fin 512) : k0_pay5 v0 v2 w (ix2 r j) = ∑ k, k0_pay2 v0 v2 (ix2 r k) * w (ix2 k j) := by
  pointwise [k0_pay5, dot_S256x1024_S1024x512_S256x512_1_0_0_1_n_n]
theorem pay7_at (h : FVec Ideal S256x1024 .bf16) (w : Vec Ideal S1024x256 .bf16) (r : Fin 256) (j : Fin 256) :
    k0_pay7 h w (ix2 r j) = ∑ k, h (ix2 r k) * w (ix2 k j) := by
  pointwise [k0_pay7, dot_S256x1024_S1024x256_S256x256_1_0_0_1_n_n]
theorem pay8_at (h : FVec Ideal S256x1024 .bf16) (w : Vec Ideal S1024x256 .bf16) (r : Fin 256) (j : Fin 256) :
    k0_pay8 h w (ix2 r j) = ∑ k, h (ix2 r k) * w (ix2 k j) := by
  pointwise [k0_pay8, dot_S256x1024_S1024x256_S256x256_1_0_0_1_n_n]
theorem pay9_at (h : FVec Ideal S256x1024 .bf16) (w : Vec Ideal S1024x512 .bf16) (r : Fin 256) (j : Fin 512) :
    k0_pay9 h w (ix2 r j) = ∑ k, h (ix2 r k) * w (ix2 k j) := by
  pointwise [k0_pay9, dot_S256x1024_S1024x512_S256x512_1_0_0_1_n_n]
theorem pay10_at (h : FVec Ideal S256x1024 .bf16) (w : Vec Ideal S1024x512 .bf16) (r : Fin 256) (j : Fin 512) :
    k0_pay10 h w (ix2 r j) = ∑ k, h (ix2 r k) * w (ix2 k j) := by
  pointwise [k0_pay10, dot_S256x1024_S1024x512_S256x512_1_0_0_1_n_n]
theorem pay11_at (h : FVec Ideal S256x1024 .bf16) (w : Vec Ideal S1024x128 .bf16) (r : Fin 256) (j : Fin 128) :
    k0_pay11 h w (ix2 r j) = ∑ k, h (ix2 r k) * w (ix2 k j) := by
  pointwise [k0_pay11, dot_S256x1024_S1024x128_S256x128_1_0_0_1_n_n]

/-- The two gates. -/
theorem pay14_at (h : FVec Ideal S256x1024 .bf16) (w : Vec Ideal S1024x1024 .bf16) (r : Fin 256) (j : Fin 1024) :
    k0_pay14 h w (ix2 r j) = Rows.gate (∑ k, h (ix2 r k) * w (ix2 k j)) := by
  unfold Rows.gate; simp only [← zero_sub]
  pointwise [k0_pay14, dot_S256x1024_S1024x1024_S256x1024_1_0_0_1_n_n]
theorem pay1_at (h : FVec Ideal S256x1024 .bf16) (w : Vec Ideal S1024x1024 .bf16) (r : Fin 256) (j : Fin 1024) :
    k0_pay1 (k0_pay15 h w) k0_pay16 (ix2 r j) = Rows.gate (∑ k, h (ix2 r k) * w (ix2 k j)) := by
  unfold Rows.gate; simp only [← zero_sub]
  pointwise [k0_pay1, k0_pay15, k0_pay16, dot_S256x1024_S1024x1024_S256x1024_1_0_0_1_n_n]

/-- The log decay: 128 columns through 128 rows. -/
theorem pay13_at (h : FVec Ideal S256x128 .bf16) (u : Vec Ideal S128x256 .bf16) (b : Vec Ideal S1x256 .f32)
    (r : Fin 256) (j : Fin 256) :
    k0_pay13 h (k0_pay12 u) (constant S256x256 .f32 0x00000000#32) b (ix2 r j) =
      Rows.decay (∑ l, h (ix2 r l) * u (ix2 l j) + b (ix2 0 j)) := by
  rw [← Rows.decay_eq]; simp only [← Ideal.absf_def (φ := .f32)]
  pointwise [k0_pay13, k0_pay12, dot_S256x128_S128x256_S256x256_1_0_0_1_n_n]

variable (m : (ℓ : Loc nD τ sig) → Buf (Elt Ideal) ℓ) (c : Dev nD)

/-- The rows as the region finds them. -/
theorem V_main_v0 (r : Fin 256) (k : Fin 1024) : V m c main_v0 (ix2 r k) =
    Rows.sampleRow (m ((c : Thread nD τ).loc main_arg0)) r k := by
  unfold Rows.sampleRow
  show StableHlo.after (List.flatten [hostOps0, hostOps0_1, hostOps0_2, hostOps0_3, hostOps0_4]) _ (Proc.devRef .tc main_v0) _ = _
  simp only [hostOps0, hostOps0_1, hostOps0_2, hostOps0_3, hostOps0_4, List.flatten_cons, List.flatten_nil, List.append_nil,
    List.cons_append, List.nil_append]
  after_results
  pointwise
/-- The wide matrix's first 3072 columns. -/
theorem V_main_v3 (k : Fin 1024) (j : Fin 3072) : V m c main_v3 (ix2 k j) =
    m ((c : Thread nD τ).loc main_arg1) (ix3 0 k ⟨j.val, by omega⟩) := by
  show StableHlo.after (List.flatten [hostOps0, hostOps0_1, hostOps0_2, hostOps0_3, hostOps0_4]) _ (Proc.devRef .tc main_v3) _ = _
  simp only [hostOps0, hostOps0_1, hostOps0_2, hostOps0_3, hostOps0_4, List.flatten_cons, List.flatten_nil, List.append_nil,
    List.cons_append, List.nil_append]
  after_results
  pointwise
/-- Its last 2048 columns. -/
theorem V_main_v10 (k : Fin 1024) (j : Fin 2048) : V m c main_v10 (ix2 k j) =
    m ((c : Thread nD τ).loc main_arg1) (ix3 0 k ⟨3088 + j.val, by omega⟩) := by
  show StableHlo.after (List.flatten [hostOps0, hostOps0_1, hostOps0_2, hostOps0_3, hostOps0_4]) _ (Proc.devRef .tc main_v10) _ = _
  simp only [hostOps0, hostOps0_1, hostOps0_2, hostOps0_3, hostOps0_4, List.flatten_cons, List.flatten_nil, List.append_nil,
    List.cons_append, List.nil_append]
  after_results
  pointwise
/-- The padding value, an integer zero made a float, is zero. -/
theorem int_zero : (FloatOps.sitofp FTy.f32 (0#32) : Ideal .f32) = (0 : EReal) := by
  show (((0#32 : BitVec 32).toInt : ℝ) : EReal) = 0
  simp

/-- The sixteen columns between, and zeros. -/
theorem V_main_v7 (k : Fin 1024) (j : Fin 128) : V m c main_v7 (ix2 k j) =
    if h : j.val < 16 then (m ((c : Thread nD τ).loc main_arg1) (ix3 0 k ⟨3072 + j.val, by omega⟩) : EReal) else (0 : EReal) := by
  show StableHlo.after (List.flatten [hostOps0, hostOps0_1, hostOps0_2, hostOps0_3, hostOps0_4]) _ (Proc.devRef .tc main_v7) _ = _
  simp only [hostOps0, hostOps0_1, hostOps0_2, hostOps0_3, hostOps0_4, List.flatten_cons, List.flatten_nil, List.append_nil,
    List.cons_append, List.nil_append]
  after_results
  pointwise
  show pad (α := EReal) S1024x128 ![0, 0] ![0, 112] ![0, 0] (fun i : S1024x16.Idx => m (c, Proc.tc.devRef main_arg1)
    (ix3 0 (i 0) ⟨3072 + (i 1).val, by have := (i 1).isLt; change _ < 16 at this; omega⟩))
    (sitofp (F := Ideal) .f32 (constantI S_ 32 0#32)) pads_S1024x16_S1024x128_000_01120 h_S_ (ix2 k j) = _
  pointwise
  rw [int_zero]
/-- The small matrix's sixteen rows, and zeros. -/
theorem V_main_v13 (k : Fin 128) (j : Fin 256) : V m c main_v13 (ix2 k j) =
    if h : k.val < 16 then (m ((c : Thread nD τ).loc main_arg2) (ix3 0 ⟨k.val, h⟩ j) : EReal) else (0 : EReal) := by
  show StableHlo.after (List.flatten [hostOps0, hostOps0_1, hostOps0_2, hostOps0_3, hostOps0_4]) _ (Proc.devRef .tc main_v13) _ = _
  simp only [hostOps0, hostOps0_1, hostOps0_2, hostOps0_3, hostOps0_4, List.flatten_cons, List.flatten_nil, List.append_nil,
    List.cons_append, List.nil_append]
  after_results
  pointwise
  show pad (α := EReal) S128x256 ![0, 0] ![112, 0] ![0, 0] (fun i : S16x256.Idx => m (c, Proc.tc.devRef main_arg2)
    (ix3 0 (i 0) (i 1)))
    (sitofp (F := Ideal) .f32 (constantI S_ 32 0#32)) pads_S16x256_S128x256_01120_000 h_S_ (ix2 k j) = _
  pointwise
  rw [int_zero]
/-- The bias. -/
theorem V_main_v15 (j : Fin 256) : V m c main_v15 (ix2 0 j) = m ((c : Thread nD τ).loc main_arg3) (ix2 0 j) := by
  show StableHlo.after (List.flatten [hostOps0, hostOps0_1, hostOps0_2, hostOps0_3, hostOps0_4]) _ (Proc.devRef .tc main_v15) _ = _
  simp only [hostOps0, hostOps0_1, hostOps0_2, hostOps0_3, hostOps0_4, List.flatten_cons, List.flatten_nil, List.append_nil,
    List.cons_append, List.nil_append]
  after_results
  pointwise
/-- The gain. -/
theorem V_main_v17 (j : Fin 1024) : V m c main_v17 (ix2 0 j) = m ((c : Thread nD τ).loc main_arg4) (ix2 0 j) := by
  show StableHlo.after (List.flatten [hostOps0, hostOps0_1, hostOps0_2, hostOps0_3, hostOps0_4]) _ (Proc.devRef .tc main_v17) _ = _
  simp only [hostOps0, hostOps0_1, hostOps0_2, hostOps0_3, hostOps0_4, List.flatten_cons, List.flatten_nil, List.append_nil,
    List.cons_append, List.nil_append]
  after_results
  pointwise

end Cert.ProjSampleIdeal.ProjValue

end
-- ==== Proof.ProjSampleValue.lean ====
/- What the kernel of the projections leaves in its ten result arrays of the sample batch. The grid has one point, whose
   tile is all 256 rows. -/
module

public import proofs.«01_k».proof.Proof.ProjSampleTile

@[expose] public section

set_option maxRecDepth 16384

noncomputable section

namespace Cert.ProjSampleIdeal.ProjValue

open Idealize.ShloMosaic Idealize.ShloMosaic.TcCoe Idealize.SL.Sem
open Idealize.ShloMosaic.Pipeline (Dat)
open Cert.ProjSampleIdeal Cert.ProjSampleIdeal.Gen

variable (m : (ℓ : Loc nD τ sig) → Buf (Elt Ideal) ℓ) (c : Dev nD)

theorem index0 : ∀ t : Fin cfg0.N, win0_0.index t = ![0, 0] :=
  (by decide +kernel : ∀ t : Fin grid0.N, _)
theorem index1 : ∀ t : Fin cfg0.N, win0_1.index t = ![0, 0] :=
  (by decide +kernel : ∀ t : Fin grid0.N, _)
theorem index2 : ∀ t : Fin cfg0.N, win0_2.index t = ![0, 0] :=
  (by decide +kernel : ∀ t : Fin grid0.N, _)
theorem index3 : ∀ t : Fin cfg0.N, win0_3.index t = ![0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![0, 0] :=
  (by decide +kernel : ∀ t : Fin grid0.N, _)
theorem index7 : ∀ t : Fin cfg0.N, win0_7.index t = ![0, 0] :=
  (by decide +kernel : ∀ t : Fin grid0.N, _)
theorem index8 : ∀ t : Fin cfg0.N, win0_8.index t = ![0, 0] :=
  (by decide +kernel : ∀ t : Fin grid0.N, _)
theorem index9 : ∀ t : Fin cfg0.N, win0_9.index t = ![0, 0] :=
  (by decide +kernel : ∀ t : Fin grid0.N, _)
theorem index10 : ∀ t : Fin cfg0.N, win0_10.index t = ![0, 0] :=
  (by decide +kernel : ∀ t : Fin grid0.N, _)
theorem index11 : ∀ t : Fin cfg0.N, win0_11.index t = ![0, 0] :=
  (by decide +kernel : ∀ t : Fin grid0.N, _)
theorem index12 : ∀ t : Fin cfg0.N, win0_12.index t = ![0, 0] :=
  (by decide +kernel : ∀ t : Fin grid0.N, _)
theorem index13 : ∀ t : Fin cfg0.N, win0_13.index t = ![0, 0] :=
  (by decide +kernel : ∀ t : Fin grid0.N, _)
theorem index14 : ∀ t : Fin cfg0.N, win0_14.index t = ![0, 0] :=
  (by decide +kernel : ∀ t : Fin grid0.N, _)
theorem index15 : ∀ t : Fin cfg0.N, win0_15.index t = ![0, 0] :=
  (by decide +kernel : ∀ t : Fin grid0.N, _)
theorem index16 : ∀ t : Fin cfg0.N, win0_16.index t = ![0, 0] :=
  (by decide +kernel : ∀ t : Fin grid0.N, _)
theorem block0 (t : Fin cfg0.N) (r : Fin 256) (k : Fin 1024) :
    iblk m c 0 t (ix2 r k) = Rows.sampleRow (m ((c : Thread nD τ).loc main_arg0)) r k := by
  refine Eq.trans ?_ (V_main_v0 m c r k)
  blk_ext [iblk, index0 t]
theorem block1 (t : Fin cfg0.N) (k : Fin 1024) : iblk m c 1 t (ix2 0 k) = m ((c : Thread nD τ).loc main_arg4) (ix2 0 k) := by
  refine Eq.trans ?_ (V_main_v17 m c k)
  blk_ext [iblk, index1 t]
theorem block2 (t : Fin cfg0.N) (k : Fin 1024) (j : Fin 3072) :
    iblk m c 2 t (ix2 k j) = m ((c : Thread nD τ).loc main_arg1) (ix3 0 k ⟨j.val, by omega⟩) := by
  refine Eq.trans ?_ (V_main_v3 m c k j)
  blk_ext [iblk, index2 t]
theorem block3 (t : Fin cfg0.N) (k : Fin 1024) (j : Fin 128) : iblk m c 3 t (ix2 k j) =
    if h : j.val < 16 then (m ((c : Thread nD τ).loc main_arg1) (ix3 0 k ⟨3072 + j.val, by omega⟩) : EReal) else (0 : EReal) := by
  refine Eq.trans ?_ (V_main_v7 m c k j)
  blk_ext [iblk, index3 t]
theorem block4 (t : Fin cfg0.N) (k : Fin 1024) (j : Fin 2048) :
    iblk m c 4 t (ix2 k j) = m ((c : Thread nD τ).loc main_arg1) (ix3 0 k ⟨3088 + j.val, by omega⟩) := by
  refine Eq.trans ?_ (V_main_v10 m c k j)
  blk_ext [iblk, index4 t]
theorem block5 (t : Fin cfg0.N) (k : Fin 128) (j : Fin 256) : iblk m c 5 t (ix2 k j) =
    if h : k.val < 16 then (m ((c : Thread nD τ).loc main_arg2) (ix3 0 ⟨k.val, h⟩ j) : EReal) else (0 : EReal) := by
  refine Eq.trans ?_ (V_main_v13 m c k j)
  blk_ext [iblk, index5 t]
theorem block6 (t : Fin cfg0.N) (j : Fin 256) : iblk m c 6 t (ix2 0 j) = m ((c : Thread nD τ).loc main_arg3) (ix2 0 j) := by
  refine Eq.trans ?_ (V_main_v15 m c j)
  blk_ext [iblk, index6 t]

/-- A group of columns, `o` columns into window 2's block. -/
theorem cols_wide (t : Fin cfg0.N) (o w : ℕ) (h : ∀ a, (![0, o] : Fin 2 → ℕ) a + (![1024, w] : Fin 2 → ℕ) a ≤ S1024x3072.size a)
    (k : Fin 1024) (j : Fin w) (q : Fin 5136) (hq : q.val = 0 + o + j.val) :
    View.ld (iblk m c 2 t) (Rect.unit (s := S1024x3072) ![0, o] ![1024, w] h) (ix2 k j) =
      m ((c : Thread nD τ).loc main_arg1) (ix3 0 k q) := by
  have hj : o + j.val < 3072 := by have h1 : o + w ≤ 3072 := h 1; have := j.isLt; omega
  refine Eq.trans (b := iblk m c 2 t (ix2 k ⟨o + j.val, hj⟩)) ?_ ?_
  · refine View.ld_unit_apply_of _ _ _ _ _ _ fun a => ?_
    match a with
    | ⟨0, _⟩ => exact (Nat.zero_add _).symm
    | ⟨1, _⟩ => rfl
  · rw [block2]
    exact congrArg (fun q => m ((c : Thread nD τ).loc main_arg1) (ix3 0 k q)) (Fin.ext (by show o + j.val = q.val; omega))

/-- A group of columns, `o` columns into window 4's block. -/
theorem cols_gates (t : Fin cfg0.N) (o w : ℕ) (h : ∀ a, (![0, o] : Fin 2 → ℕ) a + (![1024, w] : Fin 2 → ℕ) a ≤ S1024x2048.size a)
    (k : Fin 1024) (j : Fin w) (q : Fin 5136) (hq : q.val = 3088 + o + j.val) :
    View.ld (iblk m c 4 t) (Rect.unit (s := S1024x2048) ![0, o] ![1024, w] h) (ix2 k j) =
      m ((c : Thread nD τ).loc main_arg1) (ix3 0 k q) := by
  have hj : o + j.val < 2048 := by have h1 : o + w ≤ 2048 := h 1; have := j.isLt; omega
  refine Eq.trans (b := iblk m c 4 t (ix2 k ⟨o + j.val, hj⟩)) ?_ ?_
  · refine View.ld_unit_apply_of _ _ _ _ _ _ fun a => ?_
    match a with
    | ⟨0, _⟩ => exact (Nat.zero_add _).symm
    | ⟨1, _⟩ => rfl
  · rw [block4]
    exact congrArg (fun q => m ((c : Thread nD τ).loc main_arg1) (ix3 0 k q)) (Fin.ext (by show 3088 + (o + j.val) = q.val; omega))

/-- A column of the projections, summed over a normalised row. -/
theorem lane_tile (t : Fin cfg0.N) (r : Fin 256) (j : Fin 5136) (w : Fin 1024 → EReal)
    (hw : ∀ k, w k = m ((c : Thread nD τ).loc main_arg1) (ix3 0 k j)) :
    ∑ k, k0_pay2 (iblk m c 0 t) (iblk m c 1 t) (ix2 r k) * w k =
      Rows.lane (Rows.sampleRow (m ((c : Thread nD τ).loc main_arg0)) r) (m ((c : Thread nD τ).loc main_arg1)) (m ((c : Thread nD τ).loc main_arg4)) j := by
  simp only [normed_at, block0, block1, hw]
  rfl

/-- A sum over 128 whose terms from the seventeenth on are zero. -/
theorem sum_sixteen (f : Fin 128 → EReal) (h : ∀ l : Fin 128, ¬ l.val < 16 → f l = 0) :
    ∑ l, f l = ∑ k : Fin 16, f ⟨k.val, by omega⟩ := by
  have e := Fin.sum_univ_add (a := 16) (b := 112) f
  rw [show (∑ l, f l) = _ from e]
  rw [Finset.sum_eq_zero (s := Finset.univ) (f := fun i : Fin 112 => f (Fin.natAdd 16 i)) (fun i _ => h _ (by simp)), add_zero]
  rfl

/-- The sum that the log decay is taken of. -/
theorem logit_tile (t : Fin cfg0.N) (r : Fin 256) (j : Fin 256) :
    ∑ l, (∑ k, k0_pay2 (iblk m c 0 t) (iblk m c 1 t) (ix2 r k) * iblk m c 3 t (ix2 k l)) * iblk m c 5 t (ix2 l j) =
      ∑ l : Fin 16, Rows.lane (Rows.sampleRow (m ((c : Thread nD τ).loc main_arg0)) r) (m ((c : Thread nD τ).loc main_arg1)) (m ((c : Thread nD τ).loc main_arg4)) ⟨3072 + l.val, by omega⟩
        * (m ((c : Thread nD τ).loc main_arg2)) (ix3 0 l j) := by
  rw [sum_sixteen _ fun l hl => by rw [block5, dif_neg hl, mul_zero]]
  refine Finset.sum_congr rfl fun l _ => ?_
  rw [block5, dif_pos (show (⟨l.val, _⟩ : Fin 128).val < 16 from l.isLt),
    lane_tile m c t r ⟨3072 + l.val, by omega⟩ _ fun k => by rw [block3, dif_pos (show (⟨l.val, _⟩ : Fin 128).val < 16 from l.isLt)]]

/-- The attention's queries. -/
theorem final7 : (dats m 0 c).arrAt 7 cfg0.N = fun i => Rows.lane (Rows.sampleRow (m ((c : Thread nD τ).loc main_arg0)) (i 0)) (m ((c : Thread nD τ).loc main_arg1)) (m ((c : Thread nD τ).loc main_arg4)) (Rows.col (w := 512) 0 (i 1) (by decide)) := by
  refine (dats m 0 c).arrAt_eq_of_covers 7 _ (by decide +kernel) fun t hf y => ?_
  obtain ⟨r, j, rfl⟩ : ∃ (r : Fin 256) (j : Fin 512), y = (ix2 r j : S256x512.Idx) :=
    ⟨y 0, y 1, by funext a; match a with | ⟨0, _⟩ => rfl | ⟨1, _⟩ => rfl⟩
  have e : ((cfg0.win 7).blk t).view.emb (ix2 r j : S256x512.Idx) = (ix2 r j : S256x512.Idx) := by
    blk_ext [index7 t]
  rw [e]
  show (dats m 0 c).after 7 t (ix2 r j : S256x512.Idx) = Rows.lane (Rows.sampleRow (m ((c : Thread nD τ).loc main_arg0)) r) (m ((c : Thread nD τ).loc main_arg1)) (m ((c : Thread nD τ).loc main_arg4)) (Rows.col (w := 512) 0 j (by decide))
  rw [after0_7]
  unfold_out out0_7
  frame_out
  rw [pay3_at]
  exact lane_tile m c t r _ _ fun k => cols_wide m c t 0 512 _ k j _ rfl
/-- The attention's keys. -/
theorem final8 : (dats m 0 c).arrAt 8 cfg0.N = fun i => Rows.lane (Rows.sampleRow (m ((c : Thread nD τ).loc main_arg0)) (i 0)) (m ((c : Thread nD τ).loc main_arg1)) (m ((c : Thread nD τ).loc main_arg4)) (Rows.col (w := 512) 512 (i 1) (by decide)) := by
  refine (dats m 0 c).arrAt_eq_of_covers 8 _ (by decide +kernel) fun t hf y => ?_
  obtain ⟨r, j, rfl⟩ : ∃ (r : Fin 256) (j : Fin 512), y = (ix2 r j : S256x512.Idx) :=
    ⟨y 0, y 1, by funext a; match a with | ⟨0, _⟩ => rfl | ⟨1, _⟩ => rfl⟩
  have e : ((cfg0.win 8).blk t).view.emb (ix2 r j : S256x512.Idx) = (ix2 r j : S256x512.Idx) := by
    blk_ext [index8 t]
  rw [e]
  show (dats m 0 c).after 8 t (ix2 r j : S256x512.Idx) = Rows.lane (Rows.sampleRow (m ((c : Thread nD τ).loc main_arg0)) r) (m ((c : Thread nD τ).loc main_arg1)) (m ((c : Thread nD τ).loc main_arg4)) (Rows.col (w := 512) 512 j (by decide))
  rw [after0_8]
  unfold_out out0_8
  frame_out
  rw [pay4_at]
  exact lane_tile m c t r _ _ fun k => cols_wide m c t 512 512 _ k j _ rfl
/-- The attention's values. -/
theorem final9 : (dats m 0 c).arrAt 9 cfg0.N = fun i => Rows.lane (Rows.sampleRow (m ((c : Thread nD τ).loc main_arg0)) (i 0)) (m ((c : Thread nD τ).loc main_arg1)) (m ((c : Thread nD τ).loc main_arg4)) (Rows.col (w := 512) 1024 (i 1) (by decide)) := by
  refine (dats m 0 c).arrAt_eq_of_covers 9 _ (by decide +kernel) fun t hf y => ?_
  obtain ⟨r, j, rfl⟩ : ∃ (r : Fin 256) (j : Fin 512), y = (ix2 r j : S256x512.Idx) :=
    ⟨y 0, y 1, by funext a; match a with | ⟨0, _⟩ => rfl | ⟨1, _⟩ => rfl⟩
  have e : ((cfg0.win 9).blk t).view.emb (ix2 r j : S256x512.Idx) = (ix2 r j : S256x512.Idx) := by
    blk_ext [index9 t]
  rw [e]
  show (dats m 0 c).after 9 t (ix2 r j : S256x512.Idx) = Rows.lane (Rows.sampleRow (m ((c : Thread nD τ).loc main_arg0)) r) (m ((c : Thread nD τ).loc main_arg1)) (m ((c : Thread nD τ).loc main_arg4)) (Rows.col (w := 512) 1024 j (by decide))
  rw [after0_9]
  unfold_out out0_9
  frame_out
  rw [pay5_at]
  exact lane_tile m c t r _ _ fun k => cols_wide m c t 1024 512 _ k j _ rfl
/-- The recurrence's queries. -/
theorem final10 : (dats m 0 c).arrAt 10 cfg0.N = fun i => Rows.lane (Rows.sampleRow (m ((c : Thread nD τ).loc main_arg0)) (i 0)) (m ((c : Thread nD τ).loc main_arg1)) (m ((c : Thread nD τ).loc main_arg4)) (Rows.col (w := 256) 1536 (i 1) (by decide)) := by
  refine (dats m 0 c).arrAt_eq_of_covers 10 _ (by decide +kernel) fun t hf y => ?_
  obtain ⟨r, j, rfl⟩ : ∃ (r : Fin 256) (j : Fin 256), y = (ix2 r j : S256x256.Idx) :=
    ⟨y 0, y 1, by funext a; match a with | ⟨0, _⟩ => rfl | ⟨1, _⟩ => rfl⟩
  have e : ((cfg0.win 10).blk t).view.emb (ix2 r j : S256x256.Idx) = (ix2 r j : S256x256.Idx) := by
    blk_ext [index10 t]
  rw [e]
  show (dats m 0 c).after 10 t (ix2 r j : S256x256.Idx) = Rows.lane (Rows.sampleRow (m ((c : Thread nD τ).loc main_arg0)) r) (m ((c : Thread nD τ).loc main_arg1)) (m ((c : Thread nD τ).loc main_arg4)) (Rows.col (w := 256) 1536 j (by decide))
  rw [after0_10]
  unfold_out out0_10
  frame_out
  rw [pay7_at]
  exact lane_tile m c t r _ _ fun k => cols_wide m c t 1536 256 _ k j _ rfl
/-- The recurrence's keys. -/
theorem final11 : (dats m 0 c).arrAt 11 cfg0.N = fun i => Rows.lane (Rows.sampleRow (m ((c : Thread nD τ).loc main_arg0)) (i 0)) (m ((c : Thread nD τ).loc main_arg1)) (m ((c : Thread nD τ).loc main_arg4)) (Rows.col (w := 256) 1792 (i 1) (by decide)) := by
  refine (dats m 0 c).arrAt_eq_of_covers 11 _ (by decide +kernel) fun t hf y => ?_
  obtain ⟨r, j, rfl⟩ : ∃ (r : Fin 256) (j : Fin 256), y = (ix2 r j : S256x256.Idx) :=
    ⟨y 0, y 1, by funext a; match a with | ⟨0, _⟩ => rfl | ⟨1, _⟩ => rfl⟩
  have e : ((cfg0.win 11).blk t).view.emb (ix2 r j : S256x256.Idx) = (ix2 r j : S256x256.Idx) := by
    blk_ext [index11 t]
  rw [e]
  show (dats m 0 c).after 11 t (ix2 r j : S256x256.Idx) = Rows.lane (Rows.sampleRow (m ((c : Thread nD τ).loc main_arg0)) r) (m ((c : Thread nD τ).loc main_arg1)) (m ((c : Thread nD τ).loc main_arg4)) (Rows.col (w := 256) 1792 j (by decide))
  rw [after0_11]
  unfold_out out0_11
  frame_out
  rw [pay8_at]
  exact lane_tile m c t r _ _ fun k => cols_wide m c t 1792 256 _ k j _ rfl
/-- The recurrence's values. -/
theorem final12 : (dats m 0 c).arrAt 12 cfg0.N = fun i => Rows.lane (Rows.sampleRow (m ((c : Thread nD τ).loc main_arg0)) (i 0)) (m ((c : Thread nD τ).loc main_arg1)) (m ((c : Thread nD τ).loc main_arg4)) (Rows.col (w := 512) 2048 (i 1) (by decide)) := by
  refine (dats m 0 c).arrAt_eq_of_covers 12 _ (by decide +kernel) fun t hf y => ?_
  obtain ⟨r, j, rfl⟩ : ∃ (r : Fin 256) (j : Fin 512), y = (ix2 r j : S256x512.Idx) :=
    ⟨y 0, y 1, by funext a; match a with | ⟨0, _⟩ => rfl | ⟨1, _⟩ => rfl⟩
  have e : ((cfg0.win 12).blk t).view.emb (ix2 r j : S256x512.Idx) = (ix2 r j : S256x512.Idx) := by
    blk_ext [index12 t]
  rw [e]
  show (dats m 0 c).after 12 t (ix2 r j : S256x512.Idx) = Rows.lane (Rows.sampleRow (m ((c : Thread nD τ).loc main_arg0)) r) (m ((c : Thread nD τ).loc main_arg1)) (m ((c : Thread nD τ).loc main_arg4)) (Rows.col (w := 512) 2048 j (by decide))
  rw [after0_12]
  unfold_out out0_12
  frame_out
  rw [pay9_at]
  exact lane_tile m c t r _ _ fun k => cols_wide m c t 2048 512 _ k j _ rfl
/-- The recurrence's output gate. -/
theorem final13 : (dats m 0 c).arrAt 13 cfg0.N = fun i => Rows.lane (Rows.sampleRow (m ((c : Thread nD τ).loc main_arg0)) (i 0)) (m ((c : Thread nD τ).loc main_arg1)) (m ((c : Thread nD τ).loc main_arg4)) (Rows.col (w := 512) 2560 (i 1) (by decide)) := by
  refine (dats m 0 c).arrAt_eq_of_covers 13 _ (by decide +kernel) fun t hf y => ?_
  obtain ⟨r, j, rfl⟩ : ∃ (r : Fin 256) (j : Fin 512), y = (ix2 r j : S256x512.Idx) :=
    ⟨y 0, y 1, by funext a; match a with | ⟨0, _⟩ => rfl | ⟨1, _⟩ => rfl⟩
  have e : ((cfg0.win 13).blk t).view.emb (ix2 r j : S256x512.Idx) = (ix2 r j : S256x512.Idx) := by
    blk_ext [index13 t]
  rw [e]
  show (dats m 0 c).after 13 t (ix2 r j : S256x512.Idx) = Rows.lane (Rows.sampleRow (m ((c : Thread nD τ).loc main_arg0)) r) (m ((c : Thread nD τ).loc main_arg1)) (m ((c : Thread nD τ).loc main_arg4)) (Rows.col (w := 512) 2560 j (by decide))
  rw [after0_13]
  unfold_out out0_13
  frame_out
  rw [pay10_at]
  exact lane_tile m c t r _ _ fun k => cols_wide m c t 2560 512 _ k j _ rfl
/-- The log decay. -/
theorem final14 : (dats m 0 c).arrAt 14 cfg0.N = fun i => Rows.decayAt (Rows.sampleRow (m ((c : Thread nD τ).loc main_arg0)) (i 0)) (m ((c : Thread nD τ).loc main_arg1)) (m ((c : Thread nD τ).loc main_arg2)) (m ((c : Thread nD τ).loc main_arg3)) (m ((c : Thread nD τ).loc main_arg4)) (i 1) := by
  refine (dats m 0 c).arrAt_eq_of_covers 14 _ (by decide +kernel) fun t hf y => ?_
  obtain ⟨r, j, rfl⟩ : ∃ (r : Fin 256) (j : Fin 256), y = (ix2 r j : S256x256.Idx) :=
    ⟨y 0, y 1, by funext a; match a with | ⟨0, _⟩ => rfl | ⟨1, _⟩ => rfl⟩
  have e : ((cfg0.win 14).blk t).view.emb (ix2 r j : S256x256.Idx) = (ix2 r j : S256x256.Idx) := by
    blk_ext [index14 t]
  rw [e]
  show (dats m 0 c).after 14 t (ix2 r j : S256x256.Idx) = Rows.decayAt (Rows.sampleRow (m ((c : Thread nD τ).loc main_arg0)) r) (m ((c : Thread nD τ).loc main_arg1)) (m ((c : Thread nD τ).loc main_arg2)) (m ((c : Thread nD τ).loc main_arg3)) (m ((c : Thread nD τ).loc main_arg4)) j
  rw [after0_14]
  unfold_out out0_14
  frame_out
  rw [pay13_at]
  simp only [pay11_at]
  rw [logit_tile, block6]
  rfl
/-- The attention branch's gate. -/
theorem final15 : (dats m 0 c).arrAt 15 cfg0.N = fun i => Rows.gate (Rows.lane (Rows.sampleRow (m ((c : Thread nD τ).loc main_arg0)) (i 0)) (m ((c : Thread nD τ).loc main_arg1)) (m ((c : Thread nD τ).loc main_arg4)) (Rows.col (w := 1024) 3088 (i 1) (by decide))) := by
  refine (dats m 0 c).arrAt_eq_of_covers 15 _ (by decide +kernel) fun t hf y => ?_
  obtain ⟨r, j, rfl⟩ : ∃ (r : Fin 256) (j : Fin 1024), y = (ix2 r j : S256x1024.Idx) :=
    ⟨y 0, y 1, by funext a; match a with | ⟨0, _⟩ => rfl | ⟨1, _⟩ => rfl⟩
  have e : ((cfg0.win 15).blk t).view.emb (ix2 r j : S256x1024.Idx) = (ix2 r j : S256x1024.Idx) := by
    blk_ext [index15 t]
  rw [e]
  show (dats m 0 c).after 15 t (ix2 r j : S256x1024.Idx) = Rows.gate (Rows.lane (Rows.sampleRow (m ((c : Thread nD τ).loc main_arg0)) r) (m ((c : Thread nD τ).loc main_arg1)) (m ((c : Thread nD τ).loc main_arg4)) (Rows.col (w := 1024) 3088 j (by decide)))
  rw [after0_15]
  unfold_out out0_15
  frame_out
  rw [pay14_at]
  exact congrArg Rows.gate (lane_tile m c t r _ _ fun k => cols_gates m c t 0 1024 _ k j _ rfl)
/-- The recurrence branch's gate. -/
theorem final16 : (dats m 0 c).arrAt 16 cfg0.N = fun i => Rows.gate (Rows.lane (Rows.sampleRow (m ((c : Thread nD τ).loc main_arg0)) (i 0)) (m ((c : Thread nD τ).loc main_arg1)) (m ((c : Thread nD τ).loc main_arg4)) (Rows.col (w := 1024) 4112 (i 1) (by decide))) := by
  refine (dats m 0 c).arrAt_eq_of_covers 16 _ (by decide +kernel) fun t hf y => ?_
  obtain ⟨r, j, rfl⟩ : ∃ (r : Fin 256) (j : Fin 1024), y = (ix2 r j : S256x1024.Idx) :=
    ⟨y 0, y 1, by funext a; match a with | ⟨0, _⟩ => rfl | ⟨1, _⟩ => rfl⟩
  have e : ((cfg0.win 16).blk t).view.emb (ix2 r j : S256x1024.Idx) = (ix2 r j : S256x1024.Idx) := by
    blk_ext [index16 t]
  rw [e]
  show (dats m 0 c).after 16 t (ix2 r j : S256x1024.Idx) = Rows.gate (Rows.lane (Rows.sampleRow (m ((c : Thread nD τ).loc main_arg0)) r) (m ((c : Thread nD τ).loc main_arg1)) (m ((c : Thread nD τ).loc main_arg4)) (Rows.col (w := 1024) 4112 j (by decide)))
  rw [after0_16]
  unfold_out out0_16
  frame_out
  rw [pay1_at]
  exact congrArg Rows.gate (lane_tile m c t r _ _ fun k => cols_gates m c t 1024 1024 _ k j _ rfl)

end Cert.ProjSampleIdeal.ProjValue

end
-- ==== Proof.ProjSampleClaim.lean ====
/-
The projection call of the sample batch: each of the kernel's ten results is the reference's.
-/
module

public import proofs.«01_k».proof.Defs
public import proofs.«01_k».proof.Proof.Gen.ProjSampleIdeal.Value
public import proofs.«01_k».proof.Proof.Gen.ProjSampleRefIdeal.Run
public import proofs.«01_k».proof.Proof.Gen.ProjSampleRefIdeal.Read
public import proofs.«01_k».proof.Proof.ProjSampleReference
public import proofs.«01_k».proof.Proof.ProjSampleValue

@[expose] public section

set_option maxRecDepth 16384

noncomputable section

namespace Cert.ProjSampleClaim

open Idealize.ShloMosaic Idealize.ShloMosaic.TcCoe Idealize.SL.Sem
open Idealize.ShloMosaic.Pipeline (Dat)

/-- The array the kernel leaves for window 7 is what the reference computes as `main_v35`, when the
arguments are the same. -/
theorem same7 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v35 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 7 Cert.ProjSampleIdeal.cfg0.N := by
  obtain ⟨h0, h1, h2, h3, h4⟩ := h
  rw [h0, h1, h4]
  refine Eq.trans ?_ (Cert.ProjSampleIdeal.ProjValue.final7 m c).symm
  funext i
  obtain ⟨r, j, rfl⟩ : ∃ r j, i = ix2 r j := ⟨i 0, i 1, eq_ix2 i⟩
  exact Cert.ProjSampleRefIdeal.RefValue.v35_at _ _ _ r j
/-- The array the kernel leaves for window 8 is what the reference computes as `main_v36`, when the
arguments are the same. -/
theorem same8 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v36 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 8 Cert.ProjSampleIdeal.cfg0.N := by
  obtain ⟨h0, h1, h2, h3, h4⟩ := h
  rw [h0, h1, h4]
  refine Eq.trans ?_ (Cert.ProjSampleIdeal.ProjValue.final8 m c).symm
  funext i
  obtain ⟨r, j, rfl⟩ : ∃ r j, i = ix2 r j := ⟨i 0, i 1, eq_ix2 i⟩
  exact Cert.ProjSampleRefIdeal.RefValue.v36_at _ _ _ r j
/-- The array the kernel leaves for window 9 is what the reference computes as `main_v37`, when the
arguments are the same. -/
theorem same9 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v37 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 9 Cert.ProjSampleIdeal.cfg0.N := by
  obtain ⟨h0, h1, h2, h3, h4⟩ := h
  rw [h0, h1, h4]
  refine Eq.trans ?_ (Cert.ProjSampleIdeal.ProjValue.final9 m c).symm
  funext i
  obtain ⟨r, j, rfl⟩ : ∃ r j, i = ix2 r j := ⟨i 0, i 1, eq_ix2 i⟩
  exact Cert.ProjSampleRefIdeal.RefValue.v37_at _ _ _ r j
/-- The array the kernel leaves for window 10 is what the reference computes as `main_v38`, when the
arguments are the same. -/
theorem same10 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v38 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 10 Cert.ProjSampleIdeal.cfg0.N := by
  obtain ⟨h0, h1, h2, h3, h4⟩ := h
  rw [h0, h1, h4]
  refine Eq.trans ?_ (Cert.ProjSampleIdeal.ProjValue.final10 m c).symm
  funext i
  obtain ⟨r, j, rfl⟩ : ∃ r j, i = ix2 r j := ⟨i 0, i 1, eq_ix2 i⟩
  exact Cert.ProjSampleRefIdeal.RefValue.v38_at _ _ _ r j
/-- The array the kernel leaves for window 11 is what the reference computes as `main_v39`, when the
arguments are the same. -/
theorem same11 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v39 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 11 Cert.ProjSampleIdeal.cfg0.N := by
  obtain ⟨h0, h1, h2, h3, h4⟩ := h
  rw [h0, h1, h4]
  refine Eq.trans ?_ (Cert.ProjSampleIdeal.ProjValue.final11 m c).symm
  funext i
  obtain ⟨r, j, rfl⟩ : ∃ r j, i = ix2 r j := ⟨i 0, i 1, eq_ix2 i⟩
  exact Cert.ProjSampleRefIdeal.RefValue.v39_at _ _ _ r j
/-- The array the kernel leaves for window 12 is what the reference computes as `main_v40`, when the
arguments are the same. -/
theorem same12 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v40 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 12 Cert.ProjSampleIdeal.cfg0.N := by
  obtain ⟨h0, h1, h2, h3, h4⟩ := h
  rw [h0, h1, h4]
  refine Eq.trans ?_ (Cert.ProjSampleIdeal.ProjValue.final12 m c).symm
  funext i
  obtain ⟨r, j, rfl⟩ : ∃ r j, i = ix2 r j := ⟨i 0, i 1, eq_ix2 i⟩
  exact Cert.ProjSampleRefIdeal.RefValue.v40_at _ _ _ r j
/-- The array the kernel leaves for window 13 is what the reference computes as `main_v41`, when the
arguments are the same. -/
theorem same13 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v41 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 13 Cert.ProjSampleIdeal.cfg0.N := by
  obtain ⟨h0, h1, h2, h3, h4⟩ := h
  rw [h0, h1, h4]
  refine Eq.trans ?_ (Cert.ProjSampleIdeal.ProjValue.final13 m c).symm
  funext i
  obtain ⟨r, j, rfl⟩ : ∃ r j, i = ix2 r j := ⟨i 0, i 1, eq_ix2 i⟩
  exact Cert.ProjSampleRefIdeal.RefValue.v41_at _ _ _ r j
/-- The array the kernel leaves for window 14 is what the reference computes as `main_v42`, when the
arguments are the same. -/
theorem same14 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v42 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg2)) (m' ((c.tc : Thread Cert.ProjSampleRefIdeal.nD Cert.ProjSampleRefIdeal.τ).loc Cert.ProjSampleRefIdeal.main_arg3)) (m' ((c.tc : Thread Cert.ProjSampleRefIdeal.nD Cert.ProjSampleRefIdeal.τ).loc Cert.ProjSampleRefIdeal.main_arg4)) = (Cert.ProjSampleIdeal.Gen.dats m 0 c).arrAt 14 Cert.ProjSampleIdeal.cfg0.N := by
  obtain ⟨h0, h1, h2, h3, h4⟩ := h
  rw [h0, h1, h2, h3, h4]
  refine Eq.trans ?_ (Cert.ProjSampleIdeal.ProjValue.final14 m c).symm
  funext i
  obtain ⟨r, j, rfl⟩ : ∃ r j, i = ix2 r j := ⟨i 0, i 1, eq_ix2 i⟩
  exact Cert.ProjSampleRefIdeal.RefValue.v42_at _ _ _ _ _ r j
/-- The array the kernel leaves for window 15 is what the reference computes as `main_v50`, when the
arguments are the same. -/
theorem same15 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v50 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 15 Cert.ProjSampleIdeal.cfg0.N := by
  obtain ⟨h0, h1, h2, h3, h4⟩ := h
  rw [h0, h1, h4]
  refine Eq.trans ?_ (Cert.ProjSampleIdeal.ProjValue.final15 m c).symm
  funext i
  obtain ⟨r, j, rfl⟩ : ∃ r j, i = ix2 r j := ⟨i 0, i 1, eq_ix2 i⟩
  exact Cert.ProjSampleRefIdeal.RefValue.v50_at _ _ _ r j
/-- The array the kernel leaves for window 16 is what the reference computes as `main_v58`, when the
arguments are the same. -/
theorem same16 (m : (ℓ : Loc Cert.ProjSampleIdeal.nD Cert.ProjSampleIdeal.τ Cert.ProjSampleIdeal.sig) → Buf (Elt Ideal) ℓ)
    (m' : (ℓ : Loc Cert.ProjSampleRefIdeal.nD Cert.ProjSampleRefIdeal.τ Cert.ProjSampleRefIdeal.sig) → Buf (Elt Ideal) ℓ)
    (c : Dev Cert.ProjSampleIdeal.nD)
    (h : m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)
      ∧ m' ((c.tc : Thread Cert.ProjSampleRefIdeal.nD Cert.ProjSampleRefIdeal.τ).loc Cert.ProjSampleRefIdeal.main_arg4) = m ((c.tc : Thread Cert.ProjSampleIdeal.nD Cert.ProjSampleIdeal.τ).loc Cert.ProjSampleIdeal.main_arg4)) :
    Cert.ProjSampleRefIdeal.Read.val_main_v58 (F := Ideal) (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4)) = (Cert.ProjSampleIdeal.Gen.dats m 0 c).arrAt 16 Cert.ProjSampleIdeal.cfg0.N := by
  obtain ⟨h0, h1, h2, h3, h4⟩ := h
  rw [h0, h1, h4]
  refine Eq.trans ?_ (Cert.ProjSampleIdeal.ProjValue.final16 m c).symm
  funext i
  obtain ⟨r, j, rfl⟩ : ∃ r j, i = ix2 r j := ⟨i 0, i 1, eq_ix2 i⟩
  exact Cert.ProjSampleRefIdeal.RefValue.v58_at _ _ _ r j
set_option maxHeartbeats 4000000 in
/-- The kernel and the reference, run from equal arguments, leave equal results. -/
theorem algebraic : Cert.algebraic_ProjSampleIdeal_ProjSampleRefIdeal
    (hProjSampleIdeal := Cert.ProjSampleIdeal.Gen.facts) (hProjSampleRefIdeal := Cert.ProjSampleRefIdeal.Gen.facts) := by
  intro m g m' g' _ hargs
  refine ⟨fun c => (Cert.ProjSampleIdeal.Gen.dats m 0 c).arrAt 7 Cert.ProjSampleIdeal.cfg0.N, fun c => (Cert.ProjSampleIdeal.Gen.dats m 0 c).arrAt 8 Cert.ProjSampleIdeal.cfg0.N, fun c => (Cert.ProjSampleIdeal.Gen.dats m 0 c).arrAt 9 Cert.ProjSampleIdeal.cfg0.N, fun c => (Cert.ProjSampleIdeal.Gen.dats m 0 c).arrAt 10 Cert.ProjSampleIdeal.cfg0.N, fun c => (Cert.ProjSampleIdeal.Gen.dats m 0 c).arrAt 11 Cert.ProjSampleIdeal.cfg0.N, fun c => (Cert.ProjSampleIdeal.Gen.dats m 0 c).arrAt 12 Cert.ProjSampleIdeal.cfg0.N, fun c => (Cert.ProjSampleIdeal.Gen.dats m 0 c).arrAt 13 Cert.ProjSampleIdeal.cfg0.N, fun c => (Cert.ProjSampleIdeal.Gen.dats m 0 c).arrAt 14 Cert.ProjSampleIdeal.cfg0.N, fun c => (Cert.ProjSampleIdeal.Gen.dats m 0 c).arrAt 15 Cert.ProjSampleIdeal.cfg0.N, fun c => (Cert.ProjSampleIdeal.Gen.dats m 0 c).arrAt 16 Cert.ProjSampleIdeal.cfg0.N, ?_, ?_⟩
  · -- the eleventh array, the block means, is not a result of this call
    refine (θ_run Cert.ProjSampleIdeal.defs _ _).mono (fun r h c => ?_) (Cert.ProjSampleIdeal.Value.run_blocks m g)
    obtain ⟨e7, e8, e9, e10, e11, e12, e13, e14, e15, e16, _, hk⟩ := h c
    exact ⟨e7, e8, e9, e10, e11, e12, e13, e14, e15, e16, hk⟩
  · refine (θ_run Cert.ProjSampleRefIdeal.defs _ _).mono (fun r h c => ?_) (Cert.ProjSampleRefIdeal.Value.run (F := Ideal) m' g')
    obtain ⟨e7, e8, e9, e10, e11, e12, e13, e14, e15, e16, hk⟩ := h c
    have ha := hargs c
    refine ⟨e7.trans ?_, e8.trans ?_, e9.trans ?_, e10.trans ?_, e11.trans ?_, e12.trans ?_, e13.trans ?_, e14.trans ?_, e15.trans ?_, e16.trans ?_, hk⟩
    · exact Eq.trans (Cert.ProjSampleRefIdeal.Read.val_main_v35_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same7 m m' c ha)
    · exact Eq.trans (Cert.ProjSampleRefIdeal.Read.val_main_v36_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same8 m m' c ha)
    · exact Eq.trans (Cert.ProjSampleRefIdeal.Read.val_main_v37_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same9 m m' c ha)
    · exact Eq.trans (Cert.ProjSampleRefIdeal.Read.val_main_v38_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same10 m m' c ha)
    · exact Eq.trans (Cert.ProjSampleRefIdeal.Read.val_main_v39_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same11 m m' c ha)
    · exact Eq.trans (Cert.ProjSampleRefIdeal.Read.val_main_v40_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same12 m m' c ha)
    · exact Eq.trans (Cert.ProjSampleRefIdeal.Read.val_main_v41_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same13 m m' c ha)
    · exact Eq.trans (Cert.ProjSampleRefIdeal.Read.val_main_v42_eq m' c) (same14 m m' c ha)
    · exact Eq.trans (Cert.ProjSampleRefIdeal.Read.val_main_v50_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same15 m m' c ha)
    · exact Eq.trans (Cert.ProjSampleRefIdeal.Read.val_main_v58_eq (m' ((c.tc : Thread Cert.ProjSampleRefIdeal.nD Cert.ProjSampleRefIdeal.τ).loc Cert.ProjSampleRefIdeal.main_arg0)) (m' ((c.tc : Thread Cert.ProjSampleRefIdeal.nD Cert.ProjSampleRefIdeal.τ).loc Cert.ProjSampleRefIdeal.main_arg1)) (m' ((c.tc : Thread Cert.ProjSampleRefIdeal.nD Cert.ProjSampleRefIdeal.τ).loc Cert.ProjSampleRefIdeal.main_arg4))) (same16 m m' c ha)

end Cert.ProjSampleClaim

end

end
-- ==== Proof.GlaPromptRows.lean ====
/- The mathematics of the gated linear attention's state over a long sequence: one channel of one head, its state after any
   number of rows, and how a chunk of rows carries the state on. Everything is over the extended reals, with no program in
   sight; the log decays are finite. -/
module

public import proofs.«01_k».proof.Proof.Rows

@[expose] public section

noncomputable section

namespace Cert.GlaPrompt

open Idealize.ShloMosaic

/-- The sum of the first `n` log decays. -/
def total (r : ℕ → ℝ) (n : ℕ) : ℝ := ∑ u ∈ Finset.range n, r u

/-- A channel's state after `n` rows: what is left of the first state, and each row's key and value under the decay from that
    row to the last. -/
def carried (r : ℕ → ℝ) (k v : ℕ → EReal) (s0 : EReal) (n : ℕ) : EReal :=
  Ideal.exp ((total r n : ℝ) : EReal) * s0 +
    ∑ s ∈ Finset.range n, k s * Ideal.exp ((total r n - total r (s + 1) : ℝ) : EReal) * v s

theorem exp_coe (x : ℝ) : Ideal.exp (x : EReal) = ((Real.exp x : ℝ) : EReal) := rfl

theorem exp_nonneg (x : ℝ) : 0 ≤ Ideal.exp (x : EReal) := by
  rw [exp_coe]; exact EReal.coe_nonneg.mpr (Real.exp_pos x).le

theorem exp_ne_top (x : ℝ) : Ideal.exp (x : EReal) ≠ ⊤ := by rw [exp_coe]; exact EReal.coe_ne_top _

/-- Two finite decays one after the other. -/
theorem exp_add (x y : ℝ) : Ideal.exp (x : EReal) * Ideal.exp (y : EReal) = Ideal.exp ((x + y : ℝ) : EReal) := by
  rw [exp_coe, exp_coe, exp_coe, Real.exp_add, EReal.coe_mul]

/-- A finite decay goes through a sum. -/
theorem sum_mul_exp (x : ℝ) (f : ℕ → EReal) (s : Finset ℕ) :
    (∑ i ∈ s, f i) * Ideal.exp (x : EReal) = ∑ i ∈ s, f i * Ideal.exp (x : EReal) := by
  classical
  induction s using Finset.induction_on with
  | empty => simp
  | insert a s ha ih =>
    rw [Finset.sum_insert ha, Finset.sum_insert ha, EReal.right_distrib_of_nonneg_of_ne_top (exp_nonneg x) (exp_ne_top x), ih]

/-- The state after `w` rows more: the state so far under the decay of these rows, and the rows themselves. -/
theorem carried_add (r : ℕ → ℝ) (k v : ℕ → EReal) (s0 : EReal) (n w : ℕ) :
    carried r k v s0 (n + w) = carried r k v s0 n * Ideal.exp ((total r (n + w) - total r n : ℝ) : EReal) +
      ∑ j ∈ Finset.range w, v (n + j) * (k (n + j) * Ideal.exp ((total r (n + w) - total r (n + j + 1) : ℝ) : EReal)) := by
  unfold carried
  rw [Finset.sum_range_add, EReal.right_distrib_of_nonneg_of_ne_top (exp_nonneg _) (exp_ne_top _), sum_mul_exp, ← add_assoc]
  congr 1
  · congr 1
    · rw [mul_right_comm, exp_add]
      congr 4
      ring
    · refine Finset.sum_congr rfl fun s _ => ?_
      rw [mul_right_comm _ (v s), mul_assoc (k s) (Ideal.exp _) (Ideal.exp _), exp_add,
        show total r n - total r (s + 1) + (total r (n + w) - total r n) = total r (n + w) - total r (s + 1) by ring]
  · exact Finset.sum_congr rfl fun j _ => mul_comm _ _

/-- The sum of some log decays from row `n` on. -/
theorem total_add (r : ℕ → ℝ) (n w : ℕ) : total r (n + w) - total r n = ∑ j ∈ Finset.range w, r (n + j) := by
  unfold total
  rw [Finset.sum_range_add, add_sub_cancel_left]

/-- A running sum over `w` finite places, as it stands in a program. -/
theorem running (w : ℕ) (r : ℕ → ℝ) (a : Fin w → EReal) (ha : ∀ s : Fin w, a s = ((r s.val : ℝ) : EReal)) (t : Fin w) :
    (∑ s : Fin w, if s ≤ t then a s else 0) = ((total r (t.val + 1) : ℝ) : EReal) := by
  have e : (∑ s : Fin w, if s ≤ t then a s else 0) = ∑ s : Fin w, (if s.val ≤ t.val then ((r s.val : ℝ) : EReal) else 0) := by
    refine Finset.sum_congr rfl fun s _ => ?_
    simp only [Fin.le_def, ha]
  rw [e, Fin.sum_univ_eq_sum_range (fun s => if s ≤ t.val then ((r s : ℝ) : EReal) else 0) w, ← Finset.sum_filter]
  have f : (Finset.range w).filter (fun s => s ≤ t.val) = Finset.range (t.val + 1) := by
    ext s
    have := t.isLt
    simp only [Finset.mem_filter, Finset.mem_range]
    omega
  rw [f]
  unfold total
  induction (t.val + 1) with
  | zero => simp
  | succ n ih => rw [Finset.sum_range_succ, Finset.sum_range_succ, ih, EReal.coe_add]

/-- A chunk of `w` rows from row `n`, as a program takes it from the chunk's own running sums `b`. -/
theorem chunk (w : ℕ) (hw : 0 < w) (r : ℕ → ℝ) (k v : ℕ → EReal) (s0 : EReal) (n : ℕ) (a b kk vv : Fin w → EReal)
    (ha : ∀ s : Fin w, a s = ((r (n + s.val) : ℝ) : EReal)) (hb : ∀ t, b t = ∑ s : Fin w, if s ≤ t then a s else 0)
    (hk : ∀ s : Fin w, kk s = k (n + s.val)) (hv : ∀ s : Fin w, vv s = v (n + s.val)) (st : EReal) (hs : st = carried r k v s0 n) :
    st * Ideal.exp (b ⟨w - 1, by omega⟩) + ∑ t, vv t * (kk t * Ideal.exp (b ⟨w - 1, by omega⟩ - b t)) =
      carried r k v s0 (n + w) := by
  have hb' : ∀ t : Fin w, b t = ((total r (n + t.val + 1) - total r n : ℝ) : EReal) := by
    intro t
    rw [hb, running w (fun s => r (n + s)) a ha t, add_assoc, total_add]
    rfl
  rw [carried_add, hs, hb', show n + (w - 1) + 1 = n + w by omega]
  congr 1
  rw [← Fin.sum_univ_eq_sum_range (fun j => v (n + j) * (k (n + j) * Ideal.exp ((total r (n + w) - total r (n + j + 1) : ℝ) : EReal))) w]
  refine Finset.sum_congr rfl fun t _ => ?_
  rw [hk, hv, hb', ← EReal.coe_sub, sub_sub_sub_cancel_right]

/-- Channel `d` of head `h` of batch `b` at row `s`, in an array whose lanes are four heads of 64. -/
def head64 (x : Shape.Idx ⟨3, ![2, 8192, 256]⟩ → EReal) (b : Fin 2) (h : Fin 4) (d : Fin 64) (s : ℕ) : EReal :=
  if hs : s < 8192 then x (ix3 b ⟨s, hs⟩ ⟨h.val * 64 + d.val, by omega⟩) else 0

/-- Lane `e` of head `h` of batch `b` at row `s`, in an array whose lanes are four heads of 128. -/
def head128 (x : Shape.Idx ⟨3, ![2, 8192, 512]⟩ → EReal) (b : Fin 2) (h : Fin 4) (e : Fin 128) (s : ℕ) : EReal :=
  if hs : s < 8192 then x (ix3 b ⟨s, hs⟩ ⟨h.val * 128 + e.val, by omega⟩) else 0

section
variable (x1 : Shape.Idx ⟨3, ![2, 8192, 256]⟩ → EReal) (x2 : Shape.Idx ⟨3, ![2, 8192, 512]⟩ → EReal)
  (x3 : Shape.Idx ⟨3, ![2, 8192, 256]⟩ → EReal) (x6 : Shape.Idx ⟨4, ![2, 4, 64, 128]⟩ → EReal)

/-- Head `h`'s state after `n` rows of batch `b`. -/
def headState (b : Fin 2) (h : Fin 4) (d : Fin 64) (e : Fin 128) (n : ℕ) : EReal :=
  carried (fun s => (head64 x3 b h d s).toReal) (head64 x1 b h d) (head128 x2 b h e) (x6 (ix4 b h d e)) n

/-- The result: two heads' states after all rows, one under the other. -/
def stateAt (b : Fin 2) (p : Fin 2) (l e : Fin 128) : EReal :=
  headState x1 x2 x3 x6 b ⟨p.val * 2 + l.val / 64, by omega⟩ ⟨l.val % 64, by omega⟩ e 8192

/-- Every log decay is a real number, when none is infinite. -/
theorem decay_coe (hf : ∀ i, x3 i ≠ ⊤ ∧ x3 i ≠ ⊥) (b : Fin 2) (h : Fin 4) (d : Fin 64) (s : ℕ) :
    head64 x3 b h d s = (((head64 x3 b h d s).toReal : ℝ) : EReal) := by
  refine (EReal.coe_toReal ?_ ?_).symm
  · unfold head64
    split
    · exact (hf _).1
    · exact EReal.zero_ne_top
  · unfold head64
    split
    · exact (hf _).2
    · exact EReal.zero_ne_bot

end

end Cert.GlaPrompt

end
-- ==== Proof.GlaPromptReference.lean ====
/- What the plain program of the prompt's gated linear attention computes: `GlaPrompt.stateAt`, where no log decay is
   infinite. -/
module

public import proofs.«01_k».proof.Proof.Gen.GlaPromptRefIdeal.Read
public import proofs.«01_k».proof.Proof.GlaReference
public import proofs.«01_k».proof.Proof.GlaPromptRows

@[expose] public section

set_option maxRecDepth 16384

noncomputable section

namespace Cert.GlaPromptRefIdeal.RefValue

open Idealize.ShloMosaic Idealize.ShloMosaic.TcCoe Idealize.SL.Sem
open Cert.GlaPromptRefIdeal Cert.GlaPromptRefIdeal.Read

variable (x1 : (⟨S2x8192x256, .f32⟩ : BufTy).Contents (Elt Ideal)) (x2 : (⟨S2x8192x512, .f32⟩ : BufTy).Contents (Elt Ideal))
  (x3 : (⟨S2x8192x256, .f32⟩ : BufTy).Contents (Elt Ideal)) (x6 : (⟨S2x4x64x128, .f32⟩ : BufTy).Contents (Elt Ideal))

theorem v1_at (b : Fin 2) (h : Fin 4) (s : Fin 8192) (d : Fin 64) : val_main_v1 (F := Ideal) x1 (ix4 b h s d) =
    GlaPrompt.head64 x1 b h d s.val := by
  unfold GlaPrompt.head64
  rw [dif_pos s.isLt]
  pointwise [val_main_v1, val_main_v0]

theorem v3_at (b : Fin 2) (h : Fin 4) (s : Fin 8192) (e : Fin 128) : val_main_v3 (F := Ideal) x2 (ix4 b h s e) =
    GlaPrompt.head128 x2 b h e s.val := by
  unfold GlaPrompt.head128
  rw [dif_pos s.isLt]
  pointwise [val_main_v3, val_main_v2]

theorem v5_at (b : Fin 2) (h : Fin 4) (s : Fin 8192) (d : Fin 64) : val_main_v5 (F := Ideal) x3 (ix4 b h s d) =
    GlaPrompt.head64 x3 b h d s.val := by
  unfold GlaPrompt.head64
  rw [dif_pos s.isLt]
  pointwise [val_main_v5, val_main_v4]

/-- The window of a running sum over the whole sequence. -/
abbrev win : Shape := ⟨4, ![1, 1, 8192, 1]⟩

theorem win_at (n : Fin win.numel) : (win.rowMajor.symm n 0).val = 0 ∧ (win.rowMajor.symm n 1).val = 0 ∧
    (win.rowMajor.symm n 2).val = n.val ∧ (win.rowMajor.symm n 3).val = 0 := by
  obtain ⟨w, rfl⟩ : ∃ w, n = win.rowMajor w := ⟨win.rowMajor.symm n, (Equiv.apply_symm_apply _ _).symm⟩
  rw [Equiv.symm_apply_apply, Shape.rowMajor_val_four]
  have h0 : (w 0).val < 1 := (w 0).isLt
  have h1 : (w 1).val < 1 := (w 1).isLt
  have h3 : (w 3).val < 1 := (w 3).isLt
  refine ⟨by omega, by omega, ?_, by omega⟩
  show (w 2).val = (((w 0).val * 1 + (w 1).val) * 8192 + (w 2).val) * 1 + (w 3).val
  omega

/-- As many places as there are rows, ending at row `t`, the ones before the first row left out: the rows up to `t`. -/
theorem sum_ending {w : ℕ} (g : Fin w → EReal) (t : Fin w) :
    (∑ n : Fin w, if hn : w - 1 ≤ t.val + n.val then g ⟨t.val + n.val - (w - 1), by omega⟩ else 0) = ∑ s, if s ≤ t then g s else 0 := by
  let G : ℕ → EReal := fun s => if hs : s < w then g ⟨s, hs⟩ else 0
  have ht := t.isLt
  have e1 : (∑ n : Fin w, if hn : w - 1 ≤ t.val + n.val then g ⟨t.val + n.val - (w - 1), by omega⟩ else 0) =
      ∑ n : Fin w, (fun n : ℕ => if w - 1 ≤ t.val + n then G (t.val + n - (w - 1)) else 0) n.val := by
    refine Finset.sum_congr rfl fun n _ => ?_
    by_cases h : w - 1 ≤ t.val + n.val
    · have := n.isLt
      simp only [dif_pos h, if_pos h, G]
      rw [dif_pos (by omega)]
    · simp only [dif_neg h, if_neg h]
  have e2 : (∑ s, if s ≤ t then g s else 0) = ∑ s : Fin w, (fun s : ℕ => if s ≤ t.val then G s else 0) s.val := by
    refine Finset.sum_congr rfl fun s _ => ?_
    simp only [Fin.le_def, G, dif_pos s.isLt]
  rw [e1, e2, Fin.sum_univ_eq_sum_range (fun n : ℕ => if w - 1 ≤ t.val + n then G (t.val + n - (w - 1)) else 0) w,
    Fin.sum_univ_eq_sum_range (fun s : ℕ => if s ≤ t.val then G s else 0) w]
  have c1 : w = (w - 1 - t.val) + (t.val + 1) := by omega
  have c2 : w = (t.val + 1) + (w - 1 - t.val) := by omega
  have l : ∀ f : ℕ → EReal, ∑ n ∈ Finset.range w, f n = ∑ n ∈ Finset.range (w - 1 - t.val), f n +
      ∑ j ∈ Finset.range (t.val + 1), f (w - 1 - t.val + j) := fun f => by
    rw [← Finset.sum_range_add, ← c1]
  have r : ∀ f : ℕ → EReal, ∑ n ∈ Finset.range w, f n = ∑ n ∈ Finset.range (t.val + 1), f n +
      ∑ j ∈ Finset.range (w - 1 - t.val), f (t.val + 1 + j) := fun f => by
    rw [← Finset.sum_range_add, ← c2]
  rw [l, r, Finset.sum_eq_zero (s := Finset.range (w - 1 - t.val)) (f := fun n => if w - 1 ≤ t.val + n then G (t.val + n - (w - 1)) else 0),
    Finset.sum_eq_zero (s := Finset.range (w - 1 - t.val)) (f := fun j => if t.val + 1 + j ≤ t.val then G (t.val + 1 + j) else 0),
    zero_add, add_zero]
  · refine Finset.sum_congr rfl fun j hj => ?_
    have := Finset.mem_range.mp hj
    rw [if_pos (by omega), if_pos (by omega), show t.val + (w - 1 - t.val + j) - (w - 1) = j by omega]
  · intro j _
    exact if_neg (by omega)
  · intro n hn
    have := Finset.mem_range.mp hn
    exact if_neg (by omega)

/-- The running sum of the log decays. -/
theorem v6_at (b : Fin 2) (h : Fin 4) (t : Fin 8192) (d : Fin 64) : val_main_v6 (F := Ideal) x3 (ix4 b h t d) =
    ∑ s : Fin 8192, if s ≤ t then GlaPrompt.head64 x3 b h d s.val else 0 := by
  unfold val_main_v6 Host.reduceWindowAdd
  rw [Ideal.hostReduceWindowAdd_def]
  unfold Ideal.hostReduceWindowAdd Host.reduceWindow
  have hz : ∀ i, val_main_call0_call0_v0 (F := Ideal) i = 0 := by
    intro i
    unfold val_main_call0_call0_v0 val_main_call0_call0_cst
    exact Ideal.ofBits_zero_f32
  rw [hz]
  dsimp only
  refine (Cert.ReferenceIdeal.RefValue.foldl_add (n := win.numel) _ _).trans ?_
  rw [zero_add]
  have hw : win.numel = 8192 := by decide +kernel
  refine Eq.trans ?_ (sum_ending (fun s : Fin 8192 => GlaPrompt.head64 x3 b h d s.val) t)
  refine Fintype.sum_equiv (finCongr hw) _ _ fun n => ?_
  obtain ⟨w0, w1, w2, w3⟩ := win_at n
  have hn : n.val < 8192 := hw ▸ n.isLt
  have ht : t.val < 8192 := t.isLt
  show _ = if hn : 8192 - 1 ≤ t.val + n.val then GlaPrompt.head64 x3 b h d (t.val + n.val - (8192 - 1)) else 0
  split
  · next hin =>
    have h2 := hin 2
    change 8191 ≤ t.val * 1 + (win.rowMajor.symm n 2).val ∧ _ at h2
    rw [w2] at h2
    rw [dif_pos (by omega), ← v5_at x3 b h ⟨t.val + n.val - (8192 - 1), by omega⟩ d]
    refine congrArg (val_main_v5 (F := Ideal) x3) (funext fun a => Fin.ext ?_)
    match a with
    | ⟨0, _⟩ => show b.val * 1 + (win.rowMajor.symm n 0).val - 0 = b.val; omega
    | ⟨1, _⟩ => show h.val * 1 + (win.rowMajor.symm n 1).val - 0 = h.val; omega
    | ⟨2, _⟩ => show t.val * 1 + (win.rowMajor.symm n 2).val - 8191 = t.val + n.val - (8192 - 1); omega
    | ⟨3, _⟩ => show d.val * 1 + (win.rowMajor.symm n 3).val - 0 = d.val; omega
  · next hin =>
    rw [dif_neg]
    intro hle
    refine hin fun a => ?_
    match a with
    | ⟨0, _⟩ => show 0 ≤ b.val * 1 + (win.rowMajor.symm n 0).val ∧ b.val * 1 + (win.rowMajor.symm n 0).val - 0 < 2; omega
    | ⟨1, _⟩ => show 0 ≤ h.val * 1 + (win.rowMajor.symm n 1).val ∧ h.val * 1 + (win.rowMajor.symm n 1).val - 0 < 4; omega
    | ⟨2, _⟩ => show 8191 ≤ t.val * 1 + (win.rowMajor.symm n 2).val ∧ t.val * 1 + (win.rowMajor.symm n 2).val - 8191 < 8192; omega
    | ⟨3, _⟩ => show 0 ≤ d.val * 1 + (win.rowMajor.symm n 3).val ∧ d.val * 1 + (win.rowMajor.symm n 3).val - 0 < 64; omega

/-- A head's state, in terms of the running sums. -/
theorem v18_eq (b : Fin 2) (h : Fin 4) (d : Fin 64) (e : Fin 128) : val_main_v18 (F := Ideal) x1 x2 x3 x6 (ix4 b h d e) =
    Ideal.exp (val_main_v6 (F := Ideal) x3 (ix4 b h 8191 d)) * x6 (ix4 b h d e) +
      ∑ s : Fin 8192, val_main_v1 (F := Ideal) x1 (ix4 b h s d) * Ideal.exp (val_main_v6 (F := Ideal) x3 (ix4 b h 8191 d) -
        val_main_v6 (F := Ideal) x3 (ix4 b h s d)) * val_main_v3 (F := Ideal) x2 (ix4 b h s e) := by
  pointwise [val_main_v18, val_main_v17, val_main_v16, val_main_v15, val_main_v14, val_main_v13, val_main_v12, val_main_v11,
    val_main_v10, val_main_v9, val_main_v8, val_main_v7, dot_S2x4x8192x64_S2x4x8192x128_S2x4x64x128_2_2_3_3_01_01]

/-- A head's state, where no log decay is infinite. -/
theorem v18_at (hf : ∀ i : S2x8192x256.Idx, @Ne EReal (x3 i) ⊤ ∧ @Ne EReal (x3 i) ⊥) (b : Fin 2) (h : Fin 4) (d : Fin 64) (e : Fin 128) :
    val_main_v18 (F := Ideal) x1 x2 x3 x6 (ix4 b h d e) = GlaPrompt.headState x1 x2 x3 x6 b h d e 8192 := by
  have hb : ∀ t : Fin 8192, val_main_v6 (F := Ideal) x3 (ix4 b h t d) =
      ((GlaPrompt.total (fun s => (GlaPrompt.head64 x3 b h d s).toReal) (t.val + 1) : ℝ) : EReal) := fun t =>
    (v6_at x3 b h t d).trans (GlaPrompt.running 8192 _ _ (fun s => GlaPrompt.decay_coe x3 hf b h d s.val) t)
  rw [v18_eq]
  unfold GlaPrompt.headState GlaPrompt.carried
  rw [hb, show ((8191 : Fin 8192).val + 1) = 8192 from rfl, ← Fin.sum_univ_eq_sum_range (fun s => GlaPrompt.head64 x1 b h d s *
    Ideal.exp ((GlaPrompt.total (fun s => (GlaPrompt.head64 x3 b h d s).toReal) 8192 -
      GlaPrompt.total (fun s => (GlaPrompt.head64 x3 b h d s).toReal) (s + 1) : ℝ) : EReal) * GlaPrompt.head128 x2 b h e s) 8192]
  refine congrArg _ (Finset.sum_congr rfl fun s _ => ?_)
  rw [v1_at, v3_at, hb, ← EReal.coe_sub]

/-- The result. -/
theorem state_at (hf : ∀ i : S2x8192x256.Idx, @Ne EReal (x3 i) ⊤ ∧ @Ne EReal (x3 i) ⊥) (b : Fin 2) (p : Fin 2) (l e : Fin 128) :
    val_main_v19 (F := Ideal) x1 x2 x3 x6 (ix4 b p l e) = GlaPrompt.stateAt x1 x2 x3 x6 b p l e := by
  unfold GlaPrompt.stateAt
  rw [← v18_at x1 x2 x3 x6 hf]
  pointwise [val_main_v19]

end Cert.GlaPromptRefIdeal.RefValue

end
end
-- ==== Proof.GlaPromptTile.lean ====
/- What one point of the prompt's gated linear attention kernel does to the carried states: two heads side by side in the
   128 lanes of a pair, four chunks of 128 rows one after the other. -/
module

public import proofs.«01_k».proof.Proof.Gen.GlaPromptIdeal.Skeleton
public import Idealize.ShloMosaic.Lib.Pipeline.ValueKit.Point
public import Idealize.ShloMosaic.Lib.Pointwise
public import proofs.«01_k».proof.Proof.GlaPromptRows

@[expose] public section

set_option maxRecDepth 16384

noncomputable section

namespace Cert.GlaPromptIdeal.GlaValue

open Idealize.ShloMosaic Idealize.ShloMosaic.TcCoe Idealize.SL.Sem
open Cert.GlaPromptIdeal Cert.GlaPromptIdeal.Gen

/-- A pair's state after a chunk, as the kernel takes it: lanes from 64 on belong to the pair's second head. -/
def pairState (k b : Fin 128 → EReal) (v w : Fin 128 → EReal) (st : EReal) (x : Fin 128) : EReal :=
  st * Ideal.exp (b 127) + Scalar.select (IntOp.cmpi .sge (BitVec.ofNat 32 x.val) 64#32)
    (∑ t, w t * (k t * Ideal.exp (b 127 - b t))) (∑ t, v t * (k t * Ideal.exp (b 127 - b t)))

theorem half_lanes : ∀ x : Fin 128, IntOp.cmpi .sge (BitVec.ofNat 32 x.val) 64#32 = if x.val < 64 then 0#1 else 1#1 := by
  decide +kernel

/-- Comparing rows as words is comparing them. -/
theorem sge_rows : ∀ r s : Fin 128, IntOp.cmpi .sge (BitVec.ofNat 32 r.val) (BitVec.ofNat 32 s.val) = if s ≤ r then 1#1 else 0#1 := by
  decide +kernel

variable (ST : FVec Ideal S128x128 .f32) (LA : Vec Ideal S1x128x256 .f32) (K V W : Vec Ideal S1x128x128 .f32)

/-- The first pair's state after a chunk. -/
def low : FVec Ideal S128x128 .f32 :=
  k0_pay114 ST (k0_pay105 (k0_pay11 LA)) (k0_pay109 (iota .tc S128x128 32 [1] iota_S128x128_d1_w32)
    (k0_pay106 (k0_pay10 K) (k0_pay11 LA)) (k0_pay107 (k0_pay10 K) (k0_pay11 LA) (k0_pay12 V)) (k0_pay108 (k0_pay13 W))
    (constant S128x128 .f32 0x00000000#32))

/-- The second pair's state after a chunk. -/
def high : FVec Ideal S128x128 .f32 :=
  k0_pay215 ST (k0_pay209 (k0_pay117 (k0_pay8 LA))) (k0_pay210 (iota .tc S128x128 32 [1] iota_S128x128_d1_w32) (k0_pay116 K)
    (k0_pay117 (k0_pay8 LA)) (k0_pay118 V) (k0_pay119 W))

theorem low_at (e x : Fin 128) : low ST LA K V W (ix2 e x) =
    pairState (fun t => K (ix3 0 t x)) (fun t => k0_pay8 LA (ix2 t ⟨x.val, by omega⟩)) (fun t => V (ix3 0 t e))
      (fun t => W (ix3 0 t e)) (ST (ix2 e x)) x := by
  unfold low pairState
  pointwise [k0_pay114, k0_pay105, k0_pay109, k0_pay106, k0_pay10, k0_pay11, k0_pay107, k0_pay12, k0_pay108, k0_pay13,
    dot_S128x128_S128x128_S128x128_0_0_1_1_n_n]

theorem high_at (e x : Fin 128) : high ST LA K V W (ix2 e x) =
    pairState (fun t => K (ix3 0 t x)) (fun t => k0_pay8 LA (ix2 t ⟨128 + x.val, by omega⟩)) (fun t => V (ix3 0 t e))
      (fun t => W (ix3 0 t e)) (ST (ix2 e x)) x := by
  unfold high pairState
  pointwise [k0_pay215, k0_pay209, k0_pay210, k0_pay116, k0_pay117, k0_pay118, k0_pay119,
    dot_S128x128_S128x128_S128x128_0_0_1_1_n_n]

/-- The running sums the kernel takes with a triangle of ones. -/
theorem sums_at (r : Fin 128) (j : Fin 256) : k0_pay8 LA (ix2 r j) = ∑ s : Fin 128, if s ≤ r then (LA (ix3 0 s j) : EReal) else 0 := by
  have e : k0_pay8 LA (ix2 r j) = ∑ s : Fin 128, Scalar.select (IntOp.cmpi .sge (BitVec.ofNat 32 r.val) (BitVec.ofNat 32 s.val))
      (LA (ix3 0 s j) : EReal) 0 := by
    pointwise [k0_pay8, k0_pay5, dot_S128x128_S128x256_S128x256_1_0_0_1_n_n]
  rw [e]
  refine Finset.sum_congr rfl fun s _ => ?_
  rw [sge_rows]
  split <;> rfl

/-- A chunk carries a head's state on by 128 rows. -/
theorem pairState_of (r : ℕ → ℝ) (kk vv : ℕ → EReal) (s0 : EReal) (n : ℕ) (k b v w : Fin 128 → EReal) (st : EReal) (x : Fin 128)
    (a : Fin 128 → EReal) (ha : ∀ s : Fin 128, a s = ((r (n + s.val) : ℝ) : EReal))
    (hb : ∀ t, b t = ∑ s : Fin 128, if s ≤ t then a s else 0) (hk : ∀ s : Fin 128, k s = kk (n + s.val))
    (hv : ∀ s : Fin 128, (if x.val < 64 then v s else w s) = vv (n + s.val)) (hs : st = GlaPrompt.carried r kk vv s0 n) :
    pairState k b v w st x = GlaPrompt.carried r kk vv s0 (n + 128) := by
  unfold pairState
  rw [half_lanes]
  by_cases hx : x.val < 64
  · simp only [if_pos hx] at hv ⊢
    exact GlaPrompt.chunk 128 (by omega) r kk vv s0 n a b k v ha hb hk hv st hs
  · simp only [if_neg hx] at hv ⊢
    exact GlaPrompt.chunk 128 (by omega) r kk vv s0 n a b k w ha hb hk hv st hs

end Cert.GlaPromptIdeal.GlaValue

end
end
-- ==== Proof.GlaPromptPoint.lean ====
/- One grid point of the prompt's gated linear attention kernel. It takes 512 rows of one batch, four chunks one after the other,
and hands the two pairs' states on to the next point. -/
module

public import proofs.«01_k».proof.Proof.Gen.GlaPromptIdeal.Value
public import proofs.«01_k».proof.Proof.GlaPromptTile
public import Idealize.ShloMosaic.Lib.Pipeline.ReadBack
public import Idealize.ShloMosaic.Lib.Pipeline.ValueKit.Point
public import Idealize.ShloMosaic.Lib.Pipeline.ValueKit.Tiles

@[expose] public section

set_option maxRecDepth 16384

noncomputable section

namespace Cert.GlaPromptIdeal.GlaValue

open Idealize.ShloMosaic Idealize.ShloMosaic.TcCoe Idealize.SL.Sem
open Idealize.ShloMosaic.Pipeline (Dat)
open Cert.GlaPromptIdeal Cert.GlaPromptIdeal.Gen

variable (m : (ℓ : Loc nD τ sig) → Buf (Elt Ideal) ℓ) (c : Dev nD)

/-- The batch that point `t` takes. -/
def batch (t : Fin cfg0.N) : Fin 2 := ⟨t.val / 16, by have : t.val < 32 := t.isLt; omega⟩

/-- Which block of its array each window takes at a point: the batch, and the place in the sequence. -/
theorem index1 : ∀ t : Fin cfg0.N, win0_1.index t = ![t.val / 16, t.val % 16, 0] :=
  (by decide +kernel : ∀ t : Fin grid0.N, _)
theorem index2 : ∀ t : Fin cfg0.N, win0_2.index t = ![t.val / 16, t.val % 16, 0] :=
  (by decide +kernel : ∀ t : Fin grid0.N, _)
theorem index3 : ∀ t : Fin cfg0.N, win0_3.index t = ![t.val / 16, t.val % 16, 0] :=
  (by decide +kernel : ∀ t : Fin grid0.N, _)
theorem index6 : ∀ t : Fin cfg0.N, win0_6.index t = ![t.val / 16, 0, 0, 0] :=
  (by decide +kernel : ∀ t : Fin grid0.N, _)
theorem index8 : ∀ t : Fin cfg0.N, win0_8.index t = ![t.val / 16, 0, 0, 0] :=
  (by decide +kernel : ∀ t : Fin grid0.N, _)

/-- The states as the host hands them over: a pair of heads one under the other. -/
theorem V_main_v0 (b : Fin 2) (p : Fin 2) (l e : Fin 128) :
    V m c main_v0 (ix4 b p l e) =
      m ((c : Thread nD τ).loc main_arg6) (ix4 b ⟨p.val * 2 + l.val / 64, by omega⟩ ⟨l.val % 64, by omega⟩ e) := by
  show StableHlo.after hostOps0 _ (Proc.devRef .tc main_v0) _ = _
  after_results
  pointwise

/-- Row `r` of the block of point `t`, as a row of the sequence. -/
def place (t : Fin cfg0.N) (r : Fin 512) : Fin 8192 := ⟨512 * (t.val % 16) + r.val, by have := Nat.mod_lt t.val (show 0 < 16 by omega); omega⟩

/-- The blocks of the keys, the values, the logarithms of the decays and the first states, as parts of the arguments. -/
theorem block1 (t : Fin cfg0.N) (r : Fin 512) (k : Fin 256) :
    iblk m c 1 t (ix3 0 r k) = m ((c : Thread nD τ).loc main_arg1) (ix3 (batch t) (place t r) k) := by
  blk_ext! [iblk, V_main_arg1, index1 t, batch, place]
theorem block2 (t : Fin cfg0.N) (r : Fin 512) (k : Fin 512) :
    iblk m c 2 t (ix3 0 r k) = m ((c : Thread nD τ).loc main_arg2) (ix3 (batch t) (place t r) k) := by
  blk_ext! [iblk, V_main_arg2, index2 t, batch, place]
theorem block3 (t : Fin cfg0.N) (r : Fin 512) (k : Fin 256) :
    iblk m c 3 t (ix3 0 r k) = m ((c : Thread nD τ).loc main_arg3) (ix3 (batch t) (place t r) k) := by
  blk_ext! [iblk, V_main_arg3, index3 t, batch, place]
theorem block6 (t : Fin cfg0.N) (p : Fin 2) (l e : Fin 128) :
    iblk m c 6 t (ix4 0 p l e) =
      m ((c : Thread nD τ).loc main_arg6) (ix4 (batch t) ⟨p.val * 2 + l.val / 64, by omega⟩ ⟨l.val % 64, by omega⟩ e) := by
  refine Eq.trans ?_ (V_main_v0 m c (batch t) p l e)
  blk_ext [iblk, index6 t, batch]

/-- 128 rows of the keys from row `i`, 128 lanes from lane `off`, on a lane of head `h`. -/
theorem keys_at (t : Fin cfg0.N) (i off : Nat) (hi : i + 128 ≤ 512)
    (inb : ∀ a, (![0, i, off] : Fin 3 → Nat) a + (![1, 128, 128] : Fin 3 → Nat) a ≤ S1x512x256.size a) (r x : Fin 128)
    (h : Fin 4) (d : Fin 64) (hx : off + x.val = h.val * 64 + d.val) :
    View.ld (S := S1x512x256) (iblk m c 1 t) (Rect.unit (![0, i, off] : Fin 3 → Nat) ![1, 128, 128] inb) (ix3 0 r x : S1x128x128.Idx) =
      GlaPrompt.head64 (m ((c : Thread nD τ).loc main_arg1)) (batch t) h d (512 * (t.val % 16) + i + r.val) := by
  refine (View.ld_unit_apply_of (S := S1x512x256) _ _ _ _ _ (ix3 0 ⟨i + r.val, by omega⟩ ⟨off + x.val, by omega⟩) fun a => ?_).trans
    ((block1 m c t _ _).trans ?_)
  · match a with
    | ⟨0, _⟩ => rfl
    | ⟨1, _⟩ => rfl
    | ⟨2, _⟩ => rfl
  · have := Nat.mod_lt t.val (show 0 < 16 by omega)
    unfold GlaPrompt.head64 place
    rw [dif_pos (by omega)]
    simp only [hx, add_assoc]

/-- 128 rows of the values from row `i`: head `h`'s lanes. -/
theorem values_at (t : Fin cfg0.N) (i off : Nat) (hi : i + 128 ≤ 512)
    (inb : ∀ a, (![0, i, off] : Fin 3 → Nat) a + (![1, 128, 128] : Fin 3 → Nat) a ≤ S1x512x512.size a) (r e : Fin 128)
    (h : Fin 4) (ho : off = h.val * 128) :
    View.ld (S := S1x512x512) (iblk m c 2 t) (Rect.unit (![0, i, off] : Fin 3 → Nat) ![1, 128, 128] inb) (ix3 0 r e : S1x128x128.Idx) =
      GlaPrompt.head128 (m ((c : Thread nD τ).loc main_arg2)) (batch t) h e (512 * (t.val % 16) + i + r.val) := by
  refine (View.ld_unit_apply_of (S := S1x512x512) _ _ _ _ _ (ix3 0 ⟨i + r.val, by omega⟩ ⟨off + e.val, by omega⟩) fun a => ?_).trans
    ((block2 m c t _ _).trans ?_)
  · match a with
    | ⟨0, _⟩ => rfl
    | ⟨1, _⟩ => rfl
    | ⟨2, _⟩ => rfl
  · have := Nat.mod_lt t.val (show 0 < 16 by omega)
    unfold GlaPrompt.head128 place
    rw [dif_pos (by omega)]
    simp only [ho, add_assoc]

/-- 128 rows of the log decays from row `i`, on a lane of head `h`. -/
theorem decays_at (t : Fin cfg0.N) (i : Nat) (hi : i + 128 ≤ 512)
    (inb : ∀ a, (![0, i, 0] : Fin 3 → Nat) a + (![1, 128, 256] : Fin 3 → Nat) a ≤ S1x512x256.size a) (r : Fin 128) (j : Fin 256)
    (h : Fin 4) (d : Fin 64) (hj : j.val = h.val * 64 + d.val) :
    View.ld (S := S1x512x256) (iblk m c 3 t) (Rect.unit (![0, i, 0] : Fin 3 → Nat) ![1, 128, 256] inb) (ix3 0 r j : S1x128x256.Idx) =
      GlaPrompt.head64 (m ((c : Thread nD τ).loc main_arg3)) (batch t) h d (512 * (t.val % 16) + i + r.val) := by
  refine (View.ld_unit_apply_of (S := S1x512x256) _ _ _ _ _ (ix3 0 ⟨i + r.val, by omega⟩ j) fun a => ?_).trans
    ((block3 m c t _ _).trans ?_)
  · match a with
    | ⟨0, _⟩ => rfl
    | ⟨1, _⟩ => rfl
    | ⟨2, _⟩ => exact (Nat.zero_add _).symm
  · have := Nat.mod_lt t.val (show 0 < 16 by omega)
    unfold GlaPrompt.head64 place
    rw [dif_pos (by omega)]
    simp only [← hj, add_assoc]

/-- Head `h`'s state after `n` rows, at the arguments of a run. -/
abbrev stateOf (b : Fin 2) (h : Fin 4) (d : Fin 64) (e : Fin 128) (n : ℕ) : EReal :=
  GlaPrompt.headState (m ((c : Thread nD τ).loc main_arg1)) (m ((c : Thread nD τ).loc main_arg2))
    (m ((c : Thread nD τ).loc main_arg3)) (m ((c : Thread nD τ).loc main_arg6)) b h d e n

/-- No log decay is infinite. -/
abbrev Finite : Prop := ∀ i : S2x8192x256.Idx, @Ne EReal (m ((c : Thread nD τ).loc main_arg3) i) ⊤ ∧ @Ne EReal (m ((c : Thread nD τ).loc main_arg3) i) ⊥

section
variable (hf : Finite m c) (t : Fin cfg0.N) (i : Nat) (hi : i + 128 ≤ 512)
  (ia : ∀ a, (![0, i, 0] : Fin 3 → Nat) a + (![1, 128, 256] : Fin 3 → Nat) a ≤ S1x512x256.size a)
  (ST : FVec Ideal S128x128 .f32) (e x : Fin 128)
include hf hi

/-- The first pair's state carried on by a chunk. -/
theorem low_step (ik : ∀ a, (![0, i, 0] : Fin 3 → Nat) a + (![1, 128, 128] : Fin 3 → Nat) a ≤ S1x512x256.size a)
    (iv : ∀ a, (![0, i, 0] : Fin 3 → Nat) a + (![1, 128, 128] : Fin 3 → Nat) a ≤ S1x512x512.size a)
    (iw : ∀ a, (![0, i, 128] : Fin 3 → Nat) a + (![1, 128, 128] : Fin 3 → Nat) a ≤ S1x512x512.size a)
    (h : Fin 4) (hh : h.val = x.val / 64) (d : Fin 64) (hd : d.val = x.val % 64)
    (hs : ST (ix2 e x) = stateOf m c (batch t) h d e (512 * (t.val % 16) + i)) :
    low ST (View.ld (S := S1x512x256) (iblk m c 3 t) (Rect.unit (![0, i, 0] : Fin 3 → Nat) ![1, 128, 256] ia))
      (View.ld (S := S1x512x256) (iblk m c 1 t) (Rect.unit (![0, i, 0] : Fin 3 → Nat) ![1, 128, 128] ik))
      (View.ld (S := S1x512x512) (iblk m c 2 t) (Rect.unit (![0, i, 0] : Fin 3 → Nat) ![1, 128, 128] iv))
      (View.ld (S := S1x512x512) (iblk m c 2 t) (Rect.unit (![0, i, 128] : Fin 3 → Nat) ![1, 128, 128] iw)) (ix2 e x) =
      stateOf m c (batch t) h d e (512 * (t.val % 16) + (i + 128)) := by
  rw [low_at, ← add_assoc]
  refine pairState_of _ _ _ _ _ _ _ _ _ _ _ _
    (fun s => (decays_at m c t i hi ia s ⟨x.val, by omega⟩ h d (by show x.val = _; omega)).trans (GlaPrompt.decay_coe _ hf _ _ _ _))
    (fun s => sums_at _ s _) (fun s => keys_at m c t i 0 hi ik s x h d (by omega)) (fun s => ?_) hs
  split
  · exact values_at m c t i 0 hi iv s e h (by omega)
  · exact values_at m c t i 128 hi iw s e h (by omega)

/-- The second pair's state carried on by a chunk. -/
theorem high_step (ik : ∀ a, (![0, i, 128] : Fin 3 → Nat) a + (![1, 128, 128] : Fin 3 → Nat) a ≤ S1x512x256.size a)
    (iv : ∀ a, (![0, i, 256] : Fin 3 → Nat) a + (![1, 128, 128] : Fin 3 → Nat) a ≤ S1x512x512.size a)
    (iw : ∀ a, (![0, i, 384] : Fin 3 → Nat) a + (![1, 128, 128] : Fin 3 → Nat) a ≤ S1x512x512.size a)
    (h : Fin 4) (hh : h.val = 2 + x.val / 64) (d : Fin 64) (hd : d.val = x.val % 64)
    (hs : ST (ix2 e x) = stateOf m c (batch t) h d e (512 * (t.val % 16) + i)) :
    high ST (View.ld (S := S1x512x256) (iblk m c 3 t) (Rect.unit (![0, i, 0] : Fin 3 → Nat) ![1, 128, 256] ia))
      (View.ld (S := S1x512x256) (iblk m c 1 t) (Rect.unit (![0, i, 128] : Fin 3 → Nat) ![1, 128, 128] ik))
      (View.ld (S := S1x512x512) (iblk m c 2 t) (Rect.unit (![0, i, 256] : Fin 3 → Nat) ![1, 128, 128] iv))
      (View.ld (S := S1x512x512) (iblk m c 2 t) (Rect.unit (![0, i, 384] : Fin 3 → Nat) ![1, 128, 128] iw)) (ix2 e x) =
      stateOf m c (batch t) h d e (512 * (t.val % 16) + (i + 128)) := by
  rw [high_at, ← add_assoc]
  refine pairState_of _ _ _ _ _ _ _ _ _ _ _ _
    (fun s => (decays_at m c t i hi ia s ⟨128 + x.val, by omega⟩ h d (by show 128 + x.val = _; omega)).trans (GlaPrompt.decay_coe _ hf _ _ _ _))
    (fun s => sums_at _ s _) (fun s => keys_at m c t i 128 hi ik s x h d (by omega)) (fun s => ?_) hs
  split
  · exact values_at m c t i 256 hi iv s e h (by omega)
  · exact values_at m c t i 384 hi iw s e h (by omega)

end

/-- The first pair's state after point `t`, from what it was before. -/
def after0 (t : Fin cfg0.N) (ST : Vec Ideal S1x128x128 .f32) : FVec Ideal S128x128 .f32 :=
  low (low (low (low (k0_pay6 ST)
    (View.ld (iblk m c 3 t) (Rect.unit ![0, 0, 0] ![1, 128, 256] inb_S1x512x256_S1x128x256_0_0_0))
    (View.ld (iblk m c 1 t) (Rect.unit ![0, 0, 0] ![1, 128, 128] inb_S1x512x256_S1x128x128_0_0_0))
    (View.ld (iblk m c 2 t) (Rect.unit ![0, 0, 0] ![1, 128, 128] inb_S1x512x512_S1x128x128_0_0_0))
    (View.ld (iblk m c 2 t) (Rect.unit ![0, 0, 128] ![1, 128, 128] inb_S1x512x512_S1x128x128_0_0_128)))
    (View.ld (iblk m c 3 t) (Rect.unit ![0, 128, 0] ![1, 128, 256] inb_S1x512x256_S1x128x256_0_128_0))
    (View.ld (iblk m c 1 t) (Rect.unit ![0, 128, 0] ![1, 128, 128] inb_S1x512x256_S1x128x128_0_128_0))
    (View.ld (iblk m c 2 t) (Rect.unit ![0, 128, 0] ![1, 128, 128] inb_S1x512x512_S1x128x128_0_128_0))
    (View.ld (iblk m c 2 t) (Rect.unit ![0, 128, 128] ![1, 128, 128] inb_S1x512x512_S1x128x128_0_128_128)))
    (View.ld (iblk m c 3 t) (Rect.unit ![0, 256, 0] ![1, 128, 256] inb_S1x512x256_S1x128x256_0_256_0))
    (View.ld (iblk m c 1 t) (Rect.unit ![0, 256, 0] ![1, 128, 128] inb_S1x512x256_S1x128x128_0_256_0))
    (View.ld (iblk m c 2 t) (Rect.unit ![0, 256, 0] ![1, 128, 128] inb_S1x512x512_S1x128x128_0_256_0))
    (View.ld (iblk m c 2 t) (Rect.unit ![0, 256, 128] ![1, 128, 128] inb_S1x512x512_S1x128x128_0_256_128)))
    (View.ld (iblk m c 3 t) (Rect.unit ![0, 384, 0] ![1, 128, 256] inb_S1x512x256_S1x128x256_0_384_0))
    (View.ld (iblk m c 1 t) (Rect.unit ![0, 384, 0] ![1, 128, 128] inb_S1x512x256_S1x128x128_0_384_0))
    (View.ld (iblk m c 2 t) (Rect.unit ![0, 384, 0] ![1, 128, 128] inb_S1x512x512_S1x128x128_0_384_0))
    (View.ld (iblk m c 2 t) (Rect.unit ![0, 384, 128] ![1, 128, 128] inb_S1x512x512_S1x128x128_0_384_128))

/-- The second pair's state after point `t`, from what it was before. -/
def after1 (t : Fin cfg0.N) (ST : Vec Ideal S1x128x128 .f32) : FVec Ideal S128x128 .f32 :=
  high (high (high (high (k0_pay7 ST)
    (View.ld (iblk m c 3 t) (Rect.unit ![0, 0, 0] ![1, 128, 256] inb_S1x512x256_S1x128x256_0_0_0))
    (View.ld (iblk m c 1 t) (Rect.unit ![0, 0, 128] ![1, 128, 128] inb_S1x512x256_S1x128x128_0_0_128))
    (View.ld (iblk m c 2 t) (Rect.unit ![0, 0, 256] ![1, 128, 128] inb_S1x512x512_S1x128x128_0_0_256))
    (View.ld (iblk m c 2 t) (Rect.unit ![0, 0, 384] ![1, 128, 128] inb_S1x512x512_S1x128x128_0_0_384)))
    (View.ld (iblk m c 3 t) (Rect.unit ![0, 128, 0] ![1, 128, 256] inb_S1x512x256_S1x128x256_0_128_0))
    (View.ld (iblk m c 1 t) (Rect.unit ![0, 128, 128] ![1, 128, 128] inb_S1x512x256_S1x128x128_0_128_128))
    (View.ld (iblk m c 2 t) (Rect.unit ![0, 128, 256] ![1, 128, 128] inb_S1x512x512_S1x128x128_0_128_256))
    (View.ld (iblk m c 2 t) (Rect.unit ![0, 128, 384] ![1, 128, 128] inb_S1x512x512_S1x128x128_0_128_384)))
    (View.ld (iblk m c 3 t) (Rect.unit ![0, 256, 0] ![1, 128, 256] inb_S1x512x256_S1x128x256_0_256_0))
    (View.ld (iblk m c 1 t) (Rect.unit ![0, 256, 128] ![1, 128, 128] inb_S1x512x256_S1x128x128_0_256_128))
    (View.ld (iblk m c 2 t) (Rect.unit ![0, 256, 256] ![1, 128, 128] inb_S1x512x512_S1x128x128_0_256_256))
    (View.ld (iblk m c 2 t) (Rect.unit ![0, 256, 384] ![1, 128, 128] inb_S1x512x512_S1x128x128_0_256_384)))
    (View.ld (iblk m c 3 t) (Rect.unit ![0, 384, 0] ![1, 128, 256] inb_S1x512x256_S1x128x256_0_384_0))
    (View.ld (iblk m c 1 t) (Rect.unit ![0, 384, 128] ![1, 128, 128] inb_S1x512x256_S1x128x128_0_384_128))
    (View.ld (iblk m c 2 t) (Rect.unit ![0, 384, 256] ![1, 128, 128] inb_S1x512x512_S1x128x128_0_384_256))
    (View.ld (iblk m c 2 t) (Rect.unit ![0, 384, 384] ![1, 128, 128] inb_S1x512x512_S1x128x128_0_384_384))

/-- How the first pair's state enters a point. -/
theorem entered0 (ST : Vec Ideal S1x128x128 .f32) (e x : Fin 128) : k0_pay6 ST (ix2 e x) = ST (ix3 0 e x) := by pointwise [k0_pay6]
/-- How the second pair's state enters a point. -/
theorem entered1 (ST : Vec Ideal S1x128x128 .f32) (e x : Fin 128) : k0_pay7 ST (ix2 e x) = ST (ix3 0 e x) := by pointwise [k0_pay7]

/-- The first pair's state after point `t`: 512 rows more. -/
theorem after0_at (hf : Finite m c) (t : Fin cfg0.N) (ST : Vec Ideal S1x128x128 .f32) (e x : Fin 128) (h : Fin 4)
    (hh : h.val = x.val / 64) (d : Fin 64) (hd : d.val = x.val % 64)
    (hs : ST (ix3 0 e x) = stateOf m c (batch t) h d e (512 * (t.val % 16))) :
    after0 m c t ST (ix2 e x) = stateOf m c (batch t) h d e (512 * (t.val % 16) + 512) :=
  low_step m c hf t 384 (by omega) _ _ e x _ _ _ h hh d hd <|
    low_step m c hf t 256 (by omega) _ _ e x _ _ _ h hh d hd <|
    low_step m c hf t 128 (by omega) _ _ e x _ _ _ h hh d hd <|
    low_step m c hf t 0 (by omega) _ _ e x _ _ _ h hh d hd ((entered0 ST e x).trans hs)

/-- The second pair's state after point `t`: 512 rows more. -/
theorem after1_at (hf : Finite m c) (t : Fin cfg0.N) (ST : Vec Ideal S1x128x128 .f32) (e x : Fin 128) (h : Fin 4)
    (hh : h.val = 2 + x.val / 64) (d : Fin 64) (hd : d.val = x.val % 64)
    (hs : ST (ix3 0 e x) = stateOf m c (batch t) h d e (512 * (t.val % 16))) :
    after1 m c t ST (ix2 e x) = stateOf m c (batch t) h d e (512 * (t.val % 16) + 512) :=
  high_step m c hf t 384 (by omega) _ _ e x _ _ _ h hh d hd <|
    high_step m c hf t 256 (by omega) _ _ e x _ _ _ h hh d hd <|
    high_step m c hf t 128 (by omega) _ _ e x _ _ _ h hh d hd <|
    high_step m c hf t 0 (by omega) _ _ e x _ _ _ h hh d hd ((entered1 ST e x).trans hs)

/-- How the scratch keeps the first pair's state. -/
theorem kept0 (X : FVec Ideal S128x128 .f32) (e x : Fin 128) : k0_pay848 X (ix3 0 e x) = X (ix2 e x) := by pointwise [k0_pay848]

/-- How the scratch keeps the second pair's state. -/
theorem kept1 (X : FVec Ideal S128x128 .f32) (B : FVec Ideal S1x128 .f32) (U : FVec Ideal S128x128 .f32) (e x : Fin 128) :
    k0_pay849 X B U (ix3 0 e x) = k0_pay847 X B U (ix2 e x) := by
  generalize hY : k0_pay847 X B U = Y
  pointwise [k0_pay849]
  rw [hY]

/-- What a batch's first point puts in the scratch: each pair's state, its rows and lanes exchanged. -/
def stores (t : Fin cfg0.N) : List (View.Piece (Elt Ideal) S2x128x128 .f32) :=
  [⟨Rect.unit ![1, 0, 0] ![1, 128, 128] inb_S2x128x128_S1x128x128_1_0_0,
      k0_pay4 (View.ld (iblk m c 6 t) (Rect.unit ![0, 1, 0, 0] ![1, 1, 128, 128] inb_S1x2x128x128_S1x1x128x128_0_1_0_0))⟩,
    ⟨Rect.unit ![0, 0, 0] ![1, 128, 128] inb_S2x128x128_S1x128x128_0_0_0,
      k0_pay3 (View.ld (iblk m c 6 t) (Rect.unit ![0, 0, 0, 0] ![1, 1, 128, 128] inb_S1x2x128x128_S1x1x128x128_0_0_0_0))⟩]

/-- Where the first pair's state lies in the scratch. -/
abbrev place0 : Rect S2x128x128 := Rect.unit ![0, 0, 0] ![1, 128, 128] inb_S2x128x128_S1x128x128_0_0_0

/-- Where the second pair's state lies in the scratch. -/
abbrev place1 : Rect S2x128x128 := Rect.unit ![1, 0, 0] ![1, 128, 128] inb_S2x128x128_S1x128x128_1_0_0

/-- The first pair's first state, as the scratch hands it back. -/
def first0 (t : Fin cfg0.N) : Vec Ideal S1x128x128 .f32 :=
  (View.whole cc0_scratch0).readCov (Val := Elt Ideal) (stores m c t) place0.toLoadRect

/-- The second pair's first state, as the scratch hands it back. -/
def first1 (t : Fin cfg0.N) : Vec Ideal S1x128x128 .f32 :=
  (View.whole cc0_scratch0).readCov (Val := Elt Ideal) (stores m c t) place1.toLoadRect

/-- A state before any row is the first state. -/
theorem state_zero (hf : Finite m c) (b : Fin 2) (h : Fin 4) (d : Fin 64) (e : Fin 128) :
    stateOf m c b h d e 0 = m ((c : Thread nD τ).loc main_arg6) (ix4 b h d e) := by
  unfold stateOf GlaPrompt.headState GlaPrompt.carried
  rw [Finset.range_zero, Finset.sum_empty, add_zero, show GlaPrompt.total _ 0 = 0 from Finset.sum_empty, GlaPrompt.exp_coe,
    Real.exp_zero, EReal.coe_one, one_mul]

/-- At a batch's first point the scratch hands back the first pair's first state. -/
theorem first0_at (hf : Finite m c) (t : Fin cfg0.N) (h0 : t.val % 16 = 0) (e x : Fin 128) (h : Fin 4) (hh : h.val = x.val / 64)
    (d : Fin 64) (hd : d.val = x.val % 64) :
    first0 m c t (ix3 0 e x : S1x128x128.Idx) = stateOf m c (batch t) h d e (512 * (t.val % 16)) := by
  rw [h0, Nat.mul_zero, state_zero m c hf]
  unfold first0 stores
  rw [View.readCov_skip _ _ _ _ _ (by decide +kernel)]
  rw [View.readCov_cons_toLoadRect]
  refine Eq.trans (b := View.ld (iblk m c 6 t)
    (Rect.unit ![0, 0, 0, 0] ![1, 1, 128, 128] inb_S1x2x128x128_S1x1x128x128_0_0_0_0) (ix4 0 0 x e : S1x1x128x128.Idx)) ?_ ?_
  · pointwise [k0_pay3]
  · refine (View.ld_unit_apply_of (S := S1x2x128x128) _ _ _ _ _ (ix4 0 0 x e) fun a => ?_).trans ((block6 m c t 0 x e).trans ?_)
    · match a with
      | ⟨0, _⟩ => rfl
      | ⟨1, _⟩ => rfl
      | ⟨2, _⟩ => exact (Nat.zero_add _).symm
      | ⟨3, _⟩ => exact (Nat.zero_add _).symm
    · rw [show (⟨((0 : Fin 2) : Nat) * 2 + x.val / 64, by omega⟩ : Fin 4) = h from Fin.ext (by show 0 * 2 + x.val / 64 = h.val; omega),
        show (⟨x.val % 64, by omega⟩ : Fin 64) = d from Fin.ext hd.symm]

/-- At a batch's first point the scratch hands back the second pair's first state. -/
theorem first1_at (hf : Finite m c) (t : Fin cfg0.N) (h0 : t.val % 16 = 0) (e x : Fin 128) (h : Fin 4) (hh : h.val = 2 + x.val / 64)
    (d : Fin 64) (hd : d.val = x.val % 64) :
    first1 m c t (ix3 0 e x : S1x128x128.Idx) = stateOf m c (batch t) h d e (512 * (t.val % 16)) := by
  rw [h0, Nat.mul_zero, state_zero m c hf]
  unfold first1 stores
  rw [View.readCov_cons_toLoadRect]
  refine Eq.trans (b := View.ld (iblk m c 6 t)
    (Rect.unit ![0, 1, 0, 0] ![1, 1, 128, 128] inb_S1x2x128x128_S1x1x128x128_0_1_0_0) (ix4 0 0 x e : S1x1x128x128.Idx)) ?_ ?_
  · pointwise [k0_pay4]
  · refine (View.ld_unit_apply_of (S := S1x2x128x128) _ _ _ _ _ (ix4 0 1 x e) fun a => ?_).trans ((block6 m c t 1 x e).trans ?_)
    · match a with
      | ⟨0, _⟩ => rfl
      | ⟨1, _⟩ => rfl
      | ⟨2, _⟩ => exact (Nat.zero_add _).symm
      | ⟨3, _⟩ => exact (Nat.zero_add _).symm
    · rw [show (⟨((1 : Fin 2) : Nat) * 2 + x.val / 64, by omega⟩ : Fin 4) = h from Fin.ext (by show 1 * 2 + x.val / 64 = h.val; omega),
        show (⟨x.val % 64, by omega⟩ : Fin 64) = d from Fin.ext hd.symm]

/-- A pair's state, as a later point finds it in the scratch. -/
theorem found_at (X : Vec Ideal S2x128x128 .f32) (p : Fin 2)
    (inb : ∀ a, (![p.val, 0, 0] : Fin 3 → Nat) a + (![1, 128, 128] : Fin 3 → Nat) a ≤ S2x128x128.size a) (e x : Fin 128) :
    View.ld (View.read (Elt Ideal) (View.whole cc0_scratch0) ((Memref.isWhole_whole cc0_scratch0).unread X))
      (Rect.unit (![p.val, 0, 0] : Fin 3 → Nat) ![1, 128, 128] inb) (ix3 0 e x : S1x128x128.Idx) = X (ix3 p e x) := by
  have hr : View.read (Elt Ideal) (View.whole cc0_scratch0) ((Memref.isWhole_whole cc0_scratch0).unread X) = X :=
    (Memref.isWhole_whole cc0_scratch0).read_unread X
  rw [hr]
  refine View.ld_unit_apply_of (S := S2x128x128) _ _ _ _ _ (ix3 p e x) fun a => ?_
  match a with
  | ⟨0, _⟩ => rfl
  | ⟨1, _⟩ => exact (Nat.zero_add _).symm
  | ⟨2, _⟩ => exact (Nat.zero_add _).symm

end Cert.GlaPromptIdeal.GlaValue

end
end
-- ==== Proof.GlaPromptValue.lean ====
/- What the prompt's gated linear attention kernel leaves in its states' array: the scratch holds the two pairs' states after
every point, by induction on the points, and a batch's last point stores them. -/
module

public import proofs.«01_k».proof.Proof.GlaPromptPoint

@[expose] public section

set_option maxRecDepth 16384

noncomputable section

namespace Cert.GlaPromptIdeal.GlaValue

open Idealize.ShloMosaic Idealize.ShloMosaic.TcCoe Idealize.SL.Sem
open Idealize.ShloMosaic.Pipeline (Dat)
open Cert.GlaPromptIdeal Cert.GlaPromptIdeal.Gen

variable (m : (ℓ : Loc nD τ sig) → Buf (Elt Ideal) ℓ) (c : Dev nD)

/-- What the scratch holds at pair `p`, value lane `e` and lane `l` of the pair, after `n` rows of batch `b`. -/
abbrev lane (b : Fin 2) (p : Fin 2) (e l : Fin 128) (n : Nat) : EReal :=
  stateOf m c b ⟨p.val * 2 + l.val / 64, by omega⟩ ⟨l.val % 64, by omega⟩ e n

/-- What the scratch holds before point `t`, where it is not a batch's first. -/
abbrev before (t : Fin cfg0.N) : Vec Ideal S2x128x128 .f32 :=
  (outsAt0 m c (t.val - 1) (by have := t.isLt; omega)).2.2

/-- What lies in the scratch at the second pair, where it was stored last. -/
theorem scratch1 (P : place1.shape.Idx → Elt Ideal .f32) (L : List (View.Piece (Elt Ideal) S2x128x128 .f32)) (e l : Fin 128) :
    View.canon (⟨place1, P⟩ :: L) (ix3 1 e l : S2x128x128.Idx) = P (ix3 0 e l : S1x128x128.Idx) := by
  have h : (ix3 1 e l : S2x128x128.Idx) = place1.emb (ix3 0 e l : S1x128x128.Idx) := by
    funext a
    refine Fin.ext ((ValueKit.rect_emb_unit_val _ _ _ _ a).symm ▸ ?_)
    match a with
    | ⟨0, _⟩ => rfl
    | ⟨1, _⟩ => exact (Nat.zero_add _).symm
    | ⟨2, _⟩ => exact (Nat.zero_add _).symm
  rw [h]
  exact View.canon_cons_emb place1 P L _

/-- What lies in the scratch at the first pair, where it was stored last but for the second pair. -/
theorem scratch0 (P : place1.shape.Idx → Elt Ideal .f32) (Q : place0.shape.Idx → Elt Ideal .f32)
    (L : List (View.Piece (Elt Ideal) S2x128x128 .f32)) (e l : Fin 128) :
    View.canon (⟨place1, P⟩ :: ⟨place0, Q⟩ :: L) (ix3 0 e l : S2x128x128.Idx) = Q (ix3 0 e l : S1x128x128.Idx) := by
  have h : (ix3 0 e l : S2x128x128.Idx) = place0.emb (ix3 0 e l : S1x128x128.Idx) := by
    funext a
    refine Fin.ext ((ValueKit.rect_emb_unit_val _ _ _ _ a).symm ▸ ?_)
    match a with
    | ⟨0, _⟩ => rfl
    | ⟨1, _⟩ => exact (Nat.zero_add _).symm
    | ⟨2, _⟩ => exact (Nat.zero_add _).symm
  rw [View.canon_cons_of_not_mem]
  · rw [h]
    exact View.canon_cons_emb place0 Q L _
  · intro hm
    obtain ⟨x, hx⟩ := place1.exists_idx_of_mem hm
    have h0 : (1 + 1 * (x 0).val : Nat) = 0 := congrArg (fun y : S2x128x128.Idx => (y 0).val) hx
    omega

set_option maxHeartbeats 4000000 in
/-- A batch's first point leaves its 512 rows' states in the scratch. -/
theorem scratch_first (hf : Finite m c) (t : Fin cfg0.N) (h0 : t.val % 16 = 0) (p : Fin 2) (e l : Fin 128) :
    (outsAt0 m c t.val t.isLt).2.2 (ix3 p e l : S2x128x128.Idx) = lane m c (batch t) p e l (512 * (t.val % 16) + 512) := by
  rw [outsAt0_A m c t h0 (by omega)]
  frame_out
  match p with
  | 0 =>
    refine (scratch0 _ _ _ e l).trans ((kept0 _ e l).trans ?_)
    exact after0_at m c hf t (first0 m c t) e l _ (by show 0 * 2 + l.val / 64 = l.val / 64; omega) _ rfl
      (first0_at m c hf t h0 e l _ (by show 0 * 2 + l.val / 64 = l.val / 64; omega) _ rfl)
  | 1 =>
    refine (scratch1 _ _ e l).trans ((kept1 _ _ _ e l).trans ?_)
    exact after1_at m c hf t (first1 m c t) e l _ (by show 1 * 2 + l.val / 64 = 2 + l.val / 64; omega) _ rfl
      (first1_at m c hf t h0 e l _ (by show 1 * 2 + l.val / 64 = 2 + l.val / 64; omega) _ rfl)

set_option maxHeartbeats 4000000 in
/-- A later point adds its 512 rows to the states it finds in the scratch. -/
theorem scratch_next (hf : Finite m c) (t : Fin cfg0.N) (h0 : ¬t.val % 16 = 0) (p : Fin 2) (e l : Fin 128)
    (hb : before m c t (ix3 p e l : S2x128x128.Idx) = lane m c (batch t) p e l (512 * (t.val % 16))) :
    (outsAt0 m c t.val t.isLt).2.2 (ix3 p e l : S2x128x128.Idx) = lane m c (batch t) p e l (512 * (t.val % 16) + 512) := by
  by_cases h1 : t.val % 16 = 15
  · rw [outsAt0_C m c t h0 h1]
    frame_out
    match p with
    | 0 =>
      refine (scratch0 _ _ _ e l).trans ((kept0 _ e l).trans ?_)
      exact after0_at m c hf t _ e l _ (by show 0 * 2 + l.val / 64 = l.val / 64; omega) _ rfl ((found_at _ 0 _ e l).trans hb)
    | 1 =>
      refine (scratch1 _ _ e l).trans ((kept1 _ _ _ e l).trans ?_)
      exact after1_at m c hf t _ e l _ (by show 1 * 2 + l.val / 64 = 2 + l.val / 64; omega) _ rfl ((found_at _ 1 _ e l).trans hb)
  · rw [outsAt0_B m c t h0 h1]
    frame_out
    match p with
    | 0 =>
      refine (scratch0 _ _ _ e l).trans ((kept0 _ e l).trans ?_)
      exact after0_at m c hf t _ e l _ (by show 0 * 2 + l.val / 64 = l.val / 64; omega) _ rfl ((found_at _ 0 _ e l).trans hb)
    | 1 =>
      refine (scratch1 _ _ e l).trans ((kept1 _ _ _ e l).trans ?_)
      exact after1_at m c hf t _ e l _ (by show 1 * 2 + l.val / 64 = 2 + l.val / 64; omega) _ rfl ((found_at _ 1 _ e l).trans hb)

/-- After every point the scratch holds the states of the rows so far of the point's batch. -/
theorem scratch_at (hf : Finite m c) : ∀ (n : Nat) (hn : n < cfg0.N) (p : Fin 2) (e l : Fin 128),
    (outsAt0 m c n hn).2.2 (ix3 p e l : S2x128x128.Idx) = lane m c (batch ⟨n, hn⟩) p e l (512 * (n % 16) + 512)
  | 0, hn, p, e, l => scratch_first m c hf ⟨0, hn⟩ rfl p e l
  | n + 1, hn, p, e, l => by
    by_cases h0 : (n + 1) % 16 = 0
    · exact scratch_first m c hf ⟨n + 1, hn⟩ h0 p e l
    · refine scratch_next m c hf ⟨n + 1, hn⟩ h0 p e l ((scratch_at hf n (by omega) p e l).trans ?_)
      have hb : batch ⟨n, by omega⟩ = batch ⟨n + 1, hn⟩ := Fin.ext (by show n / 16 = (n + 1) / 16; omega)
      have hr : 512 * (n % 16) + 512 = 512 * ((n + 1) % 16) := by omega
      rw [hb, hr]

/-- What point `t` finds in the scratch, where it is not a batch's first. -/
theorem before_at (hf : Finite m c) (t : Fin cfg0.N) (h0 : ¬t.val % 16 = 0) (p : Fin 2) (e l : Fin 128) :
    before m c t (ix3 p e l : S2x128x128.Idx) = lane m c (batch t) p e l (512 * (t.val % 16)) := by
  refine (scratch_at m c hf (t.val - 1) (by have := t.isLt; omega) p e l).trans ?_
  have hb : batch ⟨t.val - 1, by have := t.isLt; omega⟩ = batch t := Fin.ext (by show (t.val - 1) / 16 = t.val / 16; omega)
  have hr : 512 * ((t.val - 1) % 16) + 512 = 512 * (t.val % 16) := by omega
  rw [hb, hr]

/-- How the states' array takes the first pair's state: rows and lanes exchanged. -/
theorem stored0 (X : FVec Ideal S128x128 .f32) (l e : Fin 128) : k0_pay1 X (ix4 0 0 l e : S1x1x128x128.Idx) = X (ix2 e l) := by
  pointwise [k0_pay1]

/-- How the states' array takes the second pair's state. -/
theorem stored1 (X : FVec Ideal S128x128 .f32) (l e : Fin 128) : k0_pay2 X (ix4 0 0 l e : S1x1x128x128.Idx) = X (ix2 e l) := by
  pointwise [k0_pay2]

set_option maxRecDepth 65536 in
/-- The states' array is written back after a batch's last point only. -/
theorem flushed : ∀ t : Fin cfg0.N, (cfg0.win 8).flush t = true → t.val % 16 = 15 := by decide +kernel

set_option maxHeartbeats 4000000 in
/-- The states' array after the run, at batch `b`, pair `p`, row `l` and lane `e`. -/
theorem final8 (hf : Finite m c) : (dats m 0 c).arrAt 8 cfg0.N = fun i => GlaPrompt.stateAt (m ((c : Thread nD τ).loc main_arg1))
    (m ((c : Thread nD τ).loc main_arg2)) (m ((c : Thread nD τ).loc main_arg3)) (m ((c : Thread nD τ).loc main_arg6))
    (i 0) (i 1) (i 2) (i 3) := by
  refine (dats m 0 c).arrAt_eq_of_covers 8 _ (by decide +kernel) fun t hfl y => ?_
  obtain ⟨p, l, e, rfl⟩ : ∃ (p : Fin 2) (l e : Fin 128), y = (ix4 0 p l e : S1x2x128x128.Idx) :=
    ⟨y 1, y 2, y 3, by
      funext a
      match a with
      | ⟨0, _⟩ => exact Subsingleton.elim (α := Fin 1) _ _
      | ⟨1, _⟩ => rfl
      | ⟨2, _⟩ => rfl
      | ⟨3, _⟩ => rfl⟩
  have e' : ((cfg0.win 8).blk t).view.emb (ix4 0 p l e : S1x2x128x128.Idx) = (ix4 (batch t) p l e : S2x2x128x128.Idx) := by
    blk_ext [index8 t, batch]
  rw [e']
  show (dats m 0 c).after 8 t (ix4 0 p l e : S1x2x128x128.Idx) = GlaPrompt.stateAt _ _ _ _ (batch t) p l e
  have hlast : t.val % 16 = 15 := flushed t hfl
  have hrows : 8192 = 512 * (t.val % 16) + 512 := by omega
  have hg : GlaPrompt.stateAt (m ((c : Thread nD τ).loc main_arg1)) (m ((c : Thread nD τ).loc main_arg2))
      (m ((c : Thread nD τ).loc main_arg3)) (m ((c : Thread nD τ).loc main_arg6)) (batch t) p l e
      = lane m c (batch t) p e l (512 * (t.val % 16) + 512) := by
    rw [← hrows]
    rfl
  rw [hg]
  rw [after0_8, outsAt0_C m c t (by omega) hlast]
  frame_out
  canon_tiles x h
  · obtain ⟨l', e', rfl⟩ : ∃ l' e' : Fin 128, x = (ix4 0 0 l' e' : S1x1x128x128.Idx) :=
      ⟨x 2, x 3, by
        funext a
        match a with
        | ⟨0, _⟩ => exact Subsingleton.elim (α := Fin 1) _ _
        | ⟨1, _⟩ => exact Subsingleton.elim (α := Fin 1) _ _
        | ⟨2, _⟩ => rfl
        | ⟨3, _⟩ => rfl⟩
    obtain rfl : l = l' := Fin.ext (by have := h2; simpa using this)
    obtain rfl : e = e' := Fin.ext (by have := h3; simpa using this)
    obtain rfl : p = 1 := Fin.ext (by have := h1; simpa using this)
    refine (stored1 _ l e).trans ?_
    exact after1_at m c hf t _ e l _ (by show 1 * 2 + l.val / 64 = 2 + l.val / 64; omega) _ rfl
      ((found_at _ 1 _ e l).trans (before_at m c hf t (by omega) 1 e l))
  · obtain ⟨l', e', rfl⟩ : ∃ l' e' : Fin 128, x = (ix4 0 0 l' e' : S1x1x128x128.Idx) :=
      ⟨x 2, x 3, by
        funext a
        match a with
        | ⟨0, _⟩ => exact Subsingleton.elim (α := Fin 1) _ _
        | ⟨1, _⟩ => exact Subsingleton.elim (α := Fin 1) _ _
        | ⟨2, _⟩ => rfl
        | ⟨3, _⟩ => rfl⟩
    obtain rfl : l = l' := Fin.ext (by have := h2; simpa using this)
    obtain rfl : e = e' := Fin.ext (by have := h3; simpa using this)
    obtain rfl : p = 0 := Fin.ext (by have := h1; simpa using this)
    refine (stored0 _ l e).trans ?_
    exact after0_at m c hf t _ e l _ (by show 0 * 2 + l.val / 64 = l.val / 64; omega) _ rfl
      ((found_at _ 0 _ e l).trans (before_at m c hf t (by omega) 0 e l))

end Cert.GlaPromptIdeal.GlaValue

end
end
-- ==== Proof.GlaPromptClaim.lean ====
/-
The gated linear attention call of the prompt: the states the kernel leaves are the reference's, where every log decay is
finite.
-/
module

public import proofs.«01_k».proof.Defs
public import proofs.«01_k».proof.Proof.Gen.GlaPromptIdeal.Value
public import proofs.«01_k».proof.Proof.Gen.GlaPromptRefIdeal.Run
public import proofs.«01_k».proof.Proof.Gen.GlaPromptRefIdeal.Read
public import proofs.«01_k».proof.Proof.GlaPromptReference
public import proofs.«01_k».proof.Proof.GlaPromptValue

@[expose] public section

set_option maxRecDepth 16384

noncomputable section

namespace Cert.GlaPromptClaim

open Idealize.ShloMosaic Idealize.ShloMosaic.TcCoe Idealize.SL.Sem
open Idealize.ShloMosaic.Pipeline (Dat)

/-- What the precondition's one broadcast asks of its shapes. -/
theorem preFacts : Cert.Pre_finite_decays.Facts := ⟨by decide⟩

/-- The bound of the precondition is the top of the extended reals. -/
theorem bound : Ideal.ofBits .f32 0x7F800000#32 = (⊤ : EReal) := by
  simp [Ideal.ofBits, Ideal.ieee]

/-- A number whose absolute value lies below the bound is finite. -/
theorem finite_of (a : EReal) (h : Ideal.cmp .olt (max a (-a)) (Ideal.ofBits .f32 0x7F800000#32) = 1#1) : a ≠ ⊤ ∧ a ≠ ⊥ := by
  rw [bound] at h
  refine ⟨fun he => ?_, fun he => ?_⟩ <;> rw [he] at h <;> simp [Ideal.cmp] at h

/-- The precondition says that every log decay is finite. -/
theorem finite (m : (ℓ : Loc Cert.GlaPromptIdeal.nD Cert.GlaPromptIdeal.τ Cert.GlaPromptIdeal.sig) → Buf (Elt Ideal) ℓ)
    (hp : Cert.Pre_GlaPromptIdeal_finite_decays (hPre_finite_decays := preFacts) m) (c : Dev Cert.GlaPromptIdeal.nD) :
    Cert.GlaPromptIdeal.GlaValue.Finite m c := by
  intro i
  have h := congrFun (hp c) i
  exact finite_of _ h

/-- The array the kernel leaves for window 8 is what the reference computes as `main_v19`, when the arguments are the same. -/
theorem same8 (m : (ℓ : Loc Cert.GlaPromptIdeal.nD Cert.GlaPromptIdeal.τ Cert.GlaPromptIdeal.sig) → Buf (Elt Ideal) ℓ)
    (m' : (ℓ : Loc Cert.GlaPromptRefIdeal.nD Cert.GlaPromptRefIdeal.τ Cert.GlaPromptRefIdeal.sig) → Buf (Elt Ideal) ℓ)
    (c : Dev Cert.GlaPromptIdeal.nD) (hf : Cert.GlaPromptIdeal.GlaValue.Finite m c)
    (h1 : m' ((c.tc : Thread Cert.GlaPromptRefIdeal.nD Cert.GlaPromptRefIdeal.τ).loc Cert.GlaPromptRefIdeal.main_arg1) = m ((c.tc : Thread Cert.GlaPromptIdeal.nD Cert.GlaPromptIdeal.τ).loc Cert.GlaPromptIdeal.main_arg1))
    (h2 : m' ((c.tc : Thread Cert.GlaPromptRefIdeal.nD Cert.GlaPromptRefIdeal.τ).loc Cert.GlaPromptRefIdeal.main_arg2) = m ((c.tc : Thread Cert.GlaPromptIdeal.nD Cert.GlaPromptIdeal.τ).loc Cert.GlaPromptIdeal.main_arg2))
    (h3 : m' ((c.tc : Thread Cert.GlaPromptRefIdeal.nD Cert.GlaPromptRefIdeal.τ).loc Cert.GlaPromptRefIdeal.main_arg3) = m ((c.tc : Thread Cert.GlaPromptIdeal.nD Cert.GlaPromptIdeal.τ).loc Cert.GlaPromptIdeal.main_arg3))
    (h6 : m' ((c.tc : Thread Cert.GlaPromptRefIdeal.nD Cert.GlaPromptRefIdeal.τ).loc Cert.GlaPromptRefIdeal.main_arg6) = m ((c.tc : Thread Cert.GlaPromptIdeal.nD Cert.GlaPromptIdeal.τ).loc Cert.GlaPromptIdeal.main_arg6)) :
    Cert.GlaPromptRefIdeal.Read.val_main_v19 (F := Ideal) (m' ((c.tc : Thread Cert.GlaPromptRefIdeal.nD Cert.GlaPromptRefIdeal.τ).loc Cert.GlaPromptRefIdeal.main_arg1)) (m' ((c.tc : Thread Cert.GlaPromptRefIdeal.nD Cert.GlaPromptRefIdeal.τ).loc Cert.GlaPromptRefIdeal.main_arg2)) (m' ((c.tc : Thread Cert.GlaPromptRefIdeal.nD Cert.GlaPromptRefIdeal.τ).loc Cert.GlaPromptRefIdeal.main_arg3)) (m' ((c.tc : Thread Cert.GlaPromptRefIdeal.nD Cert.GlaPromptRefIdeal.τ).loc Cert.GlaPromptRefIdeal.main_arg6)) = (Cert.GlaPromptIdeal.Gen.dats m 0 c).arrAt 8 Cert.GlaPromptIdeal.cfg0.N := by
  rw [h1, h2, h3, h6]
  refine Eq.trans ?_ (Cert.GlaPromptIdeal.GlaValue.final8 m c hf).symm
  funext i
  obtain ⟨b, p, l, e, rfl⟩ : ∃ b p l e, i = ix4 b p l e := ⟨i 0, i 1, i 2, i 3, eq_ix4 i⟩
  exact Cert.GlaPromptRefIdeal.RefValue.state_at _ _ _ _ hf b p l e

set_option maxHeartbeats 4000000 in
/-- The kernel and the reference, run from equal arguments, leave equal states. -/
theorem algebraic : Cert.algebraic_GlaPromptIdeal_GlaPromptRefIdeal_pre_finite_decays
    (hGlaPromptIdeal := Cert.GlaPromptIdeal.Gen.facts) (hGlaPromptRefIdeal := Cert.GlaPromptRefIdeal.Gen.facts)
    (hPre_finite_decays := preFacts) := by
  intro m g m' g' hp hargs
  refine ⟨fun c => (Cert.GlaPromptIdeal.Gen.dats m 0 c).arrAt 8 Cert.GlaPromptIdeal.cfg0.N, ?_, ?_⟩
  · refine (θ_run Cert.GlaPromptIdeal.defs _ _).mono (fun r h c => ?_) (Cert.GlaPromptIdeal.Value.run_blocks m g)
    obtain ⟨_, e8, hk⟩ := h c
    exact ⟨e8, hk⟩
  · refine (θ_run Cert.GlaPromptRefIdeal.defs _ _).mono (fun r h c => ?_) (Cert.GlaPromptRefIdeal.Value.run (F := Ideal) m' g')
    obtain ⟨e8, hk⟩ := h c
    obtain ⟨_, h1, h2, h3, _, _, h6⟩ := hargs c
    refine ⟨e8.trans ?_, hk⟩
    exact Eq.trans (Cert.GlaPromptRefIdeal.Read.val_main_v19_eq _ _ _ _) (same8 m m' c (finite m hp c) h1 h2 h3 h6)

end Cert.GlaPromptClaim

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.KernelIdeal.Value
public import proofs.«01_k».proof.Proof.Gen.MixIdeal.Value
public import proofs.«01_k».proof.Proof.Gen.ProjIdeal.Value
public import proofs.«01_k».proof.Proof.Gen.ReferenceIdeal.Run
public import proofs.«01_k».proof.Proof.Gen.ReferenceIdeal.Read
public import proofs.«01_k».proof.Proof.Gen.MixRefIdeal.Run
public import proofs.«01_k».proof.Proof.Gen.MixRefIdeal.Read
public import proofs.«01_k».proof.Proof.Gen.ProjRefIdeal.Run
public import proofs.«01_k».proof.Proof.Gen.ProjRefIdeal.Read
public import proofs.«01_k».proof.Proof.Gen.MixSample
public import proofs.«01_k».proof.Proof.Gen.MixSample.Skeleton
public import proofs.«01_k».proof.Proof.Gen.MixSample.Launch
public import proofs.«01_k».proof.Proof.Gen.MixSample.Points
public import proofs.«01_k».proof.Proof.Gen.MixSample.Frame
public import proofs.«01_k».proof.Proof.Gen.MixSampleIdeal
public import proofs.«01_k».proof.Proof.Gen.MixSampleIdeal.Skeleton
public import proofs.«01_k».proof.Proof.Gen.MixSampleIdeal.Launch
public import proofs.«01_k».proof.Proof.Gen.MixSampleIdeal.Points
public import proofs.«01_k».proof.Proof.Gen.MixSampleIdeal.Frame
public import proofs.«01_k».proof.Proof.Gen.MixSampleRefIdeal
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.MixSampleIdeal.Value
public import proofs.«01_k».proof.Proof.Gen.ProjSampleIdeal.Value
public import proofs.«01_k».proof.Proof.Gen.MixSampleRefIdeal.Run
public import proofs.«01_k».proof.Proof.Gen.MixSampleRefIdeal.Read
public import proofs.«01_k».proof.Proof.Gen.ProjSampleRefIdeal.Run
public import proofs.«01_k».proof.Proof.Gen.ProjSampleRefIdeal.Read
public import proofs.«01_k».proof.Proof.Gen.GlaPrompt
public import proofs.«01_k».proof.Proof.Gen.GlaPrompt.Skeleton
public import proofs.«01_k».proof.Proof.Gen.GlaPrompt.Launch
public import proofs.«01_k».proof.Proof.Gen.GlaPrompt.Points
public import proofs.«01_k».proof.Proof.Gen.GlaPrompt.Frame
public import proofs.«01_k».proof.Proof.Gen.GlaPromptIdeal
public import proofs.«01_k».proof.Proof.Gen.GlaPromptIdeal.Skeleton
public import proofs.«01_k».proof.Proof.Gen.GlaPromptIdeal.Launch
public import proofs.«01_k».proof.Proof.Gen.GlaPromptIdeal.Points
public import proofs.«01_k».proof.Proof.Gen.GlaPromptIdeal.Frame
public import proofs.«01_k».proof.Proof.Gen.GlaPromptIdeal.Value
public import proofs.«01_k».proof.Proof.Gen.GlaPromptRefIdeal
public import proofs.«01_k».proof.Proof.Gen.GlaPromptRefIdeal.Run
public import proofs.«01_k».proof.Proof.Gen.GlaPromptRefIdeal.Read
public import proofs.«01_k».proof.Proof.GlaClaim
public import proofs.«01_k».proof.Proof.MixClaim
public import proofs.«01_k».proof.Proof.ProjClaim
public import proofs.«01_k».proof.Proof.MixSampleClaim
public import proofs.«01_k».proof.Proof.ProjSampleClaim
public import proofs.«01_k».proof.Proof.GlaPromptClaim
public import Idealize.ShloMosaic.Adequacy
public import Idealize.ShloMosaic.Init

@[expose] public section

noncomputable section

namespace Cert.Proof

open Idealize.ShloMosaic Idealize.SL.Sem Cert.Kernel

/-- The reference `ReferenceIdeal` runs, leaves its arguments alone and ends with every semaphore at zero. -/
theorem frame_ReferenceIdeal : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The same where no log decay is positive. -/
theorem frame_ReferenceIdeal_decaying : Cert.quiescent_ReferenceIdeal_pre_decaying (hReferenceIdeal := Cert.ReferenceIdeal.Gen.facts)
    (hPre_decaying := Cert.GlaClaim.preFacts) := fun m ρ _ => frame_ReferenceIdeal m ρ trivial

/-- The reference `MixRefIdeal` runs, leaves its arguments alone and ends with every semaphore at zero. -/
theorem frame_MixRefIdeal : Cert.quiescent_MixRefIdeal (hMixRefIdeal := Cert.MixRefIdeal.Gen.facts) := fun m ρ _ =>
  (θ_run Cert.MixRefIdeal.defs _ _).mono
    (fun r h => ⟨fun c => (h c).2, Idealize.ShloMosaic.sem_eq_zero_of_no_sems (by decide) r.2⟩)
    (Cert.MixRefIdeal.Value.run (F := Ideal) m ρ)

/-- The reference `ProjRefIdeal` runs, leaves its arguments alone and ends with every semaphore at zero. -/
theorem frame_ProjRefIdeal : Cert.quiescent_ProjRefIdeal (hProjRefIdeal := Cert.ProjRefIdeal.Gen.facts) := fun m ρ _ =>
  (θ_run Cert.ProjRefIdeal.defs _ _).mono
    (fun r h => ⟨fun c => (h c).2.2.2.2.2.2.2.2.2.2.2.2.2, Idealize.ShloMosaic.sem_eq_zero_of_no_sems (by decide) r.2⟩)
    (Cert.ProjRefIdeal.Value.run (F := Ideal) m ρ)

/-- The reference `MixSampleRefIdeal` runs, leaves its arguments alone and ends with every semaphore at zero. -/
theorem frame_MixSampleRefIdeal : Cert.quiescent_MixSampleRefIdeal (hMixSampleRefIdeal := Cert.MixSampleRefIdeal.Gen.facts) := fun m ρ _ =>
  (θ_run Cert.MixSampleRefIdeal.defs _ _).mono
    (fun r h => ⟨fun c => (h c).2, Idealize.ShloMosaic.sem_eq_zero_of_no_sems (by decide) r.2⟩)
    (Cert.MixSampleRefIdeal.Value.run (F := Ideal) m ρ)

/-- The reference `ProjSampleRefIdeal` runs, leaves its arguments alone and ends with every semaphore at zero. -/
theorem frame_ProjSampleRefIdeal : Cert.quiescent_ProjSampleRefIdeal (hProjSampleRefIdeal := Cert.ProjSampleRefIdeal.Gen.facts) := fun m ρ _ =>
  (θ_run Cert.ProjSampleRefIdeal.defs _ _).mono
    (fun r h => ⟨fun c => (h c).2.2.2.2.2.2.2.2.2.2, Idealize.ShloMosaic.sem_eq_zero_of_no_sems (by decide) r.2⟩)
    (Cert.ProjSampleRefIdeal.Value.run (F := Ideal) m ρ)

/-- The reference `GlaPromptRefIdeal` runs, leaves its arguments alone and ends with every semaphore at zero. -/
theorem frame_GlaPromptRefIdeal : Cert.quiescent_GlaPromptRefIdeal (hGlaPromptRefIdeal := Cert.GlaPromptRefIdeal.Gen.facts) := fun m ρ _ =>
  (θ_run Cert.GlaPromptRefIdeal.defs _ _).mono
    (fun r h => ⟨fun c => (h c).2, Idealize.ShloMosaic.sem_eq_zero_of_no_sems (by decide) r.2⟩)
    (Cert.GlaPromptRefIdeal.Value.run (F := Ideal) m ρ)

/-- The same where every log decay is finite. -/
theorem frame_GlaPromptRefIdeal_finite : Cert.quiescent_GlaPromptRefIdeal_pre_finite_decays
    (hGlaPromptRefIdeal := Cert.GlaPromptRefIdeal.Gen.facts) (hPre_finite_decays := Cert.GlaPromptClaim.preFacts) :=
  fun m ρ _ => frame_GlaPromptRefIdeal m ρ trivial

theorem claim : Cert.Claim :=
  ⟨Cert.Kernel.Gen.facts, Cert.KernelIdeal.Gen.facts, Cert.ReferenceIdeal.Gen.facts, Cert.Mix.Gen.facts,
    Cert.MixIdeal.Gen.facts, Cert.MixRefIdeal.Gen.facts, Cert.Proj.Gen.facts, Cert.ProjIdeal.Gen.facts,
    Cert.ProjRefIdeal.Gen.facts, Cert.MixSample.Gen.facts, Cert.MixSampleIdeal.Gen.facts,
    Cert.MixSampleRefIdeal.Gen.facts, Cert.ProjSample.Gen.facts, Cert.ProjSampleIdeal.Gen.facts,
    Cert.ProjSampleRefIdeal.Gen.facts, Cert.GlaPrompt.Gen.facts, Cert.GlaPromptIdeal.Gen.facts,
    Cert.GlaPromptRefIdeal.Gen.facts, Cert.GlaClaim.preFacts, Cert.GlaPromptClaim.preFacts,
    fun m ρ _ => Cert.Kernel.Gen.frame m ρ,
    fun m ρ _ => Cert.KernelIdeal.Gen.frame m ρ,
    fun m ρ _ => Cert.KernelIdeal.Gen.frame m ρ,
    frame_ReferenceIdeal,
    frame_ReferenceIdeal_decaying,
    fun m ρ _ => Cert.Mix.Gen.frame m ρ,
    fun m ρ _ => Cert.MixIdeal.Gen.frame m ρ,
    frame_MixRefIdeal,
    fun m ρ _ => Cert.Proj.Gen.frame m ρ,
    fun m ρ _ => Cert.ProjIdeal.Gen.frame m ρ,
    frame_ProjRefIdeal,
    fun m ρ _ => Cert.MixSample.Gen.frame m ρ,
    fun m ρ _ => Cert.MixSampleIdeal.Gen.frame m ρ,
    frame_MixSampleRefIdeal,
    fun m ρ _ => Cert.ProjSample.Gen.frame m ρ,
    fun m ρ _ => Cert.ProjSampleIdeal.Gen.frame m ρ,
    frame_ProjSampleRefIdeal,
    fun m ρ _ => Cert.GlaPrompt.Gen.frame m ρ,
    fun m ρ _ => Cert.GlaPromptIdeal.Gen.frame m ρ,
    fun m ρ _ => Cert.GlaPromptIdeal.Gen.frame m ρ,
    frame_GlaPromptRefIdeal,
    frame_GlaPromptRefIdeal_finite,
    trivial,
    Cert.GlaClaim.algebraic,
    trivial,
    Cert.MixClaim.algebraic,
    trivial,
    Cert.ProjClaim.algebraic,
    trivial,
    Cert.MixSampleClaim.algebraic,
    trivial,
    Cert.ProjSampleClaim.algebraic,
    trivial,
    Cert.GlaPromptClaim.algebraic⟩

end Cert.Proof

end
